-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dt_nonneg [hPre_dt_nonneg : Cert.Pre_dt_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_dt_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dt_nonneg [hPre_dt_nonneg : Cert.Pre_dt_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dt_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Xbc (m : (ℓ : Loc Cert.Xbc.nD Cert.Xbc.τ Cert.Xbc.sig) → Buf (Elt Bits) ℓ) : Prop :=
  True

def Pre_XbcIdeal (m : (ℓ : Loc Cert.XbcIdeal.nD Cert.XbcIdeal.τ Cert.XbcIdeal.sig) → Buf (Elt Ideal) ℓ) : Prop :=
  True

def Pre_XbcRefIdeal (m : (ℓ : Loc Cert.XbcRefIdeal.nD Cert.XbcRefIdeal.τ Cert.XbcRefIdeal.sig) → Buf (Elt Ideal) ℓ) : Prop :=
  True

def Pre_Z (m : (ℓ : Loc Cert.Z.nD Cert.Z.τ Cert.Z.sig) → Buf (Elt Bits) ℓ) : Prop :=
  True

def Pre_ZIdeal (m : (ℓ : Loc Cert.ZIdeal.nD Cert.ZIdeal.τ Cert.ZIdeal.sig) → Buf (Elt Ideal) ℓ) : Prop :=
  True

def Pre_ZRefIdeal (m : (ℓ : Loc Cert.ZRefIdeal.nD Cert.ZRefIdeal.τ Cert.ZRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_BOut (m : (ℓ : Loc Cert.BOut.nD Cert.BOut.τ Cert.BOut.sig) → Buf (Elt Bits) ℓ) : Prop :=
  True

def Pre_BOutIdeal (m : (ℓ : Loc Cert.BOutIdeal.nD Cert.BOutIdeal.τ Cert.BOutIdeal.sig) → Buf (Elt Ideal) ℓ) : Prop :=
  True

def Pre_BOutRefIdeal (m : (ℓ : Loc Cert.BOutRefIdeal.nD Cert.BOutRefIdeal.τ Cert.BOutRefIdeal.sig) → Buf (Elt Ideal) ℓ) : Prop :=
  True

def Pre_AOut (m : (ℓ : Loc Cert.AOut.nD Cert.AOut.τ Cert.AOut.sig) → Buf (Elt Bits) ℓ) : Prop :=
  True

def Pre_AOutIdeal (m : (ℓ : Loc Cert.AOutIdeal.nD Cert.AOutIdeal.τ Cert.AOutIdeal.sig) → Buf (Elt Ideal) ℓ) : Prop :=
  True

def Pre_AOutRefIdeal (m : (ℓ : Loc Cert.AOutRefIdeal.nD Cert.AOutRefIdeal.τ Cert.AOutRefIdeal.sig) → Buf (Elt Ideal) ℓ) : Prop :=
  True

def Pre_O (m : (ℓ : Loc Cert.O.nD Cert.O.τ Cert.O.sig) → Buf (Elt Bits) ℓ) : Prop :=
  True

def Pre_OIdeal (m : (ℓ : Loc Cert.OIdeal.nD Cert.OIdeal.τ Cert.OIdeal.sig) → Buf (Elt Ideal) ℓ) : Prop :=
  True

def Pre_ORefIdeal (m : (ℓ : Loc Cert.ORefIdeal.nD Cert.ORefIdeal.τ Cert.ORefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_dt_nonneg [hKernelIdeal : Cert.KernelIdeal.Facts] [hPre_dt_nonneg : Cert.Pre_dt_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dt_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_dt_nonneg [hReferenceIdeal : Cert.ReferenceIdeal.Facts] [hPre_dt_nonneg : Cert.Pre_dt_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dt_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Xbc [hXbc : Cert.Xbc.Facts] : Prop :=
  ∀ (m : (ℓ : Loc Cert.Xbc.nD Cert.Xbc.τ Cert.Xbc.sig) → Buf (Elt Bits) ℓ) (g : Dev Cert.Xbc.nD → PrngReg), Pre_Xbc m →
    θ_run (Cert.Xbc.defs (F := Bits)) (onTc (τ := Cert.Xbc.τ) (Cert.Xbc.main (F := Bits))) ⟨m, fun _ => 0, g⟩ (fun r => (∀ c : Dev Cert.Xbc.nD,
      r.2.mem ((c.tc : Thread Cert.Xbc.nD Cert.Xbc.τ).loc Cert.Xbc.main_arg0) = m ((c.tc : Thread Cert.Xbc.nD Cert.Xbc.τ).loc Cert.Xbc.main_arg0)
      ∧ r.2.mem ((c.tc : Thread Cert.Xbc.nD Cert.Xbc.τ).loc Cert.Xbc.main_arg1) = m ((c.tc : Thread Cert.Xbc.nD Cert.Xbc.τ).loc Cert.Xbc.main_arg1))
      ∧ r.2.sem = fun _ => 0)

def quiescent_XbcIdeal [hXbcIdeal : Cert.XbcIdeal.Facts] : Prop :=
  ∀ (m : (ℓ : Loc Cert.XbcIdeal.nD Cert.XbcIdeal.τ Cert.XbcIdeal.sig) → Buf (Elt Ideal) ℓ) (g : Dev Cert.XbcIdeal.nD → PrngReg), Pre_XbcIdeal m →
    θ_run (Cert.XbcIdeal.defs (F := Ideal)) (onTc (τ := Cert.XbcIdeal.τ) (Cert.XbcIdeal.main (F := Ideal))) ⟨m, fun _ => 0, g⟩ (fun r => (∀ c : Dev Cert.XbcIdeal.nD,
      r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
      ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1))
      ∧ r.2.sem = fun _ => 0)

def quiescent_XbcRefIdeal [hXbcRefIdeal : Cert.XbcRefIdeal.Facts] : Prop :=
  ∀ (m : (ℓ : Loc Cert.XbcRefIdeal.nD Cert.XbcRefIdeal.τ Cert.XbcRefIdeal.sig) → Buf (Elt Ideal) ℓ) (g : Dev Cert.XbcRefIdeal.nD → PrngReg), Pre_XbcRefIdeal m →
    θ_run (Cert.XbcRefIdeal.defs (F := Ideal)) (onTc (τ := Cert.XbcRefIdeal.τ) (Cert.XbcRefIdeal.main (F := Ideal))) ⟨m, fun _ => 0, g⟩ (fun r => (∀ c : Dev Cert.XbcRefIdeal.nD,
      r.2.mem ((c.tc : Thread Cert.XbcRefIdeal.nD Cert.XbcRefIdeal.τ).loc Cert.XbcRefIdeal.main_arg0) = m ((c.tc : Thread Cert.XbcRefIdeal.nD Cert.XbcRefIdeal.τ).loc Cert.XbcRefIdeal.main_arg0)
      ∧ r.2.mem ((c.tc : Thread Cert.XbcRefIdeal.nD Cert.XbcRefIdeal.τ).loc Cert.XbcRefIdeal.main_arg1) = m ((c.tc : Thread Cert.XbcRefIdeal.nD Cert.XbcRefIdeal.τ).loc Cert.XbcRefIdeal.main_arg1))
      ∧ r.2.sem = fun _ => 0)

def quiescent_Z [hZ : Cert.Z.Facts] : Prop :=
  ∀ (m : (ℓ : Loc Cert.Z.nD Cert.Z.τ Cert.Z.sig) → Buf (Elt Bits) ℓ) (g : Dev Cert.Z.nD → PrngReg), Pre_Z m →
    θ_run (Cert.Z.defs (F := Bits)) (onTc (τ := Cert.Z.τ) (Cert.Z.main (F := Bits))) ⟨m, fun _ => 0, g⟩ (fun r => (∀ c : Dev Cert.Z.nD,
      r.2.mem ((c.tc : Thread Cert.Z.nD Cert.Z.τ).loc Cert.Z.main_arg0) = m ((c.tc : Thread Cert.Z.nD Cert.Z.τ).loc Cert.Z.main_arg0)
      ∧ r.2.mem ((c.tc : Thread Cert.Z.nD Cert.Z.τ).loc Cert.Z.main_arg1) = m ((c.tc : Thread Cert.Z.nD Cert.Z.τ).loc Cert.Z.main_arg1))
      ∧ r.2.sem = fun _ => 0)

def quiescent_ZIdeal [hZIdeal : Cert.ZIdeal.Facts] : Prop :=
  ∀ (m : (ℓ : Loc Cert.ZIdeal.nD Cert.ZIdeal.τ Cert.ZIdeal.sig) → Buf (Elt Ideal) ℓ) (g : Dev Cert.ZIdeal.nD → PrngReg), Pre_ZIdeal m →
    θ_run (Cert.ZIdeal.defs (F := Ideal)) (onTc (τ := Cert.ZIdeal.τ) (Cert.ZIdeal.main (F := Ideal))) ⟨m, fun _ => 0, g⟩ (fun r => (∀ c : Dev Cert.ZIdeal.nD,
      r.2.mem ((c.tc : Thread Cert.ZIdeal.nD Cert.ZIdeal.τ).loc Cert.ZIdeal.main_arg0) = m ((c.tc : Thread Cert.ZIdeal.nD Cert.ZIdeal.τ).loc Cert.ZIdeal.main_arg0)
      ∧ r.2.mem ((c.tc : Thread Cert.ZIdeal.nD Cert.ZIdeal.τ).loc Cert.ZIdeal.main_arg1) = m ((c.tc : Thread Cert.ZIdeal.nD Cert.ZIdeal.τ).loc Cert.ZIdeal.main_arg1))
      ∧ r.2.sem = fun _ => 0)

def quiescent_ZRefIdeal [hZRefIdeal : Cert.ZRefIdeal.Facts] : Prop :=
  ∀ (m : (ℓ : Loc Cert.ZRefIdeal.nD Cert.ZRefIdeal.τ Cert.ZRefIdeal.sig) → Buf (Elt Ideal) ℓ) (g : Dev Cert.ZRefIdeal.nD → PrngReg), Pre_ZRefIdeal m →
    θ_run (Cert.ZRefIdeal.defs (F := Ideal)) (onTc (τ := Cert.ZRefIdeal.τ) (Cert.ZRefIdeal.main (F := Ideal))) ⟨m, fun _ => 0, g⟩ (fun r => (∀ c : Dev Cert.ZRefIdeal.nD,
      r.2.mem ((c.tc : Thread Cert.ZRefIdeal.nD Cert.ZRefIdeal.τ).loc Cert.ZRefIdeal.main_arg0) = m ((c.tc : Thread Cert.ZRefIdeal.nD Cert.ZRefIdeal.τ).loc Cert.ZRefIdeal.main_arg0)
      ∧ r.2.mem ((c.tc : Thread Cert.ZRefIdeal.nD Cert.ZRefIdeal.τ).loc Cert.ZRefIdeal.main_arg1) = m ((c.tc : Thread Cert.ZRefIdeal.nD Cert.ZRefIdeal.τ).loc Cert.ZRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_BOut [hBOut : Cert.BOut.Facts] : Prop :=
  ∀ (m : (ℓ : Loc Cert.BOut.nD Cert.BOut.τ Cert.BOut.sig) → Buf (Elt Bits) ℓ) (g : Dev Cert.BOut.nD → PrngReg), Pre_BOut m →
    θ_run (Cert.BOut.defs (F := Bits)) (onTc (τ := Cert.BOut.τ) (Cert.BOut.main (F := Bits))) ⟨m, fun _ => 0, g⟩ (fun r => (∀ c : Dev Cert.BOut.nD,
      r.2.mem ((c.tc : Thread Cert.BOut.nD Cert.BOut.τ).loc Cert.BOut.main_arg0) = m ((c.tc : Thread Cert.BOut.nD Cert.BOut.τ).loc Cert.BOut.main_arg0)
      ∧ r.2.mem ((c.tc : Thread Cert.BOut.nD Cert.BOut.τ).loc Cert.BOut.main_arg1) = m ((c.tc : Thread Cert.BOut.nD Cert.BOut.τ).loc Cert.BOut.main_arg1)
      ∧ r.2.mem ((c.tc : Thread Cert.BOut.nD Cert.BOut.τ).loc Cert.BOut.main_arg2) = m ((c.tc : Thread Cert.BOut.nD Cert.BOut.τ).loc Cert.BOut.main_arg2)
      ∧ r.2.mem ((c.tc : Thread Cert.BOut.nD Cert.BOut.τ).loc Cert.BOut.main_arg3) = m ((c.tc : Thread Cert.BOut.nD Cert.BOut.τ).loc Cert.BOut.main_arg3)
      ∧ r.2.mem ((c.tc : Thread Cert.BOut.nD Cert.BOut.τ).loc Cert.BOut.main_arg4) = m ((c.tc : Thread Cert.BOut.nD Cert.BOut.τ).loc Cert.BOut.main_arg4))
      ∧ r.2.sem = fun _ => 0)

def quiescent_BOutIdeal [hBOutIdeal : Cert.BOutIdeal.Facts] : Prop :=
  ∀ (m : (ℓ : Loc Cert.BOutIdeal.nD Cert.BOutIdeal.τ Cert.BOutIdeal.sig) → Buf (Elt Ideal) ℓ) (g : Dev Cert.BOutIdeal.nD → PrngReg), Pre_BOutIdeal m →
    θ_run (Cert.BOutIdeal.defs (F := Ideal)) (onTc (τ := Cert.BOutIdeal.τ) (Cert.BOutIdeal.main (F := Ideal))) ⟨m, fun _ => 0, g⟩ (fun r => (∀ c : Dev Cert.BOutIdeal.nD,
      r.2.mem ((c.tc : Thread Cert.BOutIdeal.nD Cert.BOutIdeal.τ).loc Cert.BOutIdeal.main_arg0) = m ((c.tc : Thread Cert.BOutIdeal.nD Cert.BOutIdeal.τ).loc Cert.BOutIdeal.main_arg0)
      ∧ r.2.mem ((c.tc : Thread Cert.BOutIdeal.nD Cert.BOutIdeal.τ).loc Cert.BOutIdeal.main_arg1) = m ((c.tc : Thread Cert.BOutIdeal.nD Cert.BOutIdeal.τ).loc Cert.BOutIdeal.main_arg1)
      ∧ r.2.mem ((c.tc : Thread Cert.BOutIdeal.nD Cert.BOutIdeal.τ).loc Cert.BOutIdeal.main_arg2) = m ((c.tc : Thread Cert.BOutIdeal.nD Cert.BOutIdeal.τ).loc Cert.BOutIdeal.main_arg2)
      ∧ r.2.mem ((c.tc : Thread Cert.BOutIdeal.nD Cert.BOutIdeal.τ).loc Cert.BOutIdeal.main_arg3) = m ((c.tc : Thread Cert.BOutIdeal.nD Cert.BOutIdeal.τ).loc Cert.BOutIdeal.main_arg3)
      ∧ r.2.mem ((c.tc : Thread Cert.BOutIdeal.nD Cert.BOutIdeal.τ).loc Cert.BOutIdeal.main_arg4) = m ((c.tc : Thread Cert.BOutIdeal.nD Cert.BOutIdeal.τ).loc Cert.BOutIdeal.main_arg4))
      ∧ r.2.sem = fun _ => 0)

def quiescent_BOutRefIdeal [hBOutRefIdeal : Cert.BOutRefIdeal.Facts] : Prop :=
  ∀ (m : (ℓ : Loc Cert.BOutRefIdeal.nD Cert.BOutRefIdeal.τ Cert.BOutRefIdeal.sig) → Buf (Elt Ideal) ℓ) (g : Dev Cert.BOutRefIdeal.nD → PrngReg), Pre_BOutRefIdeal m →
    θ_run (Cert.BOutRefIdeal.defs (F := Ideal)) (onTc (τ := Cert.BOutRefIdeal.τ) (Cert.BOutRefIdeal.main (F := Ideal))) ⟨m, fun _ => 0, g⟩ (fun r => (∀ c : Dev Cert.BOutRefIdeal.nD,
      r.2.mem ((c.tc : Thread Cert.BOutRefIdeal.nD Cert.BOutRefIdeal.τ).loc Cert.BOutRefIdeal.main_arg0) = m ((c.tc : Thread Cert.BOutRefIdeal.nD Cert.BOutRefIdeal.τ).loc Cert.BOutRefIdeal.main_arg0)
      ∧ r.2.mem ((c.tc : Thread Cert.BOutRefIdeal.nD Cert.BOutRefIdeal.τ).loc Cert.BOutRefIdeal.main_arg1) = m ((c.tc : Thread Cert.BOutRefIdeal.nD Cert.BOutRefIdeal.τ).loc Cert.BOutRefIdeal.main_arg1)
      ∧ r.2.mem ((c.tc : Thread Cert.BOutRefIdeal.nD Cert.BOutRefIdeal.τ).loc Cert.BOutRefIdeal.main_arg2) = m ((c.tc : Thread Cert.BOutRefIdeal.nD Cert.BOutRefIdeal.τ).loc Cert.BOutRefIdeal.main_arg2)
      ∧ r.2.mem ((c.tc : Thread Cert.BOutRefIdeal.nD Cert.BOutRefIdeal.τ).loc Cert.BOutRefIdeal.main_arg3) = m ((c.tc : Thread Cert.BOutRefIdeal.nD Cert.BOutRefIdeal.τ).loc Cert.BOutRefIdeal.main_arg3)
      ∧ r.2.mem ((c.tc : Thread Cert.BOutRefIdeal.nD Cert.BOutRefIdeal.τ).loc Cert.BOutRefIdeal.main_arg4) = m ((c.tc : Thread Cert.BOutRefIdeal.nD Cert.BOutRefIdeal.τ).loc Cert.BOutRefIdeal.main_arg4))
      ∧ r.2.sem = fun _ => 0)

def quiescent_AOut [hAOut : Cert.AOut.Facts] : Prop :=
  ∀ (m : (ℓ : Loc Cert.AOut.nD Cert.AOut.τ Cert.AOut.sig) → Buf (Elt Bits) ℓ) (g : Dev Cert.AOut.nD → PrngReg), Pre_AOut m →
    θ_run (Cert.AOut.defs (F := Bits)) (onTc (τ := Cert.AOut.τ) (Cert.AOut.main (F := Bits))) ⟨m, fun _ => 0, g⟩ (fun r => (∀ c : Dev Cert.AOut.nD,
      r.2.mem ((c.tc : Thread Cert.AOut.nD Cert.AOut.τ).loc Cert.AOut.main_arg0) = m ((c.tc : Thread Cert.AOut.nD Cert.AOut.τ).loc Cert.AOut.main_arg0)
      ∧ r.2.mem ((c.tc : Thread Cert.AOut.nD Cert.AOut.τ).loc Cert.AOut.main_arg1) = m ((c.tc : Thread Cert.AOut.nD Cert.AOut.τ).loc Cert.AOut.main_arg1)
      ∧ r.2.mem ((c.tc : Thread Cert.AOut.nD Cert.AOut.τ).loc Cert.AOut.main_arg2) = m ((c.tc : Thread Cert.AOut.nD Cert.AOut.τ).loc Cert.AOut.main_arg2)
      ∧ r.2.mem ((c.tc : Thread Cert.AOut.nD Cert.AOut.τ).loc Cert.AOut.main_arg3) = m ((c.tc : Thread Cert.AOut.nD Cert.AOut.τ).loc Cert.AOut.main_arg3))
      ∧ r.2.sem = fun _ => 0)

def quiescent_AOutIdeal [hAOutIdeal : Cert.AOutIdeal.Facts] : Prop :=
  ∀ (m : (ℓ : Loc Cert.AOutIdeal.nD Cert.AOutIdeal.τ Cert.AOutIdeal.sig) → Buf (Elt Ideal) ℓ) (g : Dev Cert.AOutIdeal.nD → PrngReg), Pre_AOutIdeal m →
    θ_run (Cert.AOutIdeal.defs (F := Ideal)) (onTc (τ := Cert.AOutIdeal.τ) (Cert.AOutIdeal.main (F := Ideal))) ⟨m, fun _ => 0, g⟩ (fun r => (∀ c : Dev Cert.AOutIdeal.nD,
      r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
      ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
      ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2)
      ∧ r.2.mem ((c.tc : Thread Cert.AOutIdeal.nD Cert.AOutIdeal.τ).loc Cert.AOutIdeal.main_arg3) = m ((c.tc : Thread Cert.AOutIdeal.nD Cert.AOutIdeal.τ).loc Cert.AOutIdeal.main_arg3))
      ∧ r.2.sem = fun _ => 0)

def quiescent_AOutRefIdeal [hAOutRefIdeal : Cert.AOutRefIdeal.Facts] : Prop :=
  ∀ (m : (ℓ : Loc Cert.AOutRefIdeal.nD Cert.AOutRefIdeal.τ Cert.AOutRefIdeal.sig) → Buf (Elt Ideal) ℓ) (g : Dev Cert.AOutRefIdeal.nD → PrngReg), Pre_AOutRefIdeal m →
    θ_run (Cert.AOutRefIdeal.defs (F := Ideal)) (onTc (τ := Cert.AOutRefIdeal.τ) (Cert.AOutRefIdeal.main (F := Ideal))) ⟨m, fun _ => 0, g⟩ (fun r => (∀ c : Dev Cert.AOutRefIdeal.nD,
      r.2.mem ((c.tc : Thread Cert.AOutRefIdeal.nD Cert.AOutRefIdeal.τ).loc Cert.AOutRefIdeal.main_arg0) = m ((c.tc : Thread Cert.AOutRefIdeal.nD Cert.AOutRefIdeal.τ).loc Cert.AOutRefIdeal.main_arg0)
      ∧ r.2.mem ((c.tc : Thread Cert.AOutRefIdeal.nD Cert.AOutRefIdeal.τ).loc Cert.AOutRefIdeal.main_arg1) = m ((c.tc : Thread Cert.AOutRefIdeal.nD Cert.AOutRefIdeal.τ).loc Cert.AOutRefIdeal.main_arg1)
      ∧ r.2.mem ((c.tc : Thread Cert.AOutRefIdeal.nD Cert.AOutRefIdeal.τ).loc Cert.AOutRefIdeal.main_arg2) = m ((c.tc : Thread Cert.AOutRefIdeal.nD Cert.AOutRefIdeal.τ).loc Cert.AOutRefIdeal.main_arg2)
      ∧ r.2.mem ((c.tc : Thread Cert.AOutRefIdeal.nD Cert.AOutRefIdeal.τ).loc Cert.AOutRefIdeal.main_arg3) = m ((c.tc : Thread Cert.AOutRefIdeal.nD Cert.AOutRefIdeal.τ).loc Cert.AOutRefIdeal.main_arg3))
      ∧ r.2.sem = fun _ => 0)

def quiescent_O [hO : Cert.O.Facts] : Prop :=
  ∀ (m : (ℓ : Loc Cert.O.nD Cert.O.τ Cert.O.sig) → Buf (Elt Bits) ℓ) (g : Dev Cert.O.nD → PrngReg), Pre_O m →
    θ_run (Cert.O.defs (F := Bits)) (onTc (τ := Cert.O.τ) (Cert.O.main (F := Bits))) ⟨m, fun _ => 0, g⟩ (fun r => (∀ c : Dev Cert.O.nD,
      r.2.mem ((c.tc : Thread Cert.O.nD Cert.O.τ).loc Cert.O.main_arg0) = m ((c.tc : Thread Cert.O.nD Cert.O.τ).loc Cert.O.main_arg0)
      ∧ r.2.mem ((c.tc : Thread Cert.O.nD Cert.O.τ).loc Cert.O.main_arg1) = m ((c.tc : Thread Cert.O.nD Cert.O.τ).loc Cert.O.main_arg1)
      ∧ r.2.mem ((c.tc : Thread Cert.O.nD Cert.O.τ).loc Cert.O.main_arg2) = m ((c.tc : Thread Cert.O.nD Cert.O.τ).loc Cert.O.main_arg2)
      ∧ r.2.mem ((c.tc : Thread Cert.O.nD Cert.O.τ).loc Cert.O.main_arg3) = m ((c.tc : Thread Cert.O.nD Cert.O.τ).loc Cert.O.main_arg3)
      ∧ r.2.mem ((c.tc : Thread Cert.O.nD Cert.O.τ).loc Cert.O.main_arg4) = m ((c.tc : Thread Cert.O.nD Cert.O.τ).loc Cert.O.main_arg4)
      ∧ r.2.mem ((c.tc : Thread Cert.O.nD Cert.O.τ).loc Cert.O.main_arg5) = m ((c.tc : Thread Cert.O.nD Cert.O.τ).loc Cert.O.main_arg5))
      ∧ r.2.sem = fun _ => 0)

def quiescent_OIdeal [hOIdeal : Cert.OIdeal.Facts] : Prop :=
  ∀ (m : (ℓ : Loc Cert.OIdeal.nD Cert.OIdeal.τ Cert.OIdeal.sig) → Buf (Elt Ideal) ℓ) (g : Dev Cert.OIdeal.nD → PrngReg), Pre_OIdeal m →
    θ_run (Cert.OIdeal.defs (F := Ideal)) (onTc (τ := Cert.OIdeal.τ) (Cert.OIdeal.main (F := Ideal))) ⟨m, fun _ => 0, g⟩ (fun r => (∀ c : Dev Cert.OIdeal.nD,
      r.2.mem ((c.tc : Thread Cert.OIdeal.nD Cert.OIdeal.τ).loc Cert.OIdeal.main_arg0) = m ((c.tc : Thread Cert.OIdeal.nD Cert.OIdeal.τ).loc Cert.OIdeal.main_arg0)
      ∧ r.2.mem ((c.tc : Thread Cert.OIdeal.nD Cert.OIdeal.τ).loc Cert.OIdeal.main_arg1) = m ((c.tc : Thread Cert.OIdeal.nD Cert.OIdeal.τ).loc Cert.OIdeal.main_arg1)
      ∧ r.2.mem ((c.tc : Thread Cert.OIdeal.nD Cert.OIdeal.τ).loc Cert.OIdeal.main_arg2) = m ((c.tc : Thread Cert.OIdeal.nD Cert.OIdeal.τ).loc Cert.OIdeal.main_arg2)
      ∧ r.2.mem ((c.tc : Thread Cert.OIdeal.nD Cert.OIdeal.τ).loc Cert.OIdeal.main_arg3) = m ((c.tc : Thread Cert.OIdeal.nD Cert.OIdeal.τ).loc Cert.OIdeal.main_arg3)
      ∧ r.2.mem ((c.tc : Thread Cert.OIdeal.nD Cert.OIdeal.τ).loc Cert.OIdeal.main_arg4) = m ((c.tc : Thread Cert.OIdeal.nD Cert.OIdeal.τ).loc Cert.OIdeal.main_arg4)
      ∧ r.2.mem ((c.tc : Thread Cert.OIdeal.nD Cert.OIdeal.τ).loc Cert.OIdeal.main_arg5) = m ((c.tc : Thread Cert.OIdeal.nD Cert.OIdeal.τ).loc Cert.OIdeal.main_arg5))
      ∧ r.2.sem = fun _ => 0)

def quiescent_ORefIdeal [hORefIdeal : Cert.ORefIdeal.Facts] : Prop :=
  ∀ (m : (ℓ : Loc Cert.ORefIdeal.nD Cert.ORefIdeal.τ Cert.ORefIdeal.sig) → Buf (Elt Ideal) ℓ) (g : Dev Cert.ORefIdeal.nD → PrngReg), Pre_ORefIdeal m →
    θ_run (Cert.ORefIdeal.defs (F := Ideal)) (onTc (τ := Cert.ORefIdeal.τ) (Cert.ORefIdeal.main (F := Ideal))) ⟨m, fun _ => 0, g⟩ (fun r => (∀ c : Dev Cert.ORefIdeal.nD,
      r.2.mem ((c.tc : Thread Cert.ORefIdeal.nD Cert.ORefIdeal.τ).loc Cert.ORefIdeal.main_arg0) = m ((c.tc : Thread Cert.ORefIdeal.nD Cert.ORefIdeal.τ).loc Cert.ORefIdeal.main_arg0)
      ∧ r.2.mem ((c.tc : Thread Cert.ORefIdeal.nD Cert.ORefIdeal.τ).loc Cert.ORefIdeal.main_arg1) = m ((c.tc : Thread Cert.ORefIdeal.nD Cert.ORefIdeal.τ).loc Cert.ORefIdeal.main_arg1)
      ∧ r.2.mem ((c.tc : Thread Cert.ORefIdeal.nD Cert.ORefIdeal.τ).loc Cert.ORefIdeal.main_arg2) = m ((c.tc : Thread Cert.ORefIdeal.nD Cert.ORefIdeal.τ).loc Cert.ORefIdeal.main_arg2)
      ∧ r.2.mem ((c.tc : Thread Cert.ORefIdeal.nD Cert.ORefIdeal.τ).loc Cert.ORefIdeal.main_arg3) = m ((c.tc : Thread Cert.ORefIdeal.nD Cert.ORefIdeal.τ).loc Cert.ORefIdeal.main_arg3)
      ∧ r.2.mem ((c.tc : Thread Cert.ORefIdeal.nD Cert.ORefIdeal.τ).loc Cert.ORefIdeal.main_arg4) = m ((c.tc : Thread Cert.ORefIdeal.nD Cert.ORefIdeal.τ).loc Cert.ORefIdeal.main_arg4)
      ∧ r.2.mem ((c.tc : Thread Cert.ORefIdeal.nD Cert.ORefIdeal.τ).loc Cert.ORefIdeal.main_arg5) = m ((c.tc : Thread Cert.ORefIdeal.nD Cert.ORefIdeal.τ).loc Cert.ORefIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_dt_nonneg [hKernelIdeal : Cert.KernelIdeal.Facts] [hReferenceIdeal : Cert.ReferenceIdeal.Facts] [hPre_dt_nonneg : Cert.Pre_dt_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dt_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v1)) (v1 : (c : Dev Cert.GluIdeal.nD) → Buf (Elt Ideal) ((c.tc : Thread Cert.GluIdeal.nD Cert.GluIdeal.τ).loc Cert.GluIdeal.main_v4)) (v2 : (c : Dev Cert.GluIdeal.nD) → Buf (Elt Ideal) ((c.tc : Thread Cert.GluIdeal.nD Cert.GluIdeal.τ).loc Cert.GluIdeal.main_v38)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_v4) = v1 c
          ∧ r.2.mem ((c.tc : Thread Cert.GluIdeal.nD Cert.GluIdeal.τ).loc Cert.GluIdeal.main_v38) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v12) = v0 c
          ∧ r.2.mem ((c.tc : Thread Cert.GluRefIdeal.nD Cert.GluRefIdeal.τ).loc Cert.GluRefIdeal.main_v14) = v1 c
          ∧ r.2.mem ((c.tc : Thread Cert.GluRefIdeal.nD Cert.GluRefIdeal.τ).loc Cert.GluRefIdeal.main_v17) = v2 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Xbc_XbcIdeal : Prop :=
  True

def algebraic_XbcIdeal_XbcRefIdeal [hXbcIdeal : Cert.XbcIdeal.Facts] [hXbcRefIdeal : Cert.XbcRefIdeal.Facts] : Prop :=
  ∀ (m : (ℓ : Loc Cert.XbcIdeal.nD Cert.XbcIdeal.τ Cert.XbcIdeal.sig) → Buf (Elt Ideal) ℓ) (g : Dev Cert.XbcIdeal.nD → PrngReg)
    (m' : (ℓ : Loc Cert.XbcRefIdeal.nD Cert.XbcRefIdeal.τ Cert.XbcRefIdeal.sig) → Buf (Elt Ideal) ℓ) (g' : Dev Cert.XbcRefIdeal.nD → PrngReg), Pre_XbcIdeal m →
    (∀ c : Dev Cert.XbcIdeal.nD,
      m' ((c.tc : Thread Cert.XbcRefIdeal.nD Cert.XbcRefIdeal.τ).loc Cert.XbcRefIdeal.main_arg0) = m ((c.tc : Thread Cert.XbcIdeal.nD Cert.XbcIdeal.τ).loc Cert.XbcIdeal.main_arg0)
      ∧ m' ((c.tc : Thread Cert.XbcRefIdeal.nD Cert.XbcRefIdeal.τ).loc Cert.XbcRefIdeal.main_arg1) = m ((c.tc : Thread Cert.XbcIdeal.nD Cert.XbcIdeal.τ).loc Cert.XbcIdeal.main_arg1)) →
    ∃ (v0 : (c : Dev Cert.XbcIdeal.nD) → Buf (Elt Ideal) ((c.tc : Thread Cert.XbcIdeal.nD Cert.XbcIdeal.τ).loc Cert.XbcIdeal.main_v1)) (v1 : (c : Dev Cert.XbcIdeal.nD) → Buf (Elt Ideal) ((c.tc : Thread Cert.XbcIdeal.nD Cert.XbcIdeal.τ).loc Cert.XbcIdeal.main_v4)) (v2 : (c : Dev Cert.XbcIdeal.nD) → Buf (Elt Ideal) ((c.tc : Thread Cert.XbcIdeal.nD Cert.XbcIdeal.τ).loc Cert.XbcIdeal.main_v38)),
      θ_run (Cert.XbcIdeal.defs (F := Ideal)) (onTc (τ := Cert.XbcIdeal.τ) (Cert.XbcIdeal.main (F := Ideal))) ⟨m, fun _ => 0, g⟩ (fun r => ∀ c : Dev Cert.XbcIdeal.nD,
          r.2.mem ((c.tc : Thread Cert.XbcIdeal.nD Cert.XbcIdeal.τ).loc Cert.XbcIdeal.main_v1) = v0 c
          ∧ r.2.mem ((c.tc : Thread Cert.XbcIdeal.nD Cert.XbcIdeal.τ).loc Cert.XbcIdeal.main_v4) = v1 c
          ∧ r.2.mem ((c.tc : Thread Cert.XbcIdeal.nD Cert.XbcIdeal.τ).loc Cert.XbcIdeal.main_v38) = v2 c
          ∧ r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
          ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1))
      ∧ θ_run (Cert.XbcRefIdeal.defs (F := Ideal)) (onTc (τ := Cert.XbcRefIdeal.τ) (Cert.XbcRefIdeal.main (F := Ideal))) ⟨m', fun _ => 0, g'⟩ (fun r => ∀ c : Dev Cert.XbcRefIdeal.nD,
          r.2.mem ((c.tc : Thread Cert.XbcRefIdeal.nD Cert.XbcRefIdeal.τ).loc Cert.XbcRefIdeal.main_v3) = v0 c
          ∧ r.2.mem ((c.tc : Thread Cert.XbcRefIdeal.nD Cert.XbcRefIdeal.τ).loc Cert.XbcRefIdeal.main_v5) = v1 c
          ∧ r.2.mem ((c.tc : Thread Cert.XbcRefIdeal.nD Cert.XbcRefIdeal.τ).loc Cert.XbcRefIdeal.main_v8) = v2 c
          ∧ r.2.mem ((c.tc : Thread Cert.XbcRefIdeal.nD Cert.XbcRefIdeal.τ).loc Cert.XbcRefIdeal.main_arg0) = m' ((c.tc : Thread Cert.XbcRefIdeal.nD Cert.XbcRefIdeal.τ).loc Cert.XbcRefIdeal.main_arg0)
          ∧ r.2.mem ((c.tc : Thread Cert.XbcRefIdeal.nD Cert.XbcRefIdeal.τ).loc Cert.XbcRefIdeal.main_arg1) = m' ((c.tc : Thread Cert.XbcRefIdeal.nD Cert.XbcRefIdeal.τ).loc Cert.XbcRefIdeal.main_arg1))

def preserves_Z_ZIdeal : Prop :=
  True

def algebraic_ZIdeal_ZRefIdeal [hZIdeal : Cert.ZIdeal.Facts] [hZRefIdeal : Cert.ZRefIdeal.Facts] : Prop :=
  ∀ (m : (ℓ : Loc Cert.ZIdeal.nD Cert.ZIdeal.τ Cert.ZIdeal.sig) → Buf (Elt Ideal) ℓ) (g : Dev Cert.ZIdeal.nD → PrngReg)
    (m' : (ℓ : Loc Cert.ZRefIdeal.nD Cert.ZRefIdeal.τ Cert.ZRefIdeal.sig) → Buf (Elt Ideal) ℓ) (g' : Dev Cert.ZRefIdeal.nD → PrngReg), Pre_ZIdeal m →
    (∀ c : Dev Cert.ZIdeal.nD,
      m' ((c.tc : Thread Cert.ZRefIdeal.nD Cert.ZRefIdeal.τ).loc Cert.ZRefIdeal.main_arg0) = m ((c.tc : Thread Cert.ZIdeal.nD Cert.ZIdeal.τ).loc Cert.ZIdeal.main_arg0)
      ∧ m' ((c.tc : Thread Cert.ZRefIdeal.nD Cert.ZRefIdeal.τ).loc Cert.ZRefIdeal.main_arg1) = m ((c.tc : Thread Cert.ZIdeal.nD Cert.ZIdeal.τ).loc Cert.ZIdeal.main_arg1)) →
    ∃ (v0 : (c : Dev Cert.ZIdeal.nD) → Buf (Elt Ideal) ((c.tc : Thread Cert.ZIdeal.nD Cert.ZIdeal.τ).loc Cert.ZIdeal.main_v1)),
      θ_run (Cert.ZIdeal.defs (F := Ideal)) (onTc (τ := Cert.ZIdeal.τ) (Cert.ZIdeal.main (F := Ideal))) ⟨m, fun _ => 0, g⟩ (fun r => ∀ c : Dev Cert.ZIdeal.nD,
          r.2.mem ((c.tc : Thread Cert.ZIdeal.nD Cert.ZIdeal.τ).loc Cert.ZIdeal.main_v1) = v0 c
          ∧ r.2.mem ((c.tc : Thread Cert.ZIdeal.nD Cert.ZIdeal.τ).loc Cert.ZIdeal.main_arg0) = m ((c.tc : Thread Cert.ZIdeal.nD Cert.ZIdeal.τ).loc Cert.ZIdeal.main_arg0)
          ∧ r.2.mem ((c.tc : Thread Cert.ZIdeal.nD Cert.ZIdeal.τ).loc Cert.ZIdeal.main_arg1) = m ((c.tc : Thread Cert.ZIdeal.nD Cert.ZIdeal.τ).loc Cert.ZIdeal.main_arg1))
      ∧ θ_run (Cert.ZRefIdeal.defs (F := Ideal)) (onTc (τ := Cert.ZRefIdeal.τ) (Cert.ZRefIdeal.main (F := Ideal))) ⟨m', fun _ => 0, g'⟩ (fun r => ∀ c : Dev Cert.ZRefIdeal.nD,
          r.2.mem ((c.tc : Thread Cert.ZRefIdeal.nD Cert.ZRefIdeal.τ).loc Cert.ZRefIdeal.main_v4) = v0 c
          ∧ r.2.mem ((c.tc : Thread Cert.ZRefIdeal.nD Cert.ZRefIdeal.τ).loc Cert.ZRefIdeal.main_arg0) = m' ((c.tc : Thread Cert.ZRefIdeal.nD Cert.ZRefIdeal.τ).loc Cert.ZRefIdeal.main_arg0)
          ∧ r.2.mem ((c.tc : Thread Cert.ZRefIdeal.nD Cert.ZRefIdeal.τ).loc Cert.ZRefIdeal.main_arg1) = m' ((c.tc : Thread Cert.ZRefIdeal.nD Cert.ZRefIdeal.τ).loc Cert.ZRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v4)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v4) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v12) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_BOut_BOutIdeal : Prop :=
  True

def algebraic_BOutIdeal_BOutRefIdeal [hBOutIdeal : Cert.BOutIdeal.Facts] [hBOutRefIdeal : Cert.BOutRefIdeal.Facts] : Prop :=
  ∀ (m : (ℓ : Loc Cert.BOutIdeal.nD Cert.BOutIdeal.τ Cert.BOutIdeal.sig) → Buf (Elt Ideal) ℓ) (g : Dev Cert.BOutIdeal.nD → PrngReg)
    (m' : (ℓ : Loc Cert.BOutRefIdeal.nD Cert.BOutRefIdeal.τ Cert.BOutRefIdeal.sig) → Buf (Elt Ideal) ℓ) (g' : Dev Cert.BOutRefIdeal.nD → PrngReg), Pre_BOutIdeal m →
    (∀ c : Dev Cert.BOutIdeal.nD,
      m' ((c.tc : Thread Cert.BOutRefIdeal.nD Cert.BOutRefIdeal.τ).loc Cert.BOutRefIdeal.main_arg0) = m ((c.tc : Thread Cert.BOutIdeal.nD Cert.BOutIdeal.τ).loc Cert.BOutIdeal.main_arg0)
      ∧ m' ((c.tc : Thread Cert.BOutRefIdeal.nD Cert.BOutRefIdeal.τ).loc Cert.BOutRefIdeal.main_arg1) = m ((c.tc : Thread Cert.BOutIdeal.nD Cert.BOutIdeal.τ).loc Cert.BOutIdeal.main_arg1)
      ∧ m' ((c.tc : Thread Cert.BOutRefIdeal.nD Cert.BOutRefIdeal.τ).loc Cert.BOutRefIdeal.main_arg2) = m ((c.tc : Thread Cert.BOutIdeal.nD Cert.BOutIdeal.τ).loc Cert.BOutIdeal.main_arg2)
      ∧ m' ((c.tc : Thread Cert.BOutRefIdeal.nD Cert.BOutRefIdeal.τ).loc Cert.BOutRefIdeal.main_arg3) = m ((c.tc : Thread Cert.BOutIdeal.nD Cert.BOutIdeal.τ).loc Cert.BOutIdeal.main_arg3)
      ∧ m' ((c.tc : Thread Cert.BOutRefIdeal.nD Cert.BOutRefIdeal.τ).loc Cert.BOutRefIdeal.main_arg4) = m ((c.tc : Thread Cert.BOutIdeal.nD Cert.BOutIdeal.τ).loc Cert.BOutIdeal.main_arg4)) →
    ∃ (v0 : (c : Dev Cert.BOutIdeal.nD) → Buf (Elt Ideal) ((c.tc : Thread Cert.BOutIdeal.nD Cert.BOutIdeal.τ).loc Cert.BOutIdeal.main_v1)),
      θ_run (Cert.BOutIdeal.defs (F := Ideal)) (onTc (τ := Cert.BOutIdeal.τ) (Cert.BOutIdeal.main (F := Ideal))) ⟨m, fun _ => 0, g⟩ (fun r => ∀ c : Dev Cert.BOutIdeal.nD,
          r.2.mem ((c.tc : Thread Cert.BOutIdeal.nD Cert.BOutIdeal.τ).loc Cert.BOutIdeal.main_v1) = v0 c
          ∧ r.2.mem ((c.tc : Thread Cert.BOutIdeal.nD Cert.BOutIdeal.τ).loc Cert.BOutIdeal.main_arg0) = m ((c.tc : Thread Cert.BOutIdeal.nD Cert.BOutIdeal.τ).loc Cert.BOutIdeal.main_arg0)
          ∧ r.2.mem ((c.tc : Thread Cert.BOutIdeal.nD Cert.BOutIdeal.τ).loc Cert.BOutIdeal.main_arg1) = m ((c.tc : Thread Cert.BOutIdeal.nD Cert.BOutIdeal.τ).loc Cert.BOutIdeal.main_arg1)
          ∧ r.2.mem ((c.tc : Thread Cert.BOutIdeal.nD Cert.BOutIdeal.τ).loc Cert.BOutIdeal.main_arg2) = m ((c.tc : Thread Cert.BOutIdeal.nD Cert.BOutIdeal.τ).loc Cert.BOutIdeal.main_arg2)
          ∧ r.2.mem ((c.tc : Thread Cert.BOutIdeal.nD Cert.BOutIdeal.τ).loc Cert.BOutIdeal.main_arg3) = m ((c.tc : Thread Cert.BOutIdeal.nD Cert.BOutIdeal.τ).loc Cert.BOutIdeal.main_arg3)
          ∧ r.2.mem ((c.tc : Thread Cert.BOutIdeal.nD Cert.BOutIdeal.τ).loc Cert.BOutIdeal.main_arg4) = m ((c.tc : Thread Cert.BOutIdeal.nD Cert.BOutIdeal.τ).loc Cert.BOutIdeal.main_arg4))
      ∧ θ_run (Cert.BOutRefIdeal.defs (F := Ideal)) (onTc (τ := Cert.BOutRefIdeal.τ) (Cert.BOutRefIdeal.main (F := Ideal))) ⟨m', fun _ => 0, g'⟩ (fun r => ∀ c : Dev Cert.BOutRefIdeal.nD,
          r.2.mem ((c.tc : Thread Cert.BOutRefIdeal.nD Cert.BOutRefIdeal.τ).loc Cert.BOutRefIdeal.main_v8) = v0 c
          ∧ r.2.mem ((c.tc : Thread Cert.BOutRefIdeal.nD Cert.BOutRefIdeal.τ).loc Cert.BOutRefIdeal.main_arg0) = m' ((c.tc : Thread Cert.BOutRefIdeal.nD Cert.BOutRefIdeal.τ).loc Cert.BOutRefIdeal.main_arg0)
          ∧ r.2.mem ((c.tc : Thread Cert.BOutRefIdeal.nD Cert.BOutRefIdeal.τ).loc Cert.BOutRefIdeal.main_arg1) = m' ((c.tc : Thread Cert.BOutRefIdeal.nD Cert.BOutRefIdeal.τ).loc Cert.BOutRefIdeal.main_arg1)
          ∧ r.2.mem ((c.tc : Thread Cert.BOutRefIdeal.nD Cert.BOutRefIdeal.τ).loc Cert.BOutRefIdeal.main_arg2) = m' ((c.tc : Thread Cert.BOutRefIdeal.nD Cert.BOutRefIdeal.τ).loc Cert.BOutRefIdeal.main_arg2)
          ∧ r.2.mem ((c.tc : Thread Cert.BOutRefIdeal.nD Cert.BOutRefIdeal.τ).loc Cert.BOutRefIdeal.main_arg3) = m' ((c.tc : Thread Cert.BOutRefIdeal.nD Cert.BOutRefIdeal.τ).loc Cert.BOutRefIdeal.main_arg3)
          ∧ r.2.mem ((c.tc : Thread Cert.BOutRefIdeal.nD Cert.BOutRefIdeal.τ).loc Cert.BOutRefIdeal.main_arg4) = m' ((c.tc : Thread Cert.BOutRefIdeal.nD Cert.BOutRefIdeal.τ).loc Cert.BOutRefIdeal.main_arg4))

def preserves_AOut_AOutIdeal : Prop :=
  True

def algebraic_AOutIdeal_AOutRefIdeal [hAOutIdeal : Cert.AOutIdeal.Facts] [hAOutRefIdeal : Cert.AOutRefIdeal.Facts] : Prop :=
  ∀ (m : (ℓ : Loc Cert.AOutIdeal.nD Cert.AOutIdeal.τ Cert.AOutIdeal.sig) → Buf (Elt Ideal) ℓ) (g : Dev Cert.AOutIdeal.nD → PrngReg)
    (m' : (ℓ : Loc Cert.AOutRefIdeal.nD Cert.AOutRefIdeal.τ Cert.AOutRefIdeal.sig) → Buf (Elt Ideal) ℓ) (g' : Dev Cert.AOutRefIdeal.nD → PrngReg), Pre_AOutIdeal m →
    (∀ c : Dev Cert.AOutIdeal.nD,
      m' ((c.tc : Thread Cert.AOutRefIdeal.nD Cert.AOutRefIdeal.τ).loc Cert.AOutRefIdeal.main_arg0) = m ((c.tc : Thread Cert.AOutIdeal.nD Cert.AOutIdeal.τ).loc Cert.AOutIdeal.main_arg0)
      ∧ m' ((c.tc : Thread Cert.AOutRefIdeal.nD Cert.AOutRefIdeal.τ).loc Cert.AOutRefIdeal.main_arg1) = m ((c.tc : Thread Cert.AOutIdeal.nD Cert.AOutIdeal.τ).loc Cert.AOutIdeal.main_arg1)
      ∧ m' ((c.tc : Thread Cert.AOutRefIdeal.nD Cert.AOutRefIdeal.τ).loc Cert.AOutRefIdeal.main_arg2) = m ((c.tc : Thread Cert.AOutIdeal.nD Cert.AOutIdeal.τ).loc Cert.AOutIdeal.main_arg2)
      ∧ m' ((c.tc : Thread Cert.AOutRefIdeal.nD Cert.AOutRefIdeal.τ).loc Cert.AOutRefIdeal.main_arg3) = m ((c.tc : Thread Cert.AOutIdeal.nD Cert.AOutIdeal.τ).loc Cert.AOutIdeal.main_arg3)) →
    ∃ (v0 : (c : Dev Cert.AOutIdeal.nD) → Buf (Elt Ideal) ((c.tc : Thread Cert.AOutIdeal.nD Cert.AOutIdeal.τ).loc Cert.AOutIdeal.main_v1)),
      θ_run (Cert.AOutIdeal.defs (F := Ideal)) (onTc (τ := Cert.AOutIdeal.τ) (Cert.AOutIdeal.main (F := Ideal))) ⟨m, fun _ => 0, g⟩ (fun r => ∀ c : Dev Cert.AOutIdeal.nD,
          r.2.mem ((c.tc : Thread Cert.AOutIdeal.nD Cert.AOutIdeal.τ).loc Cert.AOutIdeal.main_v1) = v0 c
          ∧ r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
          ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
          ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2)
          ∧ r.2.mem ((c.tc : Thread Cert.AOutIdeal.nD Cert.AOutIdeal.τ).loc Cert.AOutIdeal.main_arg3) = m ((c.tc : Thread Cert.AOutIdeal.nD Cert.AOutIdeal.τ).loc Cert.AOutIdeal.main_arg3))
      ∧ θ_run (Cert.AOutRefIdeal.defs (F := Ideal)) (onTc (τ := Cert.AOutRefIdeal.τ) (Cert.AOutRefIdeal.main (F := Ideal))) ⟨m', fun _ => 0, g'⟩ (fun r => ∀ c : Dev Cert.AOutRefIdeal.nD,
          r.2.mem ((c.tc : Thread Cert.AOutRefIdeal.nD Cert.AOutRefIdeal.τ).loc Cert.AOutRefIdeal.main_v6) = v0 c
          ∧ r.2.mem ((c.tc : Thread Cert.AOutRefIdeal.nD Cert.AOutRefIdeal.τ).loc Cert.AOutRefIdeal.main_arg0) = m' ((c.tc : Thread Cert.AOutRefIdeal.nD Cert.AOutRefIdeal.τ).loc Cert.AOutRefIdeal.main_arg0)
          ∧ r.2.mem ((c.tc : Thread Cert.AOutRefIdeal.nD Cert.AOutRefIdeal.τ).loc Cert.AOutRefIdeal.main_arg1) = m' ((c.tc : Thread Cert.AOutRefIdeal.nD Cert.AOutRefIdeal.τ).loc Cert.AOutRefIdeal.main_arg1)
          ∧ r.2.mem ((c.tc : Thread Cert.AOutRefIdeal.nD Cert.AOutRefIdeal.τ).loc Cert.AOutRefIdeal.main_arg2) = m' ((c.tc : Thread Cert.AOutRefIdeal.nD Cert.AOutRefIdeal.τ).loc Cert.AOutRefIdeal.main_arg2)
          ∧ r.2.mem ((c.tc : Thread Cert.AOutRefIdeal.nD Cert.AOutRefIdeal.τ).loc Cert.AOutRefIdeal.main_arg3) = m' ((c.tc : Thread Cert.AOutRefIdeal.nD Cert.AOutRefIdeal.τ).loc Cert.AOutRefIdeal.main_arg3))

def preserves_O_OIdeal : Prop :=
  True

def algebraic_OIdeal_ORefIdeal [hOIdeal : Cert.OIdeal.Facts] [hORefIdeal : Cert.ORefIdeal.Facts] : Prop :=
  ∀ (m : (ℓ : Loc Cert.OIdeal.nD Cert.OIdeal.τ Cert.OIdeal.sig) → Buf (Elt Ideal) ℓ) (g : Dev Cert.OIdeal.nD → PrngReg)
    (m' : (ℓ : Loc Cert.ORefIdeal.nD Cert.ORefIdeal.τ Cert.ORefIdeal.sig) → Buf (Elt Ideal) ℓ) (g' : Dev Cert.ORefIdeal.nD → PrngReg), Pre_OIdeal m →
    (∀ c : Dev Cert.OIdeal.nD,
      m' ((c.tc : Thread Cert.ORefIdeal.nD Cert.ORefIdeal.τ).loc Cert.ORefIdeal.main_arg0) = m ((c.tc : Thread Cert.OIdeal.nD Cert.OIdeal.τ).loc Cert.OIdeal.main_arg0)
      ∧ m' ((c.tc : Thread Cert.ORefIdeal.nD Cert.ORefIdeal.τ).loc Cert.ORefIdeal.main_arg1) = m ((c.tc : Thread Cert.OIdeal.nD Cert.OIdeal.τ).loc Cert.OIdeal.main_arg1)
      ∧ m' ((c.tc : Thread Cert.ORefIdeal.nD Cert.ORefIdeal.τ).loc Cert.ORefIdeal.main_arg2) = m ((c.tc : Thread Cert.OIdeal.nD Cert.OIdeal.τ).loc Cert.OIdeal.main_arg2)
      ∧ m' ((c.tc : Thread Cert.ORefIdeal.nD Cert.ORefIdeal.τ).loc Cert.ORefIdeal.main_arg3) = m ((c.tc : Thread Cert.OIdeal.nD Cert.OIdeal.τ).loc Cert.OIdeal.main_arg3)
      ∧ m' ((c.tc : Thread Cert.ORefIdeal.nD Cert.ORefIdeal.τ).loc Cert.ORefIdeal.main_arg4) = m ((c.tc : Thread Cert.OIdeal.nD Cert.OIdeal.τ).loc Cert.OIdeal.main_arg4)
      ∧ m' ((c.tc : Thread Cert.ORefIdeal.nD Cert.ORefIdeal.τ).loc Cert.ORefIdeal.main_arg5) = m ((c.tc : Thread Cert.OIdeal.nD Cert.OIdeal.τ).loc Cert.OIdeal.main_arg5)) →
    ∃ (v0 : (c : Dev Cert.OIdeal.nD) → Buf (Elt Ideal) ((c.tc : Thread Cert.OIdeal.nD Cert.OIdeal.τ).loc Cert.OIdeal.main_v3_0)) (v1 : (c : Dev Cert.OIdeal.nD) → Buf (Elt Ideal) ((c.tc : Thread Cert.OIdeal.nD Cert.OIdeal.τ).loc Cert.OIdeal.main_v3_1)),
      θ_run (Cert.OIdeal.defs (F := Ideal)) (onTc (τ := Cert.OIdeal.τ) (Cert.OIdeal.main (F := Ideal))) ⟨m, fun _ => 0, g⟩ (fun r => ∀ c : Dev Cert.OIdeal.nD,
          r.2.mem ((c.tc : Thread Cert.OIdeal.nD Cert.OIdeal.τ).loc Cert.OIdeal.main_v3_0) = v0 c
          ∧ r.2.mem ((c.tc : Thread Cert.OIdeal.nD Cert.OIdeal.τ).loc Cert.OIdeal.main_v3_1) = v1 c
          ∧ r.2.mem ((c.tc : Thread Cert.OIdeal.nD Cert.OIdeal.τ).loc Cert.OIdeal.main_arg0) = m ((c.tc : Thread Cert.OIdeal.nD Cert.OIdeal.τ).loc Cert.OIdeal.main_arg0)
          ∧ r.2.mem ((c.tc : Thread Cert.OIdeal.nD Cert.OIdeal.τ).loc Cert.OIdeal.main_arg1) = m ((c.tc : Thread Cert.OIdeal.nD Cert.OIdeal.τ).loc Cert.OIdeal.main_arg1)
          ∧ r.2.mem ((c.tc : Thread Cert.OIdeal.nD Cert.OIdeal.τ).loc Cert.OIdeal.main_arg2) = m ((c.tc : Thread Cert.OIdeal.nD Cert.OIdeal.τ).loc Cert.OIdeal.main_arg2)
          ∧ r.2.mem ((c.tc : Thread Cert.OIdeal.nD Cert.OIdeal.τ).loc Cert.OIdeal.main_arg3) = m ((c.tc : Thread Cert.OIdeal.nD Cert.OIdeal.τ).loc Cert.OIdeal.main_arg3)
          ∧ r.2.mem ((c.tc : Thread Cert.OIdeal.nD Cert.OIdeal.τ).loc Cert.OIdeal.main_arg4) = m ((c.tc : Thread Cert.OIdeal.nD Cert.OIdeal.τ).loc Cert.OIdeal.main_arg4)
          ∧ r.2.mem ((c.tc : Thread Cert.OIdeal.nD Cert.OIdeal.τ).loc Cert.OIdeal.main_arg5) = m ((c.tc : Thread Cert.OIdeal.nD Cert.OIdeal.τ).loc Cert.OIdeal.main_arg5))
      ∧ θ_run (Cert.ORefIdeal.defs (F := Ideal)) (onTc (τ := Cert.ORefIdeal.τ) (Cert.ORefIdeal.main (F := Ideal))) ⟨m', fun _ => 0, g'⟩ (fun r => ∀ c : Dev Cert.ORefIdeal.nD,
          r.2.mem ((c.tc : Thread Cert.ORefIdeal.nD Cert.ORefIdeal.τ).loc Cert.ORefIdeal.main_v16) = v0 c
          ∧ r.2.mem ((c.tc : Thread Cert.ORefIdeal.nD Cert.ORefIdeal.τ).loc Cert.ORefIdeal.main_v30) = v1 c
          ∧ r.2.mem ((c.tc : Thread Cert.ORefIdeal.nD Cert.ORefIdeal.τ).loc Cert.ORefIdeal.main_arg0) = m' ((c.tc : Thread Cert.ORefIdeal.nD Cert.ORefIdeal.τ).loc Cert.ORefIdeal.main_arg0)
          ∧ r.2.mem ((c.tc : Thread Cert.ORefIdeal.nD Cert.ORefIdeal.τ).loc Cert.ORefIdeal.main_arg1) = m' ((c.tc : Thread Cert.ORefIdeal.nD Cert.ORefIdeal.τ).loc Cert.ORefIdeal.main_arg1)
          ∧ r.2.mem ((c.tc : Thread Cert.ORefIdeal.nD Cert.ORefIdeal.τ).loc Cert.ORefIdeal.main_arg2) = m' ((c.tc : Thread Cert.ORefIdeal.nD Cert.ORefIdeal.τ).loc Cert.ORefIdeal.main_arg2)
          ∧ r.2.mem ((c.tc : Thread Cert.ORefIdeal.nD Cert.ORefIdeal.τ).loc Cert.ORefIdeal.main_arg3) = m' ((c.tc : Thread Cert.ORefIdeal.nD Cert.ORefIdeal.τ).loc Cert.ORefIdeal.main_arg3)
          ∧ r.2.mem ((c.tc : Thread Cert.ORefIdeal.nD Cert.ORefIdeal.τ).loc Cert.ORefIdeal.main_arg4) = m' ((c.tc : Thread Cert.ORefIdeal.nD Cert.ORefIdeal.τ).loc Cert.ORefIdeal.main_arg4)
          ∧ r.2.mem ((c.tc : Thread Cert.ORefIdeal.nD Cert.ORefIdeal.τ).loc Cert.ORefIdeal.main_arg5) = m' ((c.tc : Thread Cert.ORefIdeal.nD Cert.ORefIdeal.τ).loc Cert.ORefIdeal.main_arg5))

def Claim : Prop :=
  ∃ (hKernel : Cert.Kernel.Facts) (hKernelIdeal : Cert.KernelIdeal.Facts) (hReferenceIdeal : Cert.ReferenceIdeal.Facts) (hGlu : Cert.Glu.Facts) (hGluIdeal : Cert.GluIdeal.Facts) (hGluRefIdeal : Cert.GluRefIdeal.Facts) (hXbc : Cert.Xbc.Facts) (hXbcIdeal : Cert.XbcIdeal.Facts) (hXbcRefIdeal : Cert.XbcRefIdeal.Facts) (hZ : Cert.Z.Facts) (hZIdeal : Cert.ZIdeal.Facts) (hZRefIdeal : Cert.ZRefIdeal.Facts) (hGates : Cert.Gates.Facts) (hGatesIdeal : Cert.GatesIdeal.Facts) (hGatesRefIdeal : Cert.GatesRefIdeal.Facts) (hBOut : Cert.BOut.Facts) (hBOutIdeal : Cert.BOutIdeal.Facts) (hBOutRefIdeal : Cert.BOutRefIdeal.Facts) (hAOut : Cert.AOut.Facts) (hAOutIdeal : Cert.AOutIdeal.Facts) (hAOutRefIdeal : Cert.AOutRefIdeal.Facts) (hO : Cert.O.Facts) (hOIdeal : Cert.OIdeal.Facts) (hORefIdeal : Cert.ORefIdeal.Facts) (hPre_dt_nonneg : Cert.Pre_dt_nonneg.Facts),
    quiescent_Kernel (hKernel := hKernel)
    ∧ quiescent_KernelIdeal (hKernelIdeal := hKernelIdeal)
    ∧ quiescent_KernelIdeal_pre_dt_nonneg (hKernelIdeal := hKernelIdeal) (hPre_dt_nonneg := hPre_dt_nonneg)
    ∧ quiescent_ReferenceIdeal (hReferenceIdeal := hReferenceIdeal)
    ∧ quiescent_ReferenceIdeal_pre_dt_nonneg (hReferenceIdeal := hReferenceIdeal) (hPre_dt_nonneg := hPre_dt_nonneg)
    ∧ quiescent_Glu (hGlu := hGlu)
    ∧ quiescent_GluIdeal (hGluIdeal := hGluIdeal)
    ∧ quiescent_GluRefIdeal (hGluRefIdeal := hGluRefIdeal)
    ∧ quiescent_Xbc (hXbc := hXbc)
    ∧ quiescent_XbcIdeal (hXbcIdeal := hXbcIdeal)
    ∧ quiescent_XbcRefIdeal (hXbcRefIdeal := hXbcRefIdeal)
    ∧ quiescent_Z (hZ := hZ)
    ∧ quiescent_ZIdeal (hZIdeal := hZIdeal)
    ∧ quiescent_ZRefIdeal (hZRefIdeal := hZRefIdeal)
    ∧ quiescent_Gates (hGates := hGates)
    ∧ quiescent_GatesIdeal (hGatesIdeal := hGatesIdeal)
    ∧ quiescent_GatesRefIdeal (hGatesRefIdeal := hGatesRefIdeal)
    ∧ quiescent_BOut (hBOut := hBOut)
    ∧ quiescent_BOutIdeal (hBOutIdeal := hBOutIdeal)
    ∧ quiescent_BOutRefIdeal (hBOutRefIdeal := hBOutRefIdeal)
    ∧ quiescent_AOut (hAOut := hAOut)
    ∧ quiescent_AOutIdeal (hAOutIdeal := hAOutIdeal)
    ∧ quiescent_AOutRefIdeal (hAOutRefIdeal := hAOutRefIdeal)
    ∧ quiescent_O (hO := hO)
    ∧ quiescent_OIdeal (hOIdeal := hOIdeal)
    ∧ quiescent_ORefIdeal (hORefIdeal := hORefIdeal)
    ∧ preserves_Kernel_KernelIdeal
    ∧ algebraic_KernelIdeal_ReferenceIdeal_pre_dt_nonneg (hKernelIdeal := hKernelIdeal) (hReferenceIdeal := hReferenceIdeal) (hPre_dt_nonneg := hPre_dt_nonneg)
    ∧ preserves_Glu_GluIdeal
    ∧ algebraic_GluIdeal_GluRefIdeal (hGluIdeal := hGluIdeal) (hGluRefIdeal := hGluRefIdeal)
    ∧ preserves_Xbc_XbcIdeal
    ∧ algebraic_XbcIdeal_XbcRefIdeal (hXbcIdeal := hXbcIdeal) (hXbcRefIdeal := hXbcRefIdeal)
    ∧ preserves_Z_ZIdeal
    ∧ algebraic_ZIdeal_ZRefIdeal (hZIdeal := hZIdeal) (hZRefIdeal := hZRefIdeal)
    ∧ preserves_Gates_GatesIdeal
    ∧ algebraic_GatesIdeal_GatesRefIdeal (hGatesIdeal := hGatesIdeal) (hGatesRefIdeal := hGatesRefIdeal)
    ∧ preserves_BOut_BOutIdeal
    ∧ algebraic_BOutIdeal_BOutRefIdeal (hBOutIdeal := hBOutIdeal) (hBOutRefIdeal := hBOutRefIdeal)
    ∧ preserves_AOut_AOutIdeal
    ∧ algebraic_AOutIdeal_AOutRefIdeal (hAOutIdeal := hAOutIdeal) (hAOutRefIdeal := hAOutRefIdeal)
    ∧ preserves_O_OIdeal
    ∧ algebraic_OIdeal_ORefIdeal (hOIdeal := hOIdeal) (hORefIdeal := hORefIdeal)
-- ==== Pre_dt_nonneg.lean ====
abbrev S17408x6144 : Shape := ⟨2, ![17408, 6144]⟩
abbrev S17408x4096 : Shape := ⟨2, ![17408, 4096]⟩
abbrev S17408x128 : Shape := ⟨2, ![17408, 128]⟩
abbrev S16x3x6144 : Shape := ⟨3, ![16, 3, 6144]⟩
abbrev S16x64x64x128 : Shape := ⟨4, ![16, 64, 64, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S_ : Shape := ⟨0, ![]⟩

class Facts : Prop where
  bcast_S_S17408x128 : S_.BroadcastsInDim S17408x128 (![] : Fin 0 → Fin S17408x128.rank)
  reducesTo_S17408x128_S_d0_1 : S17408x128.ReducesTo [0, 1] S_
  h_S_ : 0 < S_.numel

variable [Facts]

def fn {F : FTy → Type} [FloatOps F] (main_arg0 : FVec F S17408x6144 .bf16) (main_arg1 : FVec F S17408x4096 .bf16) (main_arg2 : FVec F S17408x128 .f32) (main_arg3 : FVec F S16x3x6144 .f32) (main_arg4 : FVec F S16x64x64x128 .f32) (main_arg5 : FVec F S4x6144 .f32) (main_arg6 : FVec F S6144 .f32) (main_arg7 : FVec F S64 .f32) (main_arg8 : FVec F S64 .f32) (main_arg9 : FVec F S4096 .f32) : IVec S_ 1 :=
  let main_cst : FVec F S_ .f32 := constant S_ .f32 0x00000000#32
  let main_v0 : FVec F S17408x128 .f32 := broadcastInDim S17408x128 ![] bcast_S_S17408x128 main_cst
  let main_v1 : IVec S17408x128 1 := cmpf .oge main_arg2 main_v0
  let main_c : IVec S_ 1 := constantI S_ 1 1#1
  let main_v2 : IVec S_ 1 := (fun x v => Host.reduce IntOp.andi x v reducesTo_S17408x128_S_d0_1 h_S_) main_v1 main_c
  main_v2
-- ==== Kernel.lean ====
abbrev S17408x6144 : Shape := ⟨2, ![17408, 6144]⟩
abbrev S17408x4096 : Shape := ⟨2, ![17408, 4096]⟩
abbrev S17408x128 : Shape := ⟨2, ![17408, 128]⟩
abbrev S16x3x6144 : Shape := ⟨3, ![16, 3, 6144]⟩
abbrev S16x64x64x128 : Shape := ⟨4, ![16, 64, 64, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S_ : Shape := ⟨0, ![]⟩
abbrev S128 : Shape := ⟨1, ![128]⟩
abbrev S1x128 : Shape := ⟨2, ![1, 128]⟩
abbrev S64x64 : Shape := ⟨2, ![64, 64]⟩
abbrev S1x4096 : Shape := ⟨2, ![1, 4096]⟩
abbrev S128x1 : Shape := ⟨2, ![128, 1]⟩
abbrev S128x4096 : Shape := ⟨2, ![128, 4096]⟩
abbrev S16x8x512x128 : Shape := ⟨4, ![16, 8, 512, 128]⟩
abbrev S16x8x128x512 : Shape := ⟨4, ![16, 8, 128, 512]⟩
abbrev S16x8x6144 : Shape := ⟨3, ![16, 8, 6144]⟩
abbrev S1x6144 : Shape := ⟨2, ![1, 6144]⟩
abbrev S1024x4096 : Shape := ⟨2, ![1024, 4096]⟩
abbrev S64x6144 : Shape := ⟨2, ![64, 6144]⟩
abbrev S64x4096 : Shape := ⟨2, ![64, 4096]⟩
abbrev S64x128 : Shape := ⟨2, ![64, 128]⟩
abbrev S1x8x6144 : Shape := ⟨3, ![1, 8, 6144]⟩
abbrev S1x8x128x512 : Shape := ⟨4, ![1, 8, 128, 512]⟩
abbrev S8x6144 : Shape := ⟨2, ![8, 6144]⟩
abbrev S8x64x512 : Shape := ⟨3, ![8, 64, 512]⟩
abbrev S8x128x512 : Shape := ⟨3, ![8, 128, 512]⟩
abbrev S8x8x64 : Shape := ⟨3, ![8, 8, 64]⟩
abbrev S64x512 : Shape := ⟨2, ![64, 512]⟩
abbrev S8x512 : Shape := ⟨2, ![8, 512]⟩
abbrev S72x512 : Shape := ⟨2, ![72, 512]⟩
abbrev S1x512 : Shape := ⟨2, ![1, 512]⟩
abbrev S128x64 : Shape := ⟨2, ![128, 64]⟩
abbrev S8x128 : Shape := ⟨2, ![8, 128]⟩
abbrev S8x4096 : Shape := ⟨2, ![8, 4096]⟩
abbrev S1x8x64 : Shape := ⟨3, ![1, 8, 64]⟩
abbrev S8x64 : Shape := ⟨2, ![8, 64]⟩
abbrev S1x128x128 : Shape := ⟨3, ![1, 128, 128]⟩
abbrev S128x128 : Shape := ⟨2, ![128, 128]⟩
abbrev S1x64 : Shape := ⟨2, ![1, 64]⟩
abbrev S64x384 : Shape := ⟨2, ![64, 384]⟩
abbrev S384x128 : Shape := ⟨2, ![384, 128]⟩
abbrev S1x64x128 : Shape := ⟨3, ![1, 64, 128]⟩
abbrev S64x1 : Shape := ⟨2, ![64, 1]⟩
abbrev S1x64x512 : Shape := ⟨3, ![1, 64, 512]⟩

abbrev nBuf : Space → Nat
  | .hbm => 54
  | .vmem => 27
  | .smem => 0
  | _ => 0

abbrev bufTy : (tb : Table) → Fin (tcTables nBuf tb) → BufTy
  | .hbm, ⟨0, _⟩ => ⟨S17408x6144, .bf16⟩
  | .hbm, ⟨1, _⟩ => ⟨S17408x4096, .bf16⟩
  | .hbm, ⟨2, _⟩ => ⟨S17408x128, .f32⟩
  | .hbm, ⟨3, _⟩ => ⟨S16x3x6144, .f32⟩
  | .hbm, ⟨4, _⟩ => ⟨S16x64x64x128, .f32⟩
  | .hbm, ⟨5, _⟩ => ⟨S4x6144, .f32⟩
  | .hbm, ⟨6, _⟩ => ⟨S6144, .f32⟩
  | .hbm, ⟨7, _⟩ => ⟨S64, .f32⟩
  | .hbm, ⟨8, _⟩ => ⟨S64, .f32⟩
  | .hbm, ⟨9, _⟩ => ⟨S4096, .f32⟩
  | .hbm, ⟨10, _⟩ => ⟨S64, .f32⟩
  | .hbm, ⟨11, _⟩ => ⟨S64, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S64x64, .f32⟩
  | .hbm, ⟨17, _⟩ => ⟨S4096, .f32⟩
  | .hbm, ⟨18, _⟩ => ⟨S1x4096, .f32⟩
  | .hbm, ⟨19, _⟩ => ⟨S128, .i32⟩
  | .hbm, ⟨20, _⟩ => ⟨S128x1, .i32⟩
  | .hbm, ⟨21, _⟩ => ⟨S4096, .i32⟩
  | .hbm, ⟨22, _⟩ => ⟨S1x4096, .i32⟩
  | .hbm, ⟨23, _⟩ => ⟨S_, .i32⟩
  | .hbm, ⟨24, _⟩ => ⟨S_, .i32⟩
  | .hbm, ⟨25, _⟩ => ⟨S1x4096, .i32⟩
  | .hbm, ⟨26, _⟩ => ⟨S1x4096, .i32⟩
  | .hbm, ⟨27, _⟩ => ⟨S1x4096, .i32⟩
  | .hbm, ⟨28, _⟩ => ⟨S_, .i32⟩
  | .hbm, ⟨29, _⟩ => ⟨S1x4096, .i32⟩
  | .hbm, ⟨30, _⟩ => ⟨S1x4096, .i1⟩
  | .hbm, ⟨31, _⟩ => ⟨S1x4096, .i32⟩
  | .hbm, ⟨32, _⟩ => ⟨S1x4096, .i32⟩
  | .hbm, ⟨33, _⟩ => ⟨S_, .i32⟩
  | .hbm, ⟨34, _⟩ => ⟨S1x4096, .i32⟩
  | .hbm, ⟨35, _⟩ => ⟨S1x4096, .i1⟩
  | .hbm, ⟨36, _⟩ => ⟨S1x4096, .i1⟩
  | .hbm, ⟨37, _⟩ => ⟨S_, .i32⟩
  | .hbm, ⟨38, _⟩ => ⟨S1x4096, .i32⟩
  | .hbm, ⟨39, _⟩ => ⟨S1x4096, .i32⟩
  | .hbm, ⟨40, _⟩ => ⟨S1x4096, .i32⟩
  | .hbm, ⟨41, _⟩ => ⟨S128x4096, .i32⟩
  | .hbm, ⟨42, _⟩ => ⟨S128x4096, .i32⟩
  | .hbm, ⟨43, _⟩ => ⟨S128x4096, .i1⟩
  | .hbm, ⟨44, _⟩ => ⟨S128x4096, .bf16⟩
  | .hbm, ⟨45, _⟩ => ⟨S16x8x512x128, .f32⟩
  | .hbm, ⟨46, _⟩ => ⟨S16x8x128x512, .f32⟩
  | .hbm, ⟨47, _⟩ => ⟨S_, .i32⟩
  | .hbm, ⟨48, _⟩ => ⟨S_, .f32⟩
  | .hbm, ⟨49, _⟩ => ⟨S16x8x6144, .f32⟩
  | .hbm, ⟨50, _⟩ => ⟨S1x6144, .f32⟩
  | .hbm, ⟨51, _⟩ => ⟨S1x4096, .f32⟩
  | .hbm, ⟨52, _⟩ => ⟨S1024x4096, .bf16⟩
  | .hbm, ⟨53, _⟩ => ⟨S16x8x128x512, .f32⟩
  | .local _ .vmem, ⟨0, _⟩ => ⟨S64x6144, .bf16⟩
  | .local _ .vmem, ⟨1, _⟩ => ⟨S64x6144, .bf16⟩
  | .local _ .vmem, ⟨2, _⟩ => ⟨S64x4096, .bf16⟩
  | .local _ .vmem, ⟨3, _⟩ => ⟨S64x4096, .bf16⟩
  | .local _ .vmem, ⟨4, _⟩ => ⟨S64x128, .f32⟩
  | .local _ .vmem, ⟨5, _⟩ => ⟨S64x128, .f32⟩
  | .local _ .vmem, ⟨6, _⟩ => ⟨S1x8x6144, .f32⟩
  | .local _ .vmem, ⟨7, _⟩ => ⟨S1x8x6144, .f32⟩
  | .local _ .vmem, ⟨8, _⟩ => ⟨S1x8x128x512, .f32⟩
  | .local _ .vmem, ⟨9, _⟩ => ⟨S1x8x128x512, .f32⟩
  | .local _ .vmem, ⟨10, _⟩ => ⟨S4x6144, .f32⟩
  | .local _ .vmem, ⟨11, _⟩ => ⟨S1x6144, .f32⟩
  | .local _ .vmem, ⟨12, _⟩ => ⟨S1x128, .f32⟩
  | .local _ .vmem, ⟨13, _⟩ => ⟨S1x4096, .f32⟩
  | .local _ .vmem, ⟨14, _⟩ => ⟨S1x4096, .f32⟩
  | .local _ .vmem, ⟨15, _⟩ => ⟨S128x4096, .bf16⟩
  | .local _ .vmem, ⟨16, _⟩ => ⟨S64x4096, .bf16⟩
  | .local _ .vmem, ⟨17, _⟩ => ⟨S64x4096, .bf16⟩
  | .local _ .vmem, ⟨18, _⟩ => ⟨S1x8x128x512, .f32⟩
  | .local _ .vmem, ⟨19, _⟩ => ⟨S1x8x128x512, .f32⟩
  | .local _ .vmem, ⟨20, _⟩ => ⟨S64x6144, .bf16⟩
  | .local _ .vmem, ⟨21, _⟩ => ⟨S8x6144, .f32⟩
  | .local _ .vmem, ⟨22, _⟩ => ⟨S8x64x512, .f32⟩
  | .local _ .vmem, ⟨23, _⟩ => ⟨S8x128x512, .f32⟩
  | .local _ .vmem, ⟨24, _⟩ => ⟨S8x8x64, .f32⟩
  | .local _ .vmem, ⟨25, _⟩ => ⟨S8x8x64, .f32⟩
  | .local _ .vmem, ⟨26, _⟩ => ⟨S8x8x64, .f32⟩
  | _, _ => ⟨S17408x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_1 : Ref sig .tc := ⟨.hbm, 47, rfl⟩
abbrev main_call2_v0 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21_0 : Ref sig .tc := ⟨.hbm, 52, rfl⟩
abbrev main_v21_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_1172 : BitVec 32 := 0#32
  let v3413 : BitVec 1 := Scalar.cmpi .eq arg1 c0_i32_1172
  let v3414 : BitVec 32 := Scalar.extui v3413
  let c0_i32_1173 : BitVec 32 := 0#32
  let v3415 : BitVec 1 := Scalar.cmpi .ne v3414 c0_i32_1173
  v3415

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S64x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S17408x6144 : Shape := ⟨2, ![17408, 6144]⟩
abbrev S17408x4096 : Shape := ⟨2, ![17408, 4096]⟩
abbrev S17408x128 : Shape := ⟨2, ![17408, 128]⟩
abbrev S16x3x6144 : Shape := ⟨3, ![16, 3, 6144]⟩
abbrev S16x64x64x128 : Shape := ⟨4, ![16, 64, 64, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S1024x6144 : Shape := ⟨2, ![1024, 6144]⟩
abbrev S16x64x6144 : Shape := ⟨3, ![16, 64, 6144]⟩
abbrev S16x67x6144 : Shape := ⟨3, ![16, 67, 6144]⟩
abbrev S1x1x6144 : Shape := ⟨3, ![1, 1, 6144]⟩
abbrev S1x6144 : Shape := ⟨2, ![1, 6144]⟩
abbrev S_ : Shape := ⟨0, ![]⟩
abbrev S16x64x4096 : Shape := ⟨3, ![16, 64, 4096]⟩
abbrev S16x64x8x8x64 : Shape := ⟨5, ![16, 64, 8, 8, 64]⟩
abbrev S16x64x1024 : Shape := ⟨3, ![16, 64, 1024]⟩
abbrev S16x64x8x128 : Shape := ⟨4, ![16, 64, 8, 128]⟩
abbrev S1024x64 : Shape := ⟨2, ![1024, 64]⟩
abbrev S16x64x8x8 : Shape := ⟨4, ![16, 64, 8, 8]⟩
abbrev S8x8 : Shape := ⟨2, ![8, 8]⟩
abbrev S1x1x8x8 : Shape := ⟨4, ![1, 1, 8, 8]⟩
abbrev S16x64x1x8x8 : Shape := ⟨5, ![16, 64, 1, 8, 8]⟩
abbrev S16x1x64x8x8 : Shape := ⟨5, ![16, 1, 64, 8, 8]⟩
abbrev S16x64x64x8x8 : Shape := ⟨5, ![16, 64, 64, 8, 8]⟩
abbrev S64x64 : Shape := ⟨2, ![64, 64]⟩
abbrev S1x64x64x1x1 : Shape := ⟨5, ![1, 64, 64, 1, 1]⟩
abbrev S16x8x64x64 : Shape := ⟨4, ![16, 8, 64, 64]⟩
abbrev S16x64x64x8 : Shape := ⟨4, ![16, 64, 64, 8]⟩
abbrev S16x64x64x8x1 : Shape := ⟨5, ![16, 64, 64, 8, 1]⟩
abbrev S16x8x8x64x64 : Shape := ⟨5, ![16, 8, 8, 64, 64]⟩
abbrev S16x8x8x64x128 : Shape := ⟨5, ![16, 8, 8, 64, 128]⟩
abbrev S16x64x8x1x128 : Shape := ⟨5, ![16, 64, 8, 1, 128]⟩
abbrev S16x64x8x8x1 : Shape := ⟨5, ![16, 64, 8, 8, 1]⟩
abbrev S16x64x8x8x128 : Shape := ⟨5, ![16, 64, 8, 8, 128]⟩
abbrev S16x1x8x8 : Shape := ⟨4, ![16, 1, 8, 8]⟩
abbrev S16x8x8 : Shape := ⟨3, ![16, 8, 8]⟩
abbrev S16x8x8x1x1 : Shape := ⟨5, ![16, 8, 8, 1, 1]⟩
abbrev S8x8x1 : Shape := ⟨3, ![8, 8, 1]⟩
abbrev S1x1x8x8x1 : Shape := ⟨5, ![1, 1, 8, 8, 1]⟩
abbrev S1024x4096 : Shape := ⟨2, ![1024, 4096]⟩
abbrev S1024 : Shape := ⟨1, ![1024]⟩
abbrev S1024x1 : Shape := ⟨2, ![1024, 1]⟩
abbrev S1x4096 : Shape := ⟨2, ![1, 4096]⟩
abbrev S16x8x512x128 : Shape := ⟨4, ![16, 8, 512, 128]⟩
abbrev S16x8x128x512 : Shape := ⟨4, ![16, 8, 128, 512]⟩

abbrev nBuf : Space → Nat
  | .hbm => 160
  | .vmem => 0
  | .smem => 0
  | _ => 0

abbrev hbmTy0_0 (i : Nat) : BufTy := match i % 128 with
  | 0 => ⟨S17408x6144, .bf16⟩
  | 1 => ⟨S17408x4096, .bf16⟩
  | 2 => ⟨S17408x128, .f32⟩
  | 3 => ⟨S16x3x6144, .f32⟩
  | 4 => ⟨S16x64x64x128, .f32⟩
  | 5 => ⟨S4x6144, .f32⟩
  | 6 => ⟨S6144, .f32⟩
  | 7 => ⟨S64, .f32⟩
  | 8 => ⟨S64, .f32⟩
  | 9 => ⟨S4096, .f32⟩
  | 10 => ⟨S1024x6144, .bf16⟩
  | 11 => ⟨S1024x6144, .f32⟩
  | 12 => ⟨S16x64x6144, .f32⟩
  | 13 => ⟨S16x67x6144, .f32⟩
  | 14 => ⟨S1x1x6144, .f32⟩
  | 15 => ⟨S16x64x6144, .f32⟩
  | 16 => ⟨S1x6144, .f32⟩
  | 17 => ⟨S6144, .f32⟩
  | 18 => ⟨S1x1x6144, .f32⟩
  | 19 => ⟨S16x64x6144, .f32⟩
  | 20 => ⟨S16x64x6144, .f32⟩
  | 21 => ⟨S16x64x6144, .f32⟩
  | 22 => ⟨S1x6144, .f32⟩
  | 23 => ⟨S6144, .f32⟩
  | 24 => ⟨S1x1x6144, .f32⟩
  | 25 => ⟨S16x64x6144, .f32⟩
  | 26 => ⟨S16x64x6144, .f32⟩
  | 27 => ⟨S16x64x6144, .f32⟩
  | 28 => ⟨S16x64x6144, .f32⟩
  | 29 => ⟨S1x6144, .f32⟩
  | 30 => ⟨S6144, .f32⟩
  | 31 => ⟨S1x1x6144, .f32⟩
  | 32 => ⟨S16x64x6144, .f32⟩
  | 33 => ⟨S16x64x6144, .f32⟩
  | 34 => ⟨S16x64x6144, .f32⟩
  | 35 => ⟨S16x64x6144, .f32⟩
  | 36 => ⟨S1x6144, .f32⟩
  | 37 => ⟨S6144, .f32⟩
  | 38 => ⟨S1x1x6144, .f32⟩
  | 39 => ⟨S16x64x6144, .f32⟩
  | 40 => ⟨S16x64x6144, .f32⟩
  | 41 => ⟨S16x64x6144, .f32⟩
  | 42 => ⟨S16x64x6144, .f32⟩
  | 43 => ⟨S16x64x6144, .f32⟩
  | 44 => ⟨S16x64x6144, .f32⟩
  | 45 => ⟨S16x64x6144, .f32⟩
  | 46 => ⟨S_, .f32⟩
  | 47 => ⟨S16x64x6144, .f32⟩
  | 48 => ⟨S16x64x6144, .f32⟩
  | 49 => ⟨S_, .f32⟩
  | 50 => ⟨S16x64x6144, .f32⟩
  | 51 => ⟨S16x64x6144, .f32⟩
  | 52 => ⟨S16x64x6144, .f32⟩
  | 53 => ⟨S16x64x4096, .f32⟩
  | 54 => ⟨S16x64x8x8x64, .f32⟩
  | 55 => ⟨S16x64x1024, .f32⟩
  | 56 => ⟨S16x64x8x128, .f32⟩
  | 57 => ⟨S16x64x1024, .f32⟩
  | 58 => ⟨S16x64x8x128, .f32⟩
  | 59 => ⟨S1024x64, .f32⟩
  | 60 => ⟨S16x64x8x8, .f32⟩
  | 61 => ⟨S64, .f32⟩
  | 62 => ⟨S64, .f32⟩
  | 63 => ⟨S8x8, .f32⟩
  | 64 => ⟨S1x1x8x8, .f32⟩
  | 65 => ⟨S16x64x8x8, .f32⟩
  | 66 => ⟨S16x64x8x8, .f32⟩
  | 67 => ⟨S_, .f32⟩
  | 68 => ⟨S_, .f32⟩
  | 69 => ⟨S16x64x8x8, .f32⟩
  | 70 => ⟨S16x64x1x8x8, .f32⟩
  | 71 => ⟨S16x1x64x8x8, .f32⟩
  | 72 => ⟨S16x64x64x8x8, .f32⟩
  | 73 => ⟨S16x64x64x8x8, .f32⟩
  | 74 => ⟨S16x64x64x8x8, .f32⟩
  | 75 => ⟨S_, .i1⟩
  | 76 => ⟨S64x64, .i1⟩
  | 77 => ⟨S64x64, .i32⟩
  | 78 => ⟨S_, .i32⟩
  | 79 => ⟨S64x64, .i32⟩
  | 80 => ⟨S64x64, .i32⟩
  | 81 => ⟨S64x64, .i32⟩
  | 82 => ⟨S64x64, .i1⟩
  | 83 => ⟨S_, .i1⟩
  | 84 => ⟨S64x64, .i1⟩
  | 85 => ⟨S64x64, .i1⟩
  | 86 => ⟨S1x64x64x1x1, .i1⟩
  | 87 => ⟨S_, .f32⟩
  | 88 => ⟨S_, .f32⟩
  | 89 => ⟨S16x64x64x8x8, .i1⟩
  | 90 => ⟨S16x64x64x8x8, .f32⟩
  | 91 => ⟨S16x64x64x8x8, .f32⟩
  | 92 => ⟨S16x64x64x8x8, .f32⟩
  | 93 => ⟨S16x8x64x64, .f32⟩
  | 94 => ⟨S16x64x64x8, .f32⟩
  | 95 => ⟨S16x64x64x8x1, .f32⟩
  | 96 => ⟨S16x64x64x8x8, .f32⟩
  | 97 => ⟨S16x64x64x8x8, .f32⟩
  | 98 => ⟨S16x1x64x8x8, .f32⟩
  | 99 => ⟨S16x64x64x8x8, .f32⟩
  | 100 => ⟨S16x64x64x8x8, .f32⟩
  | 101 => ⟨S16x8x8x64x64, .f32⟩
  | 102 => ⟨S16x64x8x8x64, .f32⟩
  | 103 => ⟨S16x8x8x64x128, .f32⟩
  | 104 => ⟨S16x64x8x1x128, .f32⟩
  | 105 => ⟨S16x64x8x8, .f32⟩
  | 106 => ⟨S16x64x8x8x1, .f32⟩
  | 107 => ⟨S16x64x8x8x128, .f32⟩
  | 108 => ⟨S16x64x8x8x128, .f32⟩
  | 109 => ⟨S16x64x8x8x128, .f32⟩
  | 110 => ⟨S16x8x8x64x64, .f32⟩
  | 111 => ⟨S16x64x8x8x64, .f32⟩
  | 112 => ⟨S16x64x8x8x64, .f32⟩
  | 113 => ⟨S16x1x8x8, .f32⟩
  | 114 => ⟨S16x8x8, .f32⟩
  | 115 => ⟨S16x1x8x8, .f32⟩
  | 116 => ⟨S16x64x8x8, .f32⟩
  | 117 => ⟨S16x64x8x8, .f32⟩
  | 118 => ⟨S16x64x8x8, .f32⟩
  | 119 => ⟨S16x64x8x8, .f32⟩
  | 120 => ⟨S16x8x8, .f32⟩
  | 121 => ⟨S16x8x8x1x1, .f32⟩
  | 122 => ⟨S16x8x8x64x128, .f32⟩
  | 123 => ⟨S16x8x8x64x128, .f32⟩
  | 124 => ⟨S16x64x8x1x128, .f32⟩
  | 125 => ⟨S16x64x8x8x1, .f32⟩
  | 126 => ⟨S16x64x8x8x128, .f32⟩
  | 127 => ⟨S16x64x8x8x128, .f32⟩
  | _ => ⟨S17408x6144, .bf16⟩

abbrev hbmTy0_1 (i : Nat) : BufTy := match i % 128 with
  | 0 => ⟨S16x64x8x8x128, .f32⟩
  | 1 => ⟨S16x8x8x64x128, .f32⟩
  | 2 => ⟨S16x8x8x64x128, .f32⟩
  | 3 => ⟨S8x8, .f32⟩
  | 4 => ⟨S8x8x1, .f32⟩
  | 5 => ⟨S1x1x8x8x1, .f32⟩
  | 6 => ⟨S16x64x8x8x64, .f32⟩
  | 7 => ⟨S16x64x8x8x64, .f32⟩
  | 8 => ⟨S16x64x8x8x64, .f32⟩
  | 9 => ⟨S1024x4096, .f32⟩
  | 10 => ⟨S1024x4096, .bf16⟩
  | 11 => ⟨S1024x4096, .f32⟩
  | 12 => ⟨S1024x4096, .f32⟩
  | 13 => ⟨S1024x4096, .f32⟩
  | 14 => ⟨S_, .f32⟩
  | 15 => ⟨S1024, .f32⟩
  | 16 => ⟨S1024x1, .f32⟩
  | 17 => ⟨S_, .f32⟩
  | 18 => ⟨S1024x1, .f32⟩
  | 19 => ⟨S1024x1, .f32⟩
  | 20 => ⟨S_, .f32⟩
  | 21 => ⟨S1024x1, .f32⟩
  | 22 => ⟨S1024x1, .f32⟩
  | 23 => ⟨S1024x1, .f32⟩
  | 24 => ⟨S1024x4096, .f32⟩
  | 25 => ⟨S1024x4096, .f32⟩
  | 26 => ⟨S1x4096, .f32⟩
  | 27 => ⟨S1024x4096, .f32⟩
  | 28 => ⟨S1024x4096, .f32⟩
  | 29 => ⟨S1024x4096, .bf16⟩
  | 30 => ⟨S16x8x512x128, .f32⟩
  | 31 => ⟨S16x8x128x512, .f32⟩
  | _ => ⟨S17408x6144, .bf16⟩

abbrev hbmTy (i : Nat) : BufTy := match i / 128 with
  | 0 => hbmTy0_0 i
  | 1 => hbmTy0_1 i
  | _ => ⟨S17408x6144, .bf16⟩

abbrev bufTy : (tb : Table) → Fin (tcTables nBuf tb) → BufTy
  | .hbm, ⟨i, _⟩ => hbmTy i
  | _, _ => ⟨S17408x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_call0_cst : Ref sig .tc := ⟨.hbm, 67, rfl⟩
abbrev main_call1_call0_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c : Ref sig .tc := ⟨.hbm, 75, rfl⟩
abbrev main_v55 : Ref sig .tc := ⟨.hbm, 76, rfl⟩
abbrev main_call2_v0 : Ref sig .tc := ⟨.hbm, 77, rfl⟩
abbrev main_call2_c : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_0 : Ref sig .tc := ⟨.hbm, 83, rfl⟩
abbrev main_call2_v5 : Ref sig .tc := ⟨.hbm, 84, rfl⟩
abbrev main_v56 : Ref sig .tc := ⟨.hbm, 85, rfl⟩
abbrev main_v57 : Ref sig .tc := ⟨.hbm, 86, rfl⟩
abbrev main_cst : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_0 : Ref sig .tc := ⟨.hbm, 142, rfl⟩
abbrev main_v109 : Ref sig .tc := ⟨.hbm, 143, rfl⟩
abbrev main_v110 : Ref sig .tc := ⟨.hbm, 144, rfl⟩
abbrev main_cst_1 : Ref sig .tc := ⟨.hbm, 145, rfl⟩
abbrev main_v111 : Ref sig .tc := ⟨.hbm, 146, rfl⟩
abbrev main_v112 : Ref sig .tc := ⟨.hbm, 147, rfl⟩
abbrev main_cst_2 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩

abbrev nD : Nat := 1
abbrev τ : Topo := Topo.v7x

variable {F : FTy → Type} [FloatOps F]
-- ==== Glu.lean ====
abbrev S17408x2048 : Shape := ⟨2, ![17408, 2048]⟩
abbrev S2048x18496 : Shape := ⟨2, ![2048, 18496]⟩
abbrev S18496x2048 : Shape := ⟨2, ![18496, 2048]⟩
abbrev S1024x2048 : Shape := ⟨2, ![1024, 2048]⟩
abbrev S512x2048 : Shape := ⟨2, ![512, 2048]⟩
abbrev S1024x512 : Shape := ⟨2, ![1024, 512]⟩
abbrev S1024x1024 : Shape := ⟨2, ![1024, 1024]⟩
abbrev S30x2048 : Shape := ⟨2, ![30, 2048]⟩
abbrev S1x30x2048 : Shape := ⟨3, ![1, 30, 2048]⟩
abbrev S16x30x2048 : Shape := ⟨3, ![16, 30, 2048]⟩

abbrev nBuf : Space → Nat
  | .hbm => 41
  | .vmem => 9
  | .smem => 0
  | _ => 0

abbrev bufTy : (tb : Table) → Fin (tcTables nBuf tb) → BufTy
  | .hbm, ⟨0, _⟩ => ⟨S17408x2048, .bf16⟩
  | .hbm, ⟨1, _⟩ => ⟨S2048x18496, .f32⟩
  | .hbm, ⟨2, _⟩ => ⟨S18496x2048, .f32⟩
  | .hbm, ⟨3, _⟩ => ⟨S17408x2048, .bf16⟩
  | .hbm, ⟨4, _⟩ => ⟨S30x2048, .bf16⟩
  | .hbm, ⟨5, _⟩ => ⟨S1x30x2048, .bf16⟩
  | .hbm, ⟨6, _⟩ => ⟨S1x30x2048, .f32⟩
  | .hbm, ⟨7, _⟩ => ⟨S30x2048, .bf16⟩
  | .hbm, ⟨8, _⟩ => ⟨S30x2048, .bf16⟩
  | .hbm, ⟨9, _⟩ => ⟨S30x2048, .bf16⟩
  | .hbm, ⟨10, _⟩ => ⟨S30x2048, .bf16⟩
  | .hbm, ⟨11, _⟩ => ⟨S30x2048, .bf16⟩
  | .hbm, ⟨12, _⟩ => ⟨S30x2048, .bf16⟩
  | .hbm, ⟨13, _⟩ => ⟨S30x2048, .bf16⟩
  | .hbm, ⟨14, _⟩ => ⟨S30x2048, .bf16⟩
  | .hbm, ⟨15, _⟩ => ⟨S30x2048, .bf16⟩
  | .hbm, ⟨16, _⟩ => ⟨S30x2048, .bf16⟩
  | .hbm, ⟨17, _⟩ => ⟨S30x2048, .bf16⟩
  | .hbm, ⟨18, _⟩ => ⟨S30x2048, .bf16⟩
  | .hbm, ⟨19, _⟩ => ⟨S30x2048, .bf16⟩
  | .hbm, ⟨20, _⟩ => ⟨S30x2048, .bf16⟩
  | .hbm, ⟨21, _⟩ => ⟨S30x2048, .bf16⟩
  | .hbm, ⟨22, _⟩ => ⟨S30x2048, .bf16⟩
  | .hbm, ⟨23, _⟩ => ⟨S1x30x2048, .bf16⟩
  | .hbm, ⟨24, _⟩ => ⟨S1x30x2048, .bf16⟩
  | .hbm, ⟨25, _⟩ => ⟨S1x30x2048, .bf16⟩
  | .hbm, ⟨26, _⟩ => ⟨S1x30x2048, .bf16⟩
  | .hbm, ⟨27, _⟩ => ⟨S1x30x2048, .bf16⟩
  | .hbm, ⟨28, _⟩ => ⟨S1x30x2048, .bf16⟩
  | .hbm, ⟨29, _⟩ => ⟨S1x30x2048, .bf16⟩
  | .hbm, ⟨30, _⟩ => ⟨S1x30x2048, .bf16⟩
  | .hbm, ⟨31, _⟩ => ⟨S1x30x2048, .bf16⟩
  | .hbm, ⟨32, _⟩ => ⟨S1x30x2048, .bf16⟩
  | .hbm, ⟨33, _⟩ => ⟨S1x30x2048, .bf16⟩
  | .hbm, ⟨34, _⟩ => ⟨S1x30x2048, .bf16⟩
  | .hbm, ⟨35, _⟩ => ⟨S1x30x2048, .bf16⟩
  | .hbm, ⟨36, _⟩ => ⟨S1x30x2048, .bf16⟩
  | .hbm, ⟨37, _⟩ => ⟨S1x30x2048, .bf16⟩
  | .hbm, ⟨38, _⟩ => ⟨S1x30x2048, .bf16⟩
  | .hbm, ⟨39, _⟩ => ⟨S16x30x2048, .bf16⟩
  | .hbm, ⟨40, _⟩ => ⟨S16x30x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1024x512, .bf16⟩
  | .local _ .vmem, ⟨7, _⟩ => ⟨S1024x512, .bf16⟩
  | .local _ .vmem, ⟨8, _⟩ => ⟨S1024x2048, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluRefIdeal.lean ====
abbrev S17408x2048 : Shape := ⟨2, ![17408, 2048]⟩
abbrev S2048x18496 : Shape := ⟨2, ![2048, 18496]⟩
abbrev S2048x4096 : Shape := ⟨2, ![2048, 4096]⟩
abbrev S17408x4096 : Shape := ⟨2, ![17408, 4096]⟩
abbrev S_ : Shape := ⟨0, ![]⟩
abbrev S30x2048 : Shape := ⟨2, ![30, 2048]⟩
abbrev S1x30x2048 : Shape := ⟨3, ![1, 30, 2048]⟩
abbrev S1024x2048 : Shape := ⟨2, ![1024, 2048]⟩
abbrev S16x64x2048 : Shape := ⟨3, ![16, 64, 2048]⟩
abbrev S16x30x2048 : Shape := ⟨3, ![16, 30, 2048]⟩

abbrev nBuf : Space → Nat
  | .hbm => 22
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x18496, .f32⟩
  | .hbm, ⟨2, _⟩ => ⟨S17408x2048, .f32⟩
  | .hbm, ⟨3, _⟩ => ⟨S2048x4096, .f32⟩
  | .hbm, ⟨4, _⟩ => ⟨S17408x4096, .f32⟩
  | .hbm, ⟨5, _⟩ => ⟨S17408x2048, .f32⟩
  | .hbm, ⟨6, _⟩ => ⟨S17408x2048, .f32⟩
  | .hbm, ⟨7, _⟩ => ⟨S17408x2048, .f32⟩
  | .hbm, ⟨8, _⟩ => ⟨S17408x2048, .f32⟩
  | .hbm, ⟨9, _⟩ => ⟨S_, .f32⟩
  | .hbm, ⟨10, _⟩ => ⟨S17408x2048, .f32⟩
  | .hbm, ⟨11, _⟩ => ⟨S17408x2048, .f32⟩
  | .hbm, ⟨12, _⟩ => ⟨S_, .f32⟩
  | .hbm, ⟨13, _⟩ => ⟨S17408x2048, .f32⟩
  | .hbm, ⟨14, _⟩ => ⟨S17408x2048, .f32⟩
  | .hbm, ⟨15, _⟩ => ⟨S17408x2048, .f32⟩
  | .hbm, ⟨16, _⟩ => ⟨S17408x2048, .bf16⟩
  | .hbm, ⟨17, _⟩ => ⟨S30x2048, .f32⟩
  | .hbm, ⟨18, _⟩ => ⟨S1x30x2048, .f32⟩
  | .hbm, ⟨19, _⟩ => ⟨S1024x2048, .f32⟩
  | .hbm, ⟨20, _⟩ => ⟨S16x64x2048, .f32⟩
  | .hbm, ⟨21, _⟩ => ⟨S16x30x2048, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Xbc.lean ====
abbrev S17408x2048 : Shape := ⟨2, ![17408, 2048]⟩
abbrev S2048x18496 : Shape := ⟨2, ![2048, 18496]⟩
abbrev S18496x2048 : Shape := ⟨2, ![18496, 2048]⟩
abbrev S17408x6144 : Shape := ⟨2, ![17408, 6144]⟩
abbrev S1024x2048 : Shape := ⟨2, ![1024, 2048]⟩
abbrev S1024x1024 : Shape := ⟨2, ![1024, 1024]⟩
abbrev S3x6144 : Shape := ⟨2, ![3, 6144]⟩
abbrev S1x3x6144 : Shape := ⟨3, ![1, 3, 6144]⟩
abbrev S16x3x6144 : Shape := ⟨3, ![16, 3, 6144]⟩

abbrev nBuf : Space → Nat
  | .hbm => 41
  | .vmem => 7
  | .smem => 0
  | _ => 0

abbrev bufTy : (tb : Table) → Fin (tcTables nBuf tb) → BufTy
  | .hbm, ⟨0, _⟩ => ⟨S17408x2048, .bf16⟩
  | .hbm, ⟨1, _⟩ => ⟨S2048x18496, .f32⟩
  | .hbm, ⟨2, _⟩ => ⟨S18496x2048, .f32⟩
  | .hbm, ⟨3, _⟩ => ⟨S17408x6144, .bf16⟩
  | .hbm, ⟨4, _⟩ => ⟨S3x6144, .bf16⟩
  | .hbm, ⟨5, _⟩ => ⟨S1x3x6144, .bf16⟩
  | .hbm, ⟨6, _⟩ => ⟨S1x3x6144, .f32⟩
  | .hbm, ⟨7, _⟩ => ⟨S3x6144, .bf16⟩
  | .hbm, ⟨8, _⟩ => ⟨S3x6144, .bf16⟩
  | .hbm, ⟨9, _⟩ => ⟨S3x6144, .bf16⟩
  | .hbm, ⟨10, _⟩ => ⟨S3x6144, .bf16⟩
  | .hbm, ⟨11, _⟩ => ⟨S3x6144, .bf16⟩
  | .hbm, ⟨12, _⟩ => ⟨S3x6144, .bf16⟩
  | .hbm, ⟨13, _⟩ => ⟨S3x6144, .bf16⟩
  | .hbm, ⟨14, _⟩ => ⟨S3x6144, .bf16⟩
  | .hbm, ⟨15, _⟩ => ⟨S3x6144, .bf16⟩
  | .hbm, ⟨16, _⟩ => ⟨S3x6144, .bf16⟩
  | .hbm, ⟨17, _⟩ => ⟨S3x6144, .bf16⟩
  | .hbm, ⟨18, _⟩ => ⟨S3x6144, .bf16⟩
  | .hbm, ⟨19, _⟩ => ⟨S3x6144, .bf16⟩
  | .hbm, ⟨20, _⟩ => ⟨S3x6144, .bf16⟩
  | .hbm, ⟨21, _⟩ => ⟨S3x6144, .bf16⟩
  | .hbm, ⟨22, _⟩ => ⟨S3x6144, .bf16⟩
  | .hbm, ⟨23, _⟩ => ⟨S1x3x6144, .bf16⟩
  | .hbm, ⟨24, _⟩ => ⟨S1x3x6144, .bf16⟩
  | .hbm, ⟨25, _⟩ => ⟨S1x3x6144, .bf16⟩
  | .hbm, ⟨26, _⟩ => ⟨S1x3x6144, .bf16⟩
  | .hbm, ⟨27, _⟩ => ⟨S1x3x6144, .bf16⟩
  | .hbm, ⟨28, _⟩ => ⟨S1x3x6144, .bf16⟩
  | .hbm, ⟨29, _⟩ => ⟨S1x3x6144, .bf16⟩
  | .hbm, ⟨30, _⟩ => ⟨S1x3x6144, .bf16⟩
  | .hbm, ⟨31, _⟩ => ⟨S1x3x6144, .bf16⟩
  | .hbm, ⟨32, _⟩ => ⟨S1x3x6144, .bf16⟩
  | .hbm, ⟨33, _⟩ => ⟨S1x3x6144, .bf16⟩
  | .hbm, ⟨34, _⟩ => ⟨S1x3x6144, .bf16⟩
  | .hbm, ⟨35, _⟩ => ⟨S1x3x6144, .bf16⟩
  | .hbm, ⟨36, _⟩ => ⟨S1x3x6144, .bf16⟩
  | .hbm, ⟨37, _⟩ => ⟨S1x3x6144, .bf16⟩
  | .hbm, ⟨38, _⟩ => ⟨S1x3x6144, .bf16⟩
  | .hbm, ⟨39, _⟩ => ⟨S16x3x6144, .bf16⟩
  | .hbm, ⟨40, _⟩ => ⟨S16x3x6144, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XbcRefIdeal.lean ====
abbrev S17408x2048 : Shape := ⟨2, ![17408, 2048]⟩
abbrev S2048x18496 : Shape := ⟨2, ![2048, 18496]⟩
abbrev S2048x6144 : Shape := ⟨2, ![2048, 6144]⟩
abbrev S17408x6144 : Shape := ⟨2, ![17408, 6144]⟩
abbrev S3x6144 : Shape := ⟨2, ![3, 6144]⟩
abbrev S1x3x6144 : Shape := ⟨3, ![1, 3, 6144]⟩
abbrev S1024x6144 : Shape := ⟨2, ![1024, 6144]⟩
abbrev S16x64x6144 : Shape := ⟨3, ![16, 64, 6144]⟩
abbrev S16x3x6144 : Shape := ⟨3, ![16, 3, 6144]⟩

abbrev nBuf : Space → Nat
  | .hbm => 11
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x18496, .f32⟩
  | .hbm, ⟨2, _⟩ => ⟨S17408x2048, .f32⟩
  | .hbm, ⟨3, _⟩ => ⟨S2048x6144, .f32⟩
  | .hbm, ⟨4, _⟩ => ⟨S17408x6144, .f32⟩
  | .hbm, ⟨5, _⟩ => ⟨S17408x6144, .bf16⟩
  | .hbm, ⟨6, _⟩ => ⟨S3x6144, .f32⟩
  | .hbm, ⟨7, _⟩ => ⟨S1x3x6144, .f32⟩
  | .hbm, ⟨8, _⟩ => ⟨S1024x6144, .f32⟩
  | .hbm, ⟨9, _⟩ => ⟨S16x64x6144, .f32⟩
  | .hbm, ⟨10, _⟩ => ⟨S16x3x6144, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Z.lean ====
abbrev S17408x2048 : Shape := ⟨2, ![17408, 2048]⟩
abbrev S2048x18496 : Shape := ⟨2, ![2048, 18496]⟩
abbrev S18496x2048 : Shape := ⟨2, ![18496, 2048]⟩
abbrev S17408x4096 : Shape := ⟨2, ![17408, 4096]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S17408x2048, .bf16⟩
  | .hbm, ⟨1, _⟩ => ⟨S2048x18496, .f32⟩
  | .hbm, ⟨2, _⟩ => ⟨S18496x2048, .f32⟩
  | .hbm, ⟨3, _⟩ => ⟨S17408x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZRefIdeal.lean ====
abbrev S17408x2048 : Shape := ⟨2, ![17408, 2048]⟩
abbrev S2048x18496 : Shape := ⟨2, ![2048, 18496]⟩
abbrev S2048x4096 : Shape := ⟨2, ![2048, 4096]⟩
abbrev S17408x4096 : Shape := ⟨2, ![17408, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x18496, .f32⟩
  | .hbm, ⟨2, _⟩ => ⟨S17408x2048, .f32⟩
  | .hbm, ⟨3, _⟩ => ⟨S2048x4096, .f32⟩
  | .hbm, ⟨4, _⟩ => ⟨S17408x4096, .f32⟩
  | .hbm, ⟨5, _⟩ => ⟨S17408x4096, .f32⟩
  | .hbm, ⟨6, _⟩ => ⟨S17408x4096, .f32⟩
  | .hbm, ⟨7, _⟩ => ⟨S_, .f32⟩
  | .hbm, ⟨8, _⟩ => ⟨S17408x4096, .f32⟩
  | .hbm, ⟨9, _⟩ => ⟨S17408x4096, .f32⟩
  | .hbm, ⟨10, _⟩ => ⟨S_, .f32⟩
  | .hbm, ⟨11, _⟩ => ⟨S17408x4096, .f32⟩
  | .hbm, ⟨12, _⟩ => ⟨S17408x4096, .f32⟩
  | .hbm, ⟨13, _⟩ => ⟨S17408x4096, .f32⟩
  | .hbm, ⟨14, _⟩ => ⟨S17408x4096, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== Gates.lean ====
abbrev S17408x2048 : Shape := ⟨2, ![17408, 2048]⟩
abbrev S2048x18496 : Shape := ⟨2, ![2048, 18496]⟩
abbrev S4096 : Shape := ⟨1, ![4096]⟩
abbrev S18496x2048 : Shape := ⟨2, ![18496, 2048]⟩
abbrev S4096x2048 : Shape := ⟨2, ![4096, 2048]⟩
abbrev S1x4096 : Shape := ⟨2, ![1, 4096]⟩
abbrev S17408x4096 : Shape := ⟨2, ![17408, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S17408x2048, .bf16⟩
  | .hbm, ⟨1, _⟩ => ⟨S2048x18496, .f32⟩
  | .hbm, ⟨2, _⟩ => ⟨S4096, .f32⟩
  | .hbm, ⟨3, _⟩ => ⟨S18496x2048, .f32⟩
  | .hbm, ⟨4, _⟩ => ⟨S4096x2048, .f32⟩
  | .hbm, ⟨5, _⟩ => ⟨S4096x2048, .bf16⟩
  | .hbm, ⟨6, _⟩ => ⟨S1x4096, .f32⟩
  | .hbm, ⟨7, _⟩ => ⟨S17408x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesRefIdeal.lean ====
abbrev S17408x2048 : Shape := ⟨2, ![17408, 2048]⟩
abbrev S2048x18496 : Shape := ⟨2, ![2048, 18496]⟩
abbrev S4096 : Shape := ⟨1, ![4096]⟩
abbrev S2048x4096 : Shape := ⟨2, ![2048, 4096]⟩
abbrev S17408x4096 : Shape := ⟨2, ![17408, 4096]⟩
abbrev S1x4096 : Shape := ⟨2, ![1, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x18496, .f32⟩
  | .hbm, ⟨2, _⟩ => ⟨S4096, .f32⟩
  | .hbm, ⟨3, _⟩ => ⟨S17408x2048, .f32⟩
  | .hbm, ⟨4, _⟩ => ⟨S2048x4096, .f32⟩
  | .hbm, ⟨5, _⟩ => ⟨S17408x4096, .f32⟩
  | .hbm, ⟨6, _⟩ => ⟨S1x4096, .f32⟩
  | .hbm, ⟨7, _⟩ => ⟨S17408x4096, .f32⟩
  | .hbm, ⟨8, _⟩ => ⟨S17408x4096, .f32⟩
  | .hbm, ⟨9, _⟩ => ⟨S17408x4096, .f32⟩
  | .hbm, ⟨10, _⟩ => ⟨S17408x4096, .f32⟩
  | .hbm, ⟨11, _⟩ => ⟨S_, .f32⟩
  | .hbm, ⟨12, _⟩ => ⟨S17408x4096, .f32⟩
  | .hbm, ⟨13, _⟩ => ⟨S17408x4096, .f32⟩
  | .hbm, ⟨14, _⟩ => ⟨S_, .f32⟩
  | .hbm, ⟨15, _⟩ => ⟨S17408x4096, .f32⟩
  | .hbm, ⟨16, _⟩ => ⟨S17408x4096, .f32⟩
  | .hbm, ⟨17, _⟩ => ⟨S17408x4096, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== BOut.lean ====
abbrev S16384x4096 : Shape := ⟨2, ![16384, 4096]⟩
abbrev S1024x4096 : Shape := ⟨2, ![1024, 4096]⟩
abbrev S4096x2048 : Shape := ⟨2, ![4096, 2048]⟩
abbrev S17408x4096 : Shape := ⟨2, ![17408, 4096]⟩
abbrev S17408x2048 : Shape := ⟨2, ![17408, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 7
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S4096x2048, .f32⟩
  | .hbm, ⟨3, _⟩ => ⟨S17408x4096, .bf16⟩
  | .hbm, ⟨4, _⟩ => ⟨S17408x2048, .bf16⟩
  | .hbm, ⟨5, _⟩ => ⟨S4096x2048, .bf16⟩
  | .hbm, ⟨6, _⟩ => ⟨S17408x2048, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S4096x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![34, 2], ![false, false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== BOutRefIdeal.lean ====
abbrev S16384x4096 : Shape := ⟨2, ![16384, 4096]⟩
abbrev S1024x4096 : Shape := ⟨2, ![1024, 4096]⟩
abbrev S4096x2048 : Shape := ⟨2, ![4096, 2048]⟩
abbrev S17408x4096 : Shape := ⟨2, ![17408, 4096]⟩
abbrev S17408x2048 : Shape := ⟨2, ![17408, 2048]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S4096x2048, .f32⟩
  | .hbm, ⟨3, _⟩ => ⟨S17408x4096, .bf16⟩
  | .hbm, ⟨4, _⟩ => ⟨S17408x2048, .bf16⟩
  | .hbm, ⟨5, _⟩ => ⟨S17408x4096, .bf16⟩
  | .hbm, ⟨6, _⟩ => ⟨S17408x4096, .f32⟩
  | .hbm, ⟨7, _⟩ => ⟨S17408x2048, .f32⟩
  | .hbm, ⟨8, _⟩ => ⟨S17408x2048, .f32⟩
  | .hbm, ⟨9, _⟩ => ⟨S17408x2048, .bf16⟩
  | .hbm, ⟨10, _⟩ => ⟨S17408x2048, .f32⟩
  | .hbm, ⟨11, _⟩ => ⟨S17408x2048, .f32⟩
  | .hbm, ⟨12, _⟩ => ⟨S17408x2048, .f32⟩
  | .hbm, ⟨13, _⟩ => ⟨S17408x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== AOut.lean ====
abbrev S16384x2048 : Shape := ⟨2, ![16384, 2048]⟩
abbrev S1024x2048 : Shape := ⟨2, ![1024, 2048]⟩
abbrev S2048x2048 : Shape := ⟨2, ![2048, 2048]⟩
abbrev S17408x4096 : Shape := ⟨2, ![17408, 4096]⟩
abbrev S17408x2048 : Shape := ⟨2, ![17408, 2048]⟩
abbrev S2048x1024 : Shape := ⟨2, ![2048, 1024]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S1024x2048, .bf16⟩
  | .hbm, ⟨2, _⟩ => ⟨S2048x2048, .f32⟩
  | .hbm, ⟨3, _⟩ => ⟨S17408x4096, .bf16⟩
  | .hbm, ⟨4, _⟩ => ⟨S2048x2048, .bf16⟩
  | .hbm, ⟨5, _⟩ => ⟨S17408x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 2], ![false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AOutRefIdeal.lean ====
abbrev S16384x2048 : Shape := ⟨2, ![16384, 2048]⟩
abbrev S1024x2048 : Shape := ⟨2, ![1024, 2048]⟩
abbrev S2048x2048 : Shape := ⟨2, ![2048, 2048]⟩
abbrev S17408x4096 : Shape := ⟨2, ![17408, 4096]⟩
abbrev S17408x2048 : Shape := ⟨2, ![17408, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1024x2048, .bf16⟩
  | .hbm, ⟨2, _⟩ => ⟨S2048x2048, .f32⟩
  | .hbm, ⟨3, _⟩ => ⟨S17408x4096, .bf16⟩
  | .hbm, ⟨4, _⟩ => ⟨S17408x2048, .bf16⟩
  | .hbm, ⟨5, _⟩ => ⟨S17408x2048, .f32⟩
  | .hbm, ⟨6, _⟩ => ⟨S17408x2048, .f32⟩
  | .hbm, ⟨7, _⟩ => ⟨S17408x2048, .bf16⟩
  | .hbm, ⟨8, _⟩ => ⟨S17408x2048, .f32⟩
  | .hbm, ⟨9, _⟩ => ⟨S17408x2048, .f32⟩
  | .hbm, ⟨10, _⟩ => ⟨S17408x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== O.lean ====
abbrev S17408x2048 : Shape := ⟨2, ![17408, 2048]⟩
abbrev S2048x2048 : Shape := ⟨2, ![2048, 2048]⟩
abbrev S2048 : Shape := ⟨1, ![2048]⟩
abbrev S16384x2048 : Shape := ⟨2, ![16384, 2048]⟩
abbrev S1024x2048 : Shape := ⟨2, ![1024, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S16384x2048, .f32⟩
  | .hbm, ⟨5, _⟩ => ⟨S1024x2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S17408x2048, .f32⟩
  | .hbm, ⟨10, _⟩ => ⟨S17408x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![34, 1], ![false, false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let v1 : BitVec 32 := Scalar.addi arg1 c0_i32
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let v2 : BitVec 32 := Scalar.addi arg1 c0_i32_0
  let c0_i32_1 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ORefIdeal.lean ====
abbrev S17408x2048 : Shape := ⟨2, ![17408, 2048]⟩
abbrev S2048x2048 : Shape := ⟨2, ![2048, 2048]⟩
abbrev S2048 : Shape := ⟨1, ![2048]⟩
abbrev S16384x2048 : Shape := ⟨2, ![16384, 2048]⟩
abbrev S1024x2048 : Shape := ⟨2, ![1024, 2048]⟩
abbrev S_ : Shape := ⟨0, ![]⟩
abbrev S17408 : Shape := ⟨1, ![17408]⟩
abbrev S17408x1 : Shape := ⟨2, ![17408, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S16384x2048, .f32⟩
  | .hbm, ⟨5, _⟩ => ⟨S1024x2048, .f32⟩
  | .hbm, ⟨6, _⟩ => ⟨S17408x2048, .f32⟩
  | .hbm, ⟨7, _⟩ => ⟨S17408x2048, .f32⟩
  | .hbm, ⟨8, _⟩ => ⟨S17408x2048, .f32⟩
  | .hbm, ⟨9, _⟩ => ⟨S17408x2048, .f32⟩
  | .hbm, ⟨10, _⟩ => ⟨S_, .f32⟩
  | .hbm, ⟨11, _⟩ => ⟨S17408, .f32⟩
  | .hbm, ⟨12, _⟩ => ⟨S17408x1, .f32⟩
  | .hbm, ⟨13, _⟩ => ⟨S_, .f32⟩
  | .hbm, ⟨14, _⟩ => ⟨S17408x1, .f32⟩
  | .hbm, ⟨15, _⟩ => ⟨S17408x1, .f32⟩
  | .hbm, ⟨16, _⟩ => ⟨S_, .f32⟩
  | .hbm, ⟨17, _⟩ => ⟨S17408x1, .f32⟩
  | .hbm, ⟨18, _⟩ => ⟨S17408x1, .f32⟩
  | .hbm, ⟨19, _⟩ => ⟨S17408x1, .f32⟩
  | .hbm, ⟨20, _⟩ => ⟨S17408x2048, .f32⟩
  | .hbm, ⟨21, _⟩ => ⟨S17408x2048, .f32⟩
  | .hbm, ⟨22, _⟩ => ⟨S1x2048, .f32⟩
  | .hbm, ⟨23, _⟩ => ⟨S17408x2048, .f32⟩
  | .hbm, ⟨24, _⟩ => ⟨S17408x2048, .f32⟩
  | .hbm, ⟨25, _⟩ => ⟨S17408x2048, .f32⟩
  | .hbm, ⟨26, _⟩ => ⟨S17408x2048, .f32⟩
  | .hbm, ⟨27, _⟩ => ⟨S_, .f32⟩
  | .hbm, ⟨28, _⟩ => ⟨S17408, .f32⟩
  | .hbm, ⟨29, _⟩ => ⟨S17408x1, .f32⟩
  | .hbm, ⟨30, _⟩ => ⟨S_, .f32⟩
  | .hbm, ⟨31, _⟩ => ⟨S17408x1, .f32⟩
  | .hbm, ⟨32, _⟩ => ⟨S17408x1, .f32⟩
  | .hbm, ⟨33, _⟩ => ⟨S_, .f32⟩
  | .hbm, ⟨34, _⟩ => ⟨S17408x1, .f32⟩
  | .hbm, ⟨35, _⟩ => ⟨S17408x1, .f32⟩
  | .hbm, ⟨36, _⟩ => ⟨S17408x1, .f32⟩
  | .hbm, ⟨37, _⟩ => ⟨S17408x2048, .f32⟩
  | .hbm, ⟨38, _⟩ => ⟨S17408x2048, .f32⟩
  | .hbm, ⟨39, _⟩ => ⟨S1x2048, .f32⟩
  | .hbm, ⟨40, _⟩ => ⟨S17408x2048, .f32⟩
  | .hbm, ⟨41, _⟩ => ⟨S17408x2048, .f32⟩
  | .hbm, ⟨42, _⟩ => ⟨S17408x2048, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Proof.Scalars.lean ====
/-
  The extended-real facts the two programs differ by: a sigmoid written by `tanh`, a decay written by `exp2` with the
  step length inside the exponent, a value split in a rounded part and a remainder.
-/
module

public import Idealize.ShloMosaic.Lib.Pointwise
public import Idealize.ShloMosaic.Lib.IdealHost
public import Idealize.ShloMosaic.PureOps.IdealRules

@[expose] public section

noncomputable section

namespace Cert.Ssd

open Idealize.ShloMosaic

/-- The float word `0x3F000000` is one half. -/
theorem half_f32 : Ideal.ofBits .f32 0x3F000000#32 = ((1 / 2 : ℝ) : EReal) := by
  simp [Ideal.ofBits, Ideal.ieee, -EReal.coe_mul]
  norm_num

/-- The reciprocal of `log 2`, the factor between the natural exponent and the exponent of two. -/
abbrev kap : EReal := (((Real.log 2)⁻¹ : ℝ) : EReal)

theorem kap_pos : (0 : ℝ) < (Real.log 2)⁻¹ := inv_pos.mpr (Real.log_pos (by norm_num))

/-- `silu` by the hyperbolic tangent is `silu` by the logistic function, at the infinities too. -/
theorem silu_eq (v : EReal) :
    ((1 / 2 : ℝ) : EReal) * v * (1 + Ideal.tanh (((1 / 2 : ℝ) : EReal) * v)) = v * Ideal.logistic v := by
  have hh : (0 : ℝ) < 1 / 2 := by norm_num
  induction v using EReal.rec with
  | bot =>
    rw [EReal.coe_mul_bot_of_pos hh, Ideal.tanh_bot, Ideal.logistic_bot]
    have : (1 : EReal) + -1 = 0 := by
      rw [← EReal.coe_one, ← EReal.coe_neg, ← EReal.coe_add]; simp
    rw [this]
  | top =>
    rw [EReal.coe_mul_top_of_pos hh, Ideal.tanh_top, Ideal.logistic_top]
    have : (1 : EReal) + 1 = ((2 : ℝ) : EReal) := by
      rw [← EReal.coe_one, ← EReal.coe_add]; norm_num
    rw [this, EReal.top_mul_coe_of_pos (by norm_num), mul_one]
  | coe x =>
    rw [← EReal.coe_mul, Ideal.tanh_coe, Ideal.logistic_coe, ← EReal.coe_one, ← EReal.coe_add, ← EReal.coe_mul,
      ← EReal.coe_mul, EReal.coe_eq_coe_iff]
    have h1 : Real.tanh (1 / 2 * x) = (1 - Real.exp (-x)) / (1 + Real.exp (-x)) := by
      have e : Real.exp (-x) = Real.exp (-(1 / 2 * x)) * Real.exp (-(1 / 2 * x)) := by
        rw [← Real.exp_add]; ring_nf
      have e2 : Real.exp (1 / 2 * x) * Real.exp (-(1 / 2 * x)) = 1 := by
        rw [← Real.exp_add]; simp
      have p1 := Real.exp_pos (1 / 2 * x)
      have p2 := Real.exp_pos (-(1 / 2 * x))
      rw [Real.tanh_eq_sinh_div_cosh, Real.sinh_eq, Real.cosh_eq, e, div_eq_div_iff (by positivity) (by positivity)]
      linear_combination (Real.exp (-(1 / 2 * x))) * e2
    have p := Real.exp_pos (-x)
    rw [h1]
    field_simp
    ring

/-- The exponent of two at `c / log 2` is the natural exponent of `c`. -/
theorem exp2_kap {c : EReal} (hc : c ≤ 0) : Ideal.exp2 (c * kap) = Ideal.exp c := by
  induction c using EReal.rec with
  | bot => rw [EReal.bot_mul_coe_of_pos kap_pos]; rfl
  | top => exact absurd hc (by simp)
  | coe x =>
    rw [← EReal.coe_mul, Ideal.exp2_coe, Ideal.exp_coe, EReal.coe_eq_coe_iff]
    have h : Real.log 2 ≠ 0 := (Real.log_pos (by norm_num)).ne'
    show (2 : ℝ) ^ (x * (Real.log 2)⁻¹) = _
    rw [Real.rpow_def_of_pos (by norm_num)]
    congr 1
    field_simp

theorem exp_nonneg (x : EReal) : 0 ≤ Ideal.exp x := by
  induction x using EReal.rec with
  | bot => exact le_refl _
  | top => exact le_top
  | coe r => exact EReal.coe_nonneg.mpr (Real.exp_pos r).le

/-- The decay between two positions times the step length at the second, written as one exponent of two. -/
theorem decay_eq {ci cj d : EReal} (hj : cj ≤ 0) (hij : ci ≤ cj) (hd : 0 ≤ d) :
    Ideal.exp2 (ci * kap - (cj * kap - Ideal.log d * kap)) = Ideal.exp (ci - cj) * d := by
  have hi : ci ≤ 0 := hij.trans hj
  induction d using EReal.rec with
  | bot => exact absurd hd (by simp)
  | top =>
    rw [Ideal.log_top, EReal.top_mul_coe_of_pos kap_pos]
    induction cj using EReal.rec with
    | top => exact absurd hj (by simp)
    | bot =>
      obtain rfl : ci = ⊥ := le_bot_iff.mp hij
      simp [EReal.bot_mul_coe_of_pos kap_pos, sub_eq_add_neg]
    | coe y =>
      rw [← EReal.coe_mul]
      induction ci using EReal.rec with
      | top => exact absurd hi (by simp)
      | bot =>
        simp [EReal.bot_mul_coe_of_pos kap_pos, sub_eq_add_neg]
      | coe x =>
        rw [← EReal.coe_mul, ← EReal.coe_sub, Ideal.exp_coe, EReal.coe_mul_top_of_pos (Real.exp_pos _)]
        simp [sub_eq_add_neg, ← EReal.coe_mul]
  | coe t =>
    have ht : 0 ≤ t := by exact_mod_cast hd
    rcases ht.eq_or_lt with h0 | hpos
    · subst h0
      rw [EReal.coe_zero, mul_zero, ← EReal.coe_zero, Ideal.log_coe, if_pos le_rfl, EReal.bot_mul_coe_of_pos kap_pos]
      induction cj using EReal.rec with
      | top => exact absurd hj (by simp)
      | bot =>
        obtain rfl : ci = ⊥ := le_bot_iff.mp hij
        simp [EReal.bot_mul_coe_of_pos kap_pos, sub_eq_add_neg]
      | coe y =>
        rw [← EReal.coe_mul]
        simp [sub_eq_add_neg, ← EReal.coe_neg, EReal.coe_add_top, -EReal.coe_mul]
    · rw [Ideal.log_coe, if_neg (not_le.mpr hpos), ← EReal.coe_mul]
      induction cj using EReal.rec with
      | top => exact absurd hj (by simp)
      | bot =>
        obtain rfl : ci = ⊥ := le_bot_iff.mp hij
        simp [EReal.bot_mul_coe_of_pos kap_pos, sub_eq_add_neg]
      | coe y =>
        induction ci using EReal.rec with
        | top => exact absurd hi (by simp)
        | bot => simp [EReal.bot_mul_coe_of_pos kap_pos, sub_eq_add_neg, ← EReal.coe_mul, ← EReal.coe_neg, ← EReal.coe_add]
        | coe x =>
          rw [← EReal.coe_mul, ← EReal.coe_mul, ← EReal.coe_sub, ← EReal.coe_sub, Ideal.exp2_coe, ← EReal.coe_sub,
            Ideal.exp_coe, ← EReal.coe_mul, EReal.coe_eq_coe_iff]
          have h : Real.log 2 ≠ 0 := (Real.log_pos (by norm_num)).ne'
          show (2 : ℝ) ^ (_ : ℝ) = _
          rw [Real.rpow_def_of_pos (by norm_num)]
          conv_rhs => rw [← Real.exp_log hpos, ← Real.exp_add]
          congr 1
          field_simp
          ring

/-- A value below infinity is its rounded part plus the remainder, the rounding being exact. -/
theorem split_eq {x : EReal} (hx : x ≠ ⊤) : x + (x - x) = x := by
  induction x using EReal.rec with
  | bot => simp [sub_eq_add_neg]
  | top => exact absurd rfl hx
  | coe r => rw [← EReal.coe_sub, ← EReal.coe_add]; simp

/-- The exponent of a value not above zero is finite, so it leaves no remainder. -/
theorem exp_sub_self {c : EReal} (hc : c ≤ 0) : Ideal.exp c - Ideal.exp c = 0 := by
  induction c using EReal.rec with
  | bot => simp
  | top => exact absurd hc (by simp)
  | coe r => rw [Ideal.exp_coe, ← EReal.coe_sub]; simp

/-- A step length times a rate, the rate minus an exponent, is not above zero. -/
theorem rate_nonpos {d : EReal} (hd : 0 ≤ d) (x : EReal) : d * -Ideal.exp x ≤ 0 := by
  rw [mul_neg, EReal.neg_le, neg_zero]
  exact mul_nonneg hd (exp_nonneg x)

end Cert.Ssd
-- ==== Proof.Vocab.lean ====
/-
  What the kernel's body computes, one definition per kind of store, over the arrays it loads. The printed body states
  each of them once per lane chunk, head pair and group; every one of those is one of these definitions at other loads.
-/
module

public import proofs.«01_k».proof.Proof.Gen.KernelIdeal
public import proofs.«01_k».proof.Proof.Scalars

@[expose] public section

set_option maxRecDepth 16384

noncomputable section

namespace Cert.KernelIdeal.Body

open Cert.KernelIdeal Cert.KernelIdeal.Gen Idealize.ShloMosaic Idealize.ShloMosaic.TcCoe Idealize.SL.Sem

/-- The position `(i, j)` is causal: `j` is not after `i`. -/
def causal : IVec S64x64 1 :=
  cmpi .sge (iota .tc S64x64 32 [0] iota_S64x64_d0_w32) (iota .tc S64x64 32 [1] iota_S64x64_d1_w32)

/-- The lanes of a pair's first head. -/
def loMask : IVec S1x128 1 := cmpi .slt (iota .tc S1x128 32 [1] iota_S1x128_d1_w32) (broadcast S1x128 64#32)

/-- The lanes of a pair's second head. -/
def hiMask : IVec S1x128 1 := xori loMask (constantI S1x128 1 1#1)

/-- One chunk of lanes before its bias: the eight rows before the block and the block, four shifted products. -/
def convSum (hb : FVec Ideal S8x512 .f32) (raw : FVec Ideal S64x512 .bf16) (w0 w1 w2 w3 : FVec Ideal S1x512 .f32) :
    FVec Ideal S72x512 .f32 :=
  let e : FVec Ideal S72x512 .f32 :=
    concatenate S72x512 0 [⟨S8x512, hb⟩, ⟨S64x512, extf .f32 raw bitsLt_bf16_f32⟩] concatenates_S8x512_S64x512_S72x512_d0
  let p (w : FVec Ideal S1x512 .f32) : FVec Ideal S72x512 .f32 := mulf e (broadcastTo S72x512 w broadcasts_S1x512_S72x512)
  let roll (v : FVec Ideal S72x512 .f32) : FVec Ideal S72x512 .f32 := dynamicRotate 0 1#32 none v rotates_S72x512_d0
  addf (p w3) (roll (addf (p w2) (roll (addf (p w1) (roll (p w0))))))

/-- One chunk of lanes with its bias, before the activation. -/
def convPre (hb : FVec Ideal S8x512 .f32) (raw : FVec Ideal S64x512 .bf16) (w0 w1 w2 w3 b : FVec Ideal S1x512 .f32) :
    FVec Ideal S64x512 .f32 :=
  addf (extractStridedSlice S64x512 ![8, 0] (convSum hb raw w0 w1 w2 w3) slices_S72x512_o8_0_S64x512)
    (broadcastTo S64x512 (shapeCast S1x512 b shapeCasts_S1x512_S1x512) broadcasts_S1x512_S64x512)

/-- One chunk of lanes of the activated convolution. -/
def convChunk (hb : FVec Ideal S8x512 .f32) (raw : FVec Ideal S64x512 .bf16) (w0 w1 w2 w3 b : FVec Ideal S1x512 .f32) :
    FVec Ideal S64x512 .bf16 :=
  let v := convPre hb raw w0 w1 w2 w3 b
  let hv : FVec Ideal S64x512 .f32 := mulf (broadcast S64x512 (FloatOps.ofBits .f32 0x3F000000#32)) v
  shapeCast S64x512
    (truncf .bf16 (mulf hv (addf (broadcast S64x512 (FloatOps.ofBits .f32 0x3F800000#32)) (tanh hv))) bitsLt_bf16_f32)
    shapeCasts_S64x512_S64x512

/-- The last eight rows of a chunk, kept for the next block. -/
def tailChunk (raw : FVec Ideal S64x512 .bf16) : FVec Ideal S8x512 .f32 :=
  shapeCast S8x512
    (extractStridedSlice S8x512 ![56, 0] (extf .f32 raw bitsLt_bf16_f32) slices_S64x512_o56_0_S8x512)
    shapeCasts_S8x512_S8x512

/-- The log decays: step lengths times rates. -/
def daV (dt : FVec Ideal S64x128 .f32) (a : FVec Ideal S1x128 .f32) : FVec Ideal S64x128 .f32 :=
  mulf dt (broadcastTo S64x128 (shapeCast S1x128 a shapeCasts_S1x128_S1x128) broadcasts_S1x128_S64x128)

/-- Ones where causal. -/
def triV : FVec Ideal S64x64 .bf16 :=
  truncf .bf16 (select causal (broadcast S64x64 (FloatOps.ofBits .f32 0x3F800000#32) : FVec Ideal S64x64 .f32)
    (broadcast S64x64 (FloatOps.ofBits .f32 0#32))) bitsLt_bf16_f32

/-- The running sums of the log decays, from their rounded part and the remainder. -/
def cumV (dt : FVec Ideal S64x128 .f32) (a : FVec Ideal S1x128 .f32) : FVec Ideal S64x128 .f32 :=
  addf
    (matmul dot_S64x64_S64x128_S64x128_1_0_0_1_n_n none triV (truncf .bf16 (daV dt a) bitsLt_bf16_f32)
      (constant S64x128 .f32 0#32))
    (matmul dot_S64x64_S64x128_S64x128_1_0_0_1_n_n none triV
      (truncf .bf16 (subf (daV dt a) (extf .f32 (truncf .bf16 (daV dt a) bitsLt_bf16_f32) bitsLt_bf16_f32))
        bitsLt_bf16_f32)
      (constant S64x128 .f32 0#32))

/-- The running sums by head, in units of `log 2`. -/
def c2V (dt : FVec Ideal S64x128 .f32) (a : FVec Ideal S1x128 .f32) : FVec Ideal S128x64 .f32 :=
  mulf (transpose S128x64 [1, 0] (cumV dt a) transposes_S64x128_p1_0_S128x64)
    (broadcast S128x64 (Named.named κ "log2e" 0x3FB8AA3B#32))

/-- The heads' rows of an array by head, grouped. -/
def grp (v : FVec Ideal S128x64 .f32) : FVec Ideal S8x8x64 .f32 :=
  shapeCast S8x8x64
    (shapeCast S8x8x64 (extractStridedSlice S64x64 ![0, 0] v slices_S128x64_o0_0_S64x64) shapeCasts_S64x64_S8x8x64)
    shapeCasts_S8x8x64_S8x8x64

/-- The step lengths by head. -/
def dtT (dt : FVec Ideal S64x128 .f32) : FVec Ideal S128x64 .f32 :=
  transpose S128x64 [1, 0] dt transposes_S64x128_p1_0_S128x64

/-- The stored running sums. -/
def cumtV (dt : FVec Ideal S64x128 .f32) (a : FVec Ideal S1x128 .f32) : FVec Ideal S8x8x64 .f32 := grp (c2V dt a)

/-- The stored running sums less the step lengths' logarithms. -/
def cmlV (dt : FVec Ideal S64x128 .f32) (a : FVec Ideal S1x128 .f32) : FVec Ideal S8x8x64 .f32 :=
  grp (subf (c2V dt a) (mulf (log (dtT dt)) (broadcast S128x64 (Named.named κ "log2e" 0x3FB8AA3B#32))))

/-- The stored weights of the positions in the state's update. -/
def wgtV (dt : FVec Ideal S64x128 .f32) (a : FVec Ideal S1x128 .f32) : FVec Ideal S8x8x64 .f32 :=
  let ct := transpose S128x64 [1, 0] (cumV dt a) transposes_S64x128_p1_0_S128x64
  grp (mulf (dtT dt)
    (exp (subf (broadcastTo S128x64 (extractStridedSlice S128x1 ![0, 63] ct slices_S128x64_o0_63_S128x1)
      broadcasts_S128x1_S128x64) ct)))

/-- The whole block's decay by lane of the state. -/
def decV (dt : FVec Ideal S64x128 .f32) (a : FVec Ideal S1x128 .f32) (ex : FVec Ideal S128x4096 .bf16) :
    FVec Ideal S1x4096 .f32 :=
  let e : FVec Ideal S8x128 .f32 := exp (extractStridedSlice S8x128 ![56, 0] (cumV dt a) slices_S64x128_o56_0_S8x128)
  let exc := shapeCast S128x4096 ex shapeCasts_S128x4096_S128x4096
  extractStridedSlice S1x4096 ![7, 0]
    (addf
      (matmul dot_S8x128_S128x4096_S8x4096_1_0_0_1_n_n none (truncf .bf16 e bitsLt_bf16_f32) exc
        (constant S8x4096 .f32 0#32))
      (matmul dot_S8x128_S128x4096_S8x4096_1_0_0_1_n_n none
        (truncf .bf16 (subf e (extf .f32 (truncf .bf16 e bitsLt_bf16_f32) bitsLt_bf16_f32)) bitsLt_bf16_f32) exc
        (constant S8x4096 .f32 0#32)))
    slices_S8x4096_o7_0_S1x4096

/-- A head's row of a group. -/
def rowOf (x : FVec Ideal S1x8x64 .f32) (r : ℕ) (h : S8x64.Slices ![r, 0] S1x64) : FVec Ideal S1x64 .f32 :=
  extractStridedSlice S1x64 ![r, 0] (shapeCast S8x64 x shapeCasts_S1x8x64_S8x64) h

/-- A head's row broadcast over the lanes and turned: one column per position. -/
def colOf (row : FVec Ideal S1x64 .f32) : FVec Ideal S64x128 .f32 :=
  transpose S64x128 [1, 0]
    (broadcastTo S128x64 (shapeCast S1x64 row shapeCasts_S1x64_S1x64) broadcasts_S1x64_S128x64)
    transposes_S128x64_p1_0_S64x128

/-- A head's half of a pair's inputs, zero at the other head's lanes. -/
def xHalf (m : IVec S1x128 1) (xp : FVec Ideal S64x128 .bf16) : FVec Ideal S64x128 .bf16 :=
  select (broadcastTo S64x128 (shapeCast S1x128 m shapeCasts_S1x128_S1x128) broadcasts_S1x128_S64x128) xp
    (broadcast S64x128 (FloatOps.ofBits .bf16 0#16))

/-- A head's half of a pair's state, zero at the other head's lanes. -/
def sHalf (m : IVec S1x128 1) (sp : FVec Ideal S1x128x128 .f32) : FVec Ideal S128x128 .bf16 :=
  truncf .bf16
    (select (broadcastTo S128x128 (shapeCast S1x128 m shapeCasts_S1x128_S1x128) broadcasts_S1x128_S128x128)
      (shapeCast S128x128 sp shapeCasts_S1x128x128_S128x128) (broadcast S128x128 (FloatOps.ofBits .f32 0#32)))
    bitsLt_bf16_f32

/-- A head's scores with their decays. -/
def matH (bg cg : FVec Ideal S64x128 .bf16) (cum cml : FVec Ideal S1x64 .f32) : FVec Ideal S64x64 .bf16 :=
  truncf .bf16
    (mulf
      (matmul dot_S64x128_S64x128_S64x64_1_1_0_0_n_n none cg bg (constant S64x64 .f32 0#32))
      (exp2 (select causal
        (subf (extractStridedSlice S64x64 ![0, 0] (colOf cum) slices_S64x128_o0_0_S64x64)
          (broadcastTo S64x64 cml broadcasts_S1x64_S64x64))
        (broadcast S64x64 (Named.named κ "mask" 0xF149F2CA#32)))))
    bitsLt_bf16_f32

/-- A head's readers of the state, decayed to their positions. -/
def csH (cg : FVec Ideal S64x128 .bf16) (cum : FVec Ideal S1x64 .f32) : FVec Ideal S64x128 .bf16 :=
  truncf .bf16 (mulf (extf .f32 cg bitsLt_bf16_f32) (exp2 (colOf cum))) bitsLt_bf16_f32

/-- A pair's outputs: both heads' scores times inputs and readers times state, one product. -/
def yPair (bg cg : FVec Ideal S64x128 .bf16) (cum cml : FVec Ideal S1x8x64 .f32) (r r' : ℕ)
    (h : S8x64.Slices ![r, 0] S1x64) (h' : S8x64.Slices ![r', 0] S1x64)
    (xp : FVec Ideal S64x128 .bf16) (sp : FVec Ideal S1x128x128 .f32) : FVec Ideal S1x64x128 .f32 :=
  shapeCast S1x64x128
    (matmul dot_S64x384_S384x128_S64x128_1_0_0_1_n_n none
      (concatenate S64x384 1
        [⟨S64x64, matH bg cg (rowOf cum r h) (rowOf cml r h)⟩, ⟨S64x128, csH cg (rowOf cum r h)⟩,
          ⟨S64x64, matH bg cg (rowOf cum r' h') (rowOf cml r' h')⟩, ⟨S64x128, csH cg (rowOf cum r' h')⟩]
        concatenates_S64x64_S64x128_S64x64_S64x128_S64x384_d1)
      (concatenate S384x128 0
        [⟨S64x128, xHalf loMask xp⟩, ⟨S128x128, sHalf loMask sp⟩, ⟨S64x128, xHalf hiMask xp⟩,
          ⟨S128x128, sHalf hiMask sp⟩]
        concatenates_S64x128_S128x128_S64x128_S128x128_S384x128_d0)
      (constant S64x128 .f32 0#32))
    shapeCasts_S64x128_S1x64x128

/-- A head's weighted writers into the state. -/
def bwH (bg : FVec Ideal S64x128 .bf16) (w : FVec Ideal S1x64 .f32) : FVec Ideal S128x64 .bf16 :=
  truncf .bf16
    (mulf (transpose S128x64 [1, 0] (extf .f32 bg bitsLt_bf16_f32) transposes_S64x128_p1_0_S128x64)
      (broadcastTo S128x64 w broadcasts_S1x64_S128x64))
    bitsLt_bf16_f32

/-- A pair's state after the block: decayed, plus both heads' writers times inputs, one product. -/
def stPair (bg : FVec Ideal S64x128 .bf16) (wg : FVec Ideal S1x8x64 .f32) (r r' : ℕ)
    (h : S8x64.Slices ![r, 0] S1x64) (h' : S8x64.Slices ![r', 0] S1x64) (xp : FVec Ideal S64x128 .bf16)
    (sp : FVec Ideal S1x128x128 .f32) (dec : FVec Ideal S1x128 .f32) : FVec Ideal S1x128x128 .f32 :=
  shapeCast S1x128x128
    (addf
      (mulf (shapeCast S128x128 sp shapeCasts_S1x128x128_S128x128) (broadcastTo S128x128 dec broadcasts_S1x128_S128x128))
      (matmul dot_S128x128_S128x128_S128x128_1_0_0_1_n_n none
        (concatenate S128x128 1
          [⟨S128x64, bwH bg (rowOf wg r h)⟩, ⟨S128x64, bwH bg (rowOf wg r' h')⟩]
          concatenates_S128x64_S128x64_S128x128_d1)
        (concatenate S128x128 0 [⟨S64x128, xHalf loMask xp⟩, ⟨S64x128, xHalf hiMask xp⟩]
          concatenates_S64x128_S64x128_S128x128_d0)
        (constant S128x128 .f32 0#32)))
    shapeCasts_S128x128_S1x128x128

/-- A group's outputs with the skip, gated. -/
def ygV (y : FVec Ideal S1x64x512 .f32) (d : FVec Ideal S1x512 .f32) (x z : FVec Ideal S64x512 .bf16) :
    FVec Ideal S64x512 .f32 :=
  mulf
    (addf (shapeCast S64x512 y shapeCasts_S1x64x512_S64x512)
      (mulf (broadcastTo S64x512 (shapeCast S1x512 d shapeCasts_S1x512_S1x512) broadcasts_S1x512_S64x512)
        (extf .f32 x bitsLt_bf16_f32)))
    (extf .f32 z bitsLt_bf16_f32)

/-- The same as it is stored. -/
def ygChunk (y : FVec Ideal S1x64x512 .f32) (d : FVec Ideal S1x512 .f32) (x z : FVec Ideal S64x512 .bf16) :
    FVec Ideal S1x64x512 .f32 :=
  shapeCast S1x64x512 (ygV y d x z) shapeCasts_S64x512_S1x64x512

/-- A group's sum of squares. -/
def ssqG (v : FVec Ideal S64x512 .f32) : FVec Ideal S64x1 .f32 :=
  shapeCast S64x1 (multiReduction .add [1] S64 (mulf v v) 0#32 reduces_S64x512_S64) shapeCasts_S64_S64x1

/-- The reciprocal root of the mean square over the eight groups. -/
def invV (v0 v1 v2 v3 v4 v5 v6 v7 : FVec Ideal S64x512 .f32) : FVec Ideal S64x1 .f32 :=
  rsqrt (addf
    (divf
      (addf (addf (addf (addf (addf (addf (addf (addf (broadcast S64x1 (FloatOps.ofBits .f32 0#32) : FVec Ideal S64x1 .f32)
        (ssqG v0)) (ssqG v1)) (ssqG v2)) (ssqG v3)) (ssqG v4)) (ssqG v5)) (ssqG v6)) (ssqG v7))
      (broadcast S64x1 (FloatOps.ofBits .f32 0x45800000#32)))
    (broadcast S64x1 (FloatOps.ofBits .f32 0x358637BD#32)))

/-- A group's normed outputs. -/
def outChunk (inv : FVec Ideal S64x1 .f32) (y : FVec Ideal S1x64x512 .f32) (g : FVec Ideal S1x512 .f32) :
    FVec Ideal S64x512 .bf16 :=
  truncf .bf16
    (mulf (mulf (shapeCast S64x512 y shapeCasts_S1x64x512_S64x512) (broadcastTo S64x512 inv broadcasts_S64x1_S64x512))
      (broadcastTo S64x512 (shapeCast S1x512 g shapeCasts_S1x512_S1x512) broadcasts_S1x512_S64x512))
    bitsLt_bf16_f32

end Cert.KernelIdeal.Body
-- ==== Proof.Values.lean ====
/-
  The body's stores read at an index: each definition of `Body` as a scalar expression over its loads.
-/
module

public import proofs.«01_k».proof.Proof.Vocab

@[expose] public section

set_option maxRecDepth 16384

noncomputable section

namespace Cert.KernelIdeal.Body

open Cert.KernelIdeal Cert.KernelIdeal.Gen Idealize.ShloMosaic Idealize.ShloMosaic.TcCoe Idealize.SL.Sem
open Cert.Ssd

/-- The named reciprocal of `log 2`. -/
theorem log2e_val : (Named.named κ "log2e" 0x3FB8AA3B#32 : Ideal .f32) = kap :=
  IdealRules.named_const.ideal_named_scalar κ "log2e" (φ := .f32) 0x3FB8AA3B#32 _ rfl

/-- The named mask is the least value. -/
theorem mask_val : (Named.named κ "mask" 0xF149F2CA#32 : Ideal .f32) = (⊥ : EReal) :=
  IdealRules.named_const.ideal_named_scalar κ "mask" (φ := .f32) 0xF149F2CA#32 _ rfl

/-- The causal comparison of two positions' words decides their order. -/
theorem sel_causal {α : Type} (i j : Fin 64) (x y : α) :
    Scalar.select (IntOp.cmpi CmpIPredicate.sge (BitVec.ofNat 32 (i : ℕ)) (BitVec.ofNat 32 (j : ℕ))) x y
      = if (j : ℕ) ≤ i then x else y := by
  have h : IntOp.cmpi CmpIPredicate.sge (BitVec.ofNat 32 (i : ℕ)) (BitVec.ofNat 32 (j : ℕ))
      = if (j : ℕ) ≤ i then 1#1 else 0#1 := by
    revert i j; decide +kernel
  rw [h]; split <;> rfl

/-- The first head's lanes of a pair are the first 64. -/
theorem sel_lo {α : Type} (l : Fin 128) (x y : α) :
    Scalar.select (IntOp.cmpi CmpIPredicate.slt (BitVec.ofNat 32 (l : ℕ)) 64#32) x y
      = if (l : ℕ) < 64 then x else y := by
  have h : IntOp.cmpi CmpIPredicate.slt (BitVec.ofNat 32 (l : ℕ)) 64#32 = if (l : ℕ) < 64 then 1#1 else 0#1 := by
    revert l; decide +kernel
  rw [h]; split <;> rfl

/-- The second head's lanes of a pair are the others. -/
theorem sel_hi {α : Type} (l : Fin 128) (x y : α) :
    Scalar.select (IntOp.xori (IntOp.cmpi CmpIPredicate.slt (BitVec.ofNat 32 (l : ℕ)) 64#32) 1#1) x y
      = if (l : ℕ) < 64 then y else x := by
  have h : IntOp.xori (IntOp.cmpi CmpIPredicate.slt (BitVec.ofNat 32 (l : ℕ)) 64#32) 1#1
      = if (l : ℕ) < 64 then 0#1 else 1#1 := by
    revert l; decide +kernel
  rw [h]; split <;> rfl

/-- A row of the eight rows before a block and the block, one after the other, is `E` of the row. -/
theorem ext_row (hb : FVec Ideal S8x512 .f32) (raw : FVec Ideal S64x512 .bf16) (l : Fin 512) (E : ℕ → EReal)
    (h0 : ∀ r : Fin 8, hb (ix2 r l) = E r) (h1 : ∀ r : Fin 64, raw (ix2 r l) = E (8 + r)) (r r' : ℕ) (e : r = r')
    (p : r < 8 → r < 8) (q : ¬ r < 8 → r - 8 < 64) :
    (if h : r < 8 then hb (ix2 ⟨r, p h⟩ l) else raw (ix2 ⟨r - 8, q h⟩ l) : EReal) = E r' := by
  subst e
  split
  · rename_i h; exact h0 ⟨r, h⟩
  · rename_i h
    refine (h1 ⟨r - 8, q h⟩).trans (congrArg E ?_)
    show 8 + (r - 8) = r
    omega

/-- A chunk before the activation, from one function `E` of the row, the eight rows before the block first. -/
theorem convPre_apply (hb : FVec Ideal S8x512 .f32) (raw : FVec Ideal S64x512 .bf16)
    (w0 w1 w2 w3 b : FVec Ideal S1x512 .f32) (i : Fin 64) (l : Fin 512) (E : ℕ → EReal)
    (h0 : ∀ r : Fin 8, hb (ix2 r l) = E r) (h1 : ∀ r : Fin 64, raw (ix2 r l) = E (8 + r)) :
    convPre hb raw w0 w1 w2 w3 b (ix2 i l)
      = E (8 + i) * w3 (ix2 0 l) + (E (7 + i) * w2 (ix2 0 l) + (E (6 + i) * w1 (ix2 0 l) + E (5 + i) * w0 (ix2 0 l)))
        + b (ix2 0 l) := by
  have hi := i.isLt
  have e1 : (8 + (i : ℕ) + 72 - 1) % 72 = 7 + i := by omega
  have e2 : ((8 + (i : ℕ) + 72 - 1) % 72 + 72 - 1) % 72 = 6 + i := by omega
  have e3 : (((8 + (i : ℕ) + 72 - 1) % 72 + 72 - 1) % 72 + 72 - 1) % 72 = 5 + i := by omega
  pointwise [convPre, convSum]
  refine congrArg₂ _ (congrArg₂ _ (congrArg₂ _ (h1 i) rfl) (congrArg₂ _ (congrArg₂ _ ?_ rfl)
    (congrArg₂ _ (congrArg₂ _ ?_ rfl) (congrArg₂ _ ?_ rfl)))) rfl
  · exact ext_row hb raw l E h0 h1 _ _ e1 _ _
  · exact ext_row hb raw l E h0 h1 _ _ e2 _ _
  · exact ext_row hb raw l E h0 h1 _ _ e3 _ _

/-- A chunk of the activated convolution is its pre-activation times the logistic function of it. -/
theorem convChunk_apply (hb : FVec Ideal S8x512 .f32) (raw : FVec Ideal S64x512 .bf16)
    (w0 w1 w2 w3 b : FVec Ideal S1x512 .f32) (i : Fin 64) (l : Fin 512) :
    convChunk hb raw w0 w1 w2 w3 b (ix2 i l)
      = convPre hb raw w0 w1 w2 w3 b (ix2 i l) * Ideal.logistic (convPre hb raw w0 w1 w2 w3 b (ix2 i l)) := by
  pointwise [convChunk]
  rw [half_f32]
  exact silu_eq _

theorem cumV_apply (dt : FVec Ideal S64x128 .f32) (a : FVec Ideal S1x128 .f32) (i : Fin 64) (l : Fin 128) :
    cumV dt a (ix2 i l)
      = (∑ j : Fin 64, if (j : ℕ) ≤ i then dt (ix2 j l) * a (ix2 0 l) else 0)
        + ∑ j : Fin 64, if (j : ℕ) ≤ i then dt (ix2 j l) * a (ix2 0 l) - dt (ix2 j l) * a (ix2 0 l) else 0 := by
  pointwise [cumV, triV, daV, causal]
  simp only [sel_causal]

theorem cumtV_apply (dt : FVec Ideal S64x128 .f32) (a : FVec Ideal S1x128 .f32) (g h : Fin 8) (i : Fin 64) :
    cumtV dt a (ix3 g h i) = cumV dt a (ix2 i ⟨g * 8 + h, by omega⟩) * kap := by
  pointwise [cumtV, grp, c2V]
  rw [log2e_val]

theorem cmlV_apply (dt : FVec Ideal S64x128 .f32) (a : FVec Ideal S1x128 .f32) (g h : Fin 8) (i : Fin 64) :
    cmlV dt a (ix3 g h i) = cumV dt a (ix2 i ⟨g * 8 + h, by omega⟩) * kap
      - Ideal.log (dt (ix2 i ⟨g * 8 + h, by omega⟩)) * kap := by
  pointwise [cmlV, grp, c2V, dtT]
  rw [log2e_val]

theorem wgtV_apply (dt : FVec Ideal S64x128 .f32) (a : FVec Ideal S1x128 .f32) (g h : Fin 8) (i : Fin 64) :
    wgtV dt a (ix3 g h i) = dt (ix2 i ⟨g * 8 + h, by omega⟩)
      * Ideal.exp (cumV dt a (ix2 63 ⟨g * 8 + h, by omega⟩) - cumV dt a (ix2 i ⟨g * 8 + h, by omega⟩)) := by
  pointwise [wgtV, grp, c2V, dtT]

theorem decV_apply (dt : FVec Ideal S64x128 .f32) (a : FVec Ideal S1x128 .f32) (ex : FVec Ideal S128x4096 .bf16)
    (l : Fin 4096) :
    decV dt a ex (ix2 0 l) = (∑ k : Fin 128, Ideal.exp (cumV dt a (ix2 63 k)) * ex (ix2 k l))
      + ∑ k : Fin 128, (Ideal.exp (cumV dt a (ix2 63 k)) - Ideal.exp (cumV dt a (ix2 63 k))) * ex (ix2 k l) := by
  pointwise [decV]

theorem rowOf_apply (x : FVec Ideal S1x8x64 .f32) (r : ℕ) (h : S8x64.Slices ![r, 0] S1x64) (hr : r < 8) (i : Fin 64) :
    rowOf x r h (ix2 0 i) = x (ix3 0 ⟨r, hr⟩ i) := by
  pointwise [rowOf]

theorem matH_apply (bg cg : FVec Ideal S64x128 .bf16) (cum cml : FVec Ideal S1x64 .f32) (i j : Fin 64) :
    matH bg cg cum cml (ix2 i j) = (∑ n : Fin 128, cg (ix2 i n) * bg (ix2 j n))
      * Ideal.exp2 (if (j : ℕ) ≤ i then cum (ix2 0 i) - cml (ix2 0 j) else ⊥) := by
  pointwise [matH, colOf, causal]
  rw [sel_causal, mask_val]
  rfl

theorem csH_apply (cg : FVec Ideal S64x128 .bf16) (cum : FVec Ideal S1x64 .f32) (i : Fin 64) (j : Fin 128) :
    csH cg cum (ix2 i j) = cg (ix2 i j) * Ideal.exp2 (cum (ix2 0 i)) := by
  pointwise [csH, colOf]
  rfl

theorem bwH_apply (bg : FVec Ideal S64x128 .bf16) (w : FVec Ideal S1x64 .f32) (n : Fin 128) (j : Fin 64) :
    bwH bg w (ix2 n j) = bg (ix2 j n) * w (ix2 0 j) := by
  pointwise [bwH]

theorem xLo_apply (xp : FVec Ideal S64x128 .bf16) (i : Fin 64) (l : Fin 128) :
    xHalf loMask xp (ix2 i l) = if (l : ℕ) < 64 then xp (ix2 i l) else 0 := by
  pointwise [xHalf, loMask]
  rw [sel_lo]

theorem xHi_apply (xp : FVec Ideal S64x128 .bf16) (i : Fin 64) (l : Fin 128) :
    xHalf hiMask xp (ix2 i l) = if (l : ℕ) < 64 then 0 else xp (ix2 i l) := by
  pointwise [xHalf, hiMask, loMask]
  rw [sel_hi]

theorem sLo_apply (sp : FVec Ideal S1x128x128 .f32) (n l : Fin 128) :
    sHalf loMask sp (ix2 n l) = if (l : ℕ) < 64 then sp (ix3 0 n l) else 0 := by
  pointwise [sHalf, loMask]
  rw [sel_lo]

theorem sHi_apply (sp : FVec Ideal S1x128x128 .f32) (n l : Fin 128) :
    sHalf hiMask sp (ix2 n l) = if (l : ℕ) < 64 then 0 else sp (ix3 0 n l) := by
  pointwise [sHalf, hiMask, loMask]
  rw [sel_hi]

/-- A sum over the pair's inner axis, cut at its four parts. -/
theorem sum_384 (f : Fin 384 → EReal) :
    ∑ x, f x = (∑ x : Fin 64, f ⟨x, by omega⟩) + ((∑ x : Fin 128, f ⟨64 + x, by omega⟩)
      + ((∑ x : Fin 64, f ⟨192 + x, by omega⟩) + ∑ x : Fin 128, f ⟨256 + x, by omega⟩)) := by
  rw [Fin.sum_univ_add (a := 64) (b := 320) f]
  congr 1
  rw [Fin.sum_univ_add (a := 128) (b := 192)]
  congr 1
  rw [Fin.sum_univ_add (a := 64) (b := 128)]
  rfl

/-- A pair's outputs at a lane: the lane's own head's two sums, the other head's halves being zero. -/
theorem yPair_apply (bg cg : FVec Ideal S64x128 .bf16) (cum cml : FVec Ideal S1x8x64 .f32) (r r' : ℕ)
    (h : S8x64.Slices ![r, 0] S1x64) (h' : S8x64.Slices ![r', 0] S1x64)
    (xp : FVec Ideal S64x128 .bf16) (sp : FVec Ideal S1x128x128 .f32) (i : Fin 64) (l : Fin 128) (q : ℕ)
    (hq : S8x64.Slices ![q, 0] S1x64) (e : q = if (l : ℕ) < 64 then r else r') :
    yPair bg cg cum cml r r' h h' xp sp (ix3 0 i l)
      = (∑ j : Fin 64, matH bg cg (rowOf cum q hq) (rowOf cml q hq) (ix2 i j) * xp (ix2 j l))
        + ∑ n : Fin 128, csH cg (rowOf cum q hq) (ix2 i n) * sp (ix3 0 n l) := by
  pointwise [yPair]
  rw [sum_384]
  simp only [xLo_apply, xHi_apply, sLo_apply, sHi_apply, Fin.is_lt, Fin.eta, dite_true]
  have t1 : ∀ x : Fin 128, ¬ (64 + (x : ℕ) < 64) := fun x => by omega
  have t2 : ∀ x : Fin 64, ¬ (192 + (x : ℕ) < 64) := fun x => by omega
  have t3 : ∀ x : Fin 64, ¬ (192 + (x : ℕ) - 64 < 128) := fun x => by omega
  have t4 : ∀ x : Fin 128, ¬ (256 + (x : ℕ) < 64) := fun x => by omega
  have t5 : ∀ x : Fin 128, ¬ (256 + (x : ℕ) - 64 < 128) := fun x => by omega
  have t6 : ∀ x : Fin 128, ¬ (256 + (x : ℕ) - 64 - 128 < 64) := fun x => by omega
  have u1 : ∀ x : Fin 128, 64 + (x : ℕ) - 64 = x := fun x => by omega
  have u2 : ∀ x : Fin 64, 192 + (x : ℕ) - 64 - 128 = x := fun x => by omega
  have u3 : ∀ x : Fin 128, 256 + (x : ℕ) - 64 - 128 - 64 = x := fun x => by omega
  simp only [t1, t2, t3, t4, t5, t6, u1, u2, u3, Fin.is_lt, Fin.eta, dite_true, dite_false]
  by_cases hl : (l : ℕ) < 64
  · rw [if_pos hl] at e; subst e
    simp only [hl, if_true, mul_zero, Finset.sum_const_zero, add_zero]
  · rw [if_neg hl] at e; subst e
    simp only [hl, if_false, mul_zero, Finset.sum_const_zero, zero_add]

/-- A sum over two heads' positions, cut at the head. -/
theorem sum_128 (f : Fin 128 → EReal) :
    ∑ x, f x = (∑ x : Fin 64, f ⟨x, by omega⟩) + ∑ x : Fin 64, f ⟨64 + x, by omega⟩ :=
  Fin.sum_univ_add (a := 64) (b := 64) f

/-- A pair's state at a lane: the lane's own head's update, the other head's half being zero. -/
theorem stPair_apply (bg : FVec Ideal S64x128 .bf16) (wg : FVec Ideal S1x8x64 .f32) (r r' : ℕ)
    (h : S8x64.Slices ![r, 0] S1x64) (h' : S8x64.Slices ![r', 0] S1x64) (xp : FVec Ideal S64x128 .bf16)
    (sp : FVec Ideal S1x128x128 .f32) (dec : FVec Ideal S1x128 .f32) (n l : Fin 128) (q : ℕ)
    (hq : S8x64.Slices ![q, 0] S1x64) (e : q = if (l : ℕ) < 64 then r else r') :
    stPair bg wg r r' h h' xp sp dec (ix3 0 n l)
      = sp (ix3 0 n l) * dec (ix2 0 l) + ∑ j : Fin 64, bwH bg (rowOf wg q hq) (ix2 n j) * xp (ix2 j l) := by
  pointwise [stPair]
  congr 1
  first | rw [sum_128] | skip
  have t1 : ∀ x : Fin 64, ¬ (64 + (x : ℕ) < 64) := fun x => by omega
  have u1 : ∀ x : Fin 64, 64 + (x : ℕ) - 64 = x := fun x => by omega
  simp only [xLo_apply, xHi_apply, t1, u1, Fin.is_lt, Fin.eta, dite_true, dite_false]
  by_cases hl : (l : ℕ) < 64
  · rw [if_pos hl] at e; subst e
    simp only [hl, if_true, mul_zero, Finset.sum_const_zero, add_zero]
  · rw [if_neg hl] at e; subst e
    simp only [hl, if_false, mul_zero, Finset.sum_const_zero, zero_add]

theorem ygV_apply (y : FVec Ideal S1x64x512 .f32) (d : FVec Ideal S1x512 .f32) (x z : FVec Ideal S64x512 .bf16)
    (i : Fin 64) (l : Fin 512) :
    ygV y d x z (ix2 i l) = (y (ix3 0 i l) + d (ix2 0 l) * x (ix2 i l)) * z (ix2 i l) := by
  pointwise [ygV]

theorem ygChunk_apply (y : FVec Ideal S1x64x512 .f32) (d : FVec Ideal S1x512 .f32) (x z : FVec Ideal S64x512 .bf16)
    (i : Fin 64) (l : Fin 512) :
    ygChunk y d x z (ix3 0 i l) = (y (ix3 0 i l) + d (ix2 0 l) * x (ix2 i l)) * z (ix2 i l) := by
  pointwise [ygChunk, ygV]

theorem ssqG_apply (v : FVec Ideal S64x512 .f32) (i : Fin 64) :
    ssqG v (ix2 i 0) = ∑ l : Fin 512, v (ix2 i l) * v (ix2 i l) := by
  pointwise [ssqG]

theorem invV_apply (v0 v1 v2 v3 v4 v5 v6 v7 : FVec Ideal S64x512 .f32) (i : Fin 64) :
    invV v0 v1 v2 v3 v4 v5 v6 v7 (ix2 i 0)
      = Ideal.rsqrt (Ideal.div (ssqG v0 (ix2 i 0) + ssqG v1 (ix2 i 0) + ssqG v2 (ix2 i 0) + ssqG v3 (ix2 i 0)
          + ssqG v4 (ix2 i 0) + ssqG v5 (ix2 i 0) + ssqG v6 (ix2 i 0) + ssqG v7 (ix2 i 0))
        (Ideal.ofBits .f32 0x45800000#32) + Ideal.ofBits .f32 0x358637BD#32) := by
  pointwise [invV]

theorem outChunk_apply (inv : FVec Ideal S64x1 .f32) (y : FVec Ideal S1x64x512 .f32) (g : FVec Ideal S1x512 .f32)
    (i : Fin 64) (l : Fin 512) :
    outChunk inv y g (ix2 i l) = y (ix3 0 i l) * inv (ix2 i 0) * g (ix2 0 l) := by
  pointwise [outChunk]

end Cert.KernelIdeal.Body
-- ==== Proof.Spec.lean ====
/-
  One block of 64 positions as plain functions of natural numbers: what the kernel computes from a block's arrays, one
  scalar expression per stage. Nothing here mentions a buffer or a grid.
-/
module

public import proofs.«01_k».proof.Proof.Scalars

@[expose] public section

noncomputable section

namespace Cert.Ssd

open Idealize.ShloMosaic

/-- A block's arrays: the projected rows and the eight rows before them, the filter, its bias, the step lengths, the
rates, the heads' lanes, the state, the skip, the gate and the norm's scale. -/
structure Blk where
  raw : ℕ → ℕ → EReal
  hist : ℕ → ℕ → EReal
  w : ℕ → ℕ → EReal
  b : ℕ → EReal
  dt : ℕ → ℕ → EReal
  a : ℕ → EReal
  ex : ℕ → ℕ → EReal
  s0 : ℕ → ℕ → ℕ → EReal
  d : ℕ → EReal
  z : ℕ → ℕ → EReal
  ng : ℕ → EReal

namespace Blk

variable (B : Blk)

/-- The rows before the block, then the block. -/
def E (r c : ℕ) : EReal := if r < 8 then B.hist r c else B.raw (r - 8) c

/-- The convolution with its bias. -/
def pre (i c : ℕ) : EReal :=
  B.E (8 + i) c * B.w 3 c + (B.E (7 + i) c * B.w 2 c + (B.E (6 + i) c * B.w 1 c + B.E (5 + i) c * B.w 0 c)) + B.b c

/-- The activated convolution. -/
def X (i c : ℕ) : EReal := B.pre i c * Ideal.logistic (B.pre i c)

/-- The running sum of the log decays, by its rounded part and the remainder. -/
def cum (i h : ℕ) : EReal :=
  (∑ j : Fin 64, if (j : ℕ) ≤ i then B.dt j h * B.a h else 0)
    + ∑ j : Fin 64, if (j : ℕ) ≤ i then B.dt j h * B.a h - B.dt j h * B.a h else 0

/-- The running sum less the step length's logarithm, in units of `log 2`. -/
def cml (i h : ℕ) : EReal := B.cum i h * kap - Ideal.log (B.dt i h) * kap

/-- A position's weight in the state's update. -/
def wgt (i h : ℕ) : EReal := B.dt i h * Ideal.exp (B.cum 63 h - B.cum i h)

/-- The block's decay at a lane of the state. -/
def dec (l : ℕ) : EReal :=
  (∑ k : Fin 128, Ideal.exp (B.cum 63 k) * B.ex k l)
    + ∑ k : Fin 128, (Ideal.exp (B.cum 63 k) - Ideal.exp (B.cum 63 k)) * B.ex k l

/-- A position's score of another, with its decay and step length. -/
def mat (g h i j : ℕ) : EReal :=
  (∑ n : Fin 128, B.X i (5120 + 128 * g + n) * B.X j (4096 + 128 * g + n))
    * Ideal.exp2 (if j ≤ i then B.cum i h * kap - B.cml j h else ⊥)

/-- The outputs before the skip: the block's own positions, and the state read. -/
def Y (g i c : ℕ) : EReal :=
  (∑ j : Fin 64, B.mat g (g * 8 + c / 64) i j * B.X j (512 * g + c))
    + ∑ n : Fin 128, B.X i (5120 + 128 * g + n) * Ideal.exp2 (B.cum i (g * 8 + c / 64) * kap) * B.s0 g n c

/-- The state after the block. -/
def ST (g n c : ℕ) : EReal :=
  B.s0 g n c * B.dec (512 * g + c)
    + ∑ j : Fin 64, B.X j (4096 + 128 * g + n) * B.wgt j (g * 8 + c / 64) * B.X j (512 * g + c)

/-- The outputs with the skip, gated. -/
def YG (g i c : ℕ) : EReal := (B.Y g i c + B.d (512 * g + c) * B.X i (512 * g + c)) * B.z i (512 * g + c)

/-- A group's sum of squares. -/
def ssq (g i : ℕ) : EReal := ∑ c : Fin 512, B.YG g i c * B.YG g i c

/-- The reciprocal root of the mean square. -/
def inv (i : ℕ) : EReal :=
  Ideal.rsqrt (Ideal.div (B.ssq 0 i + B.ssq 1 i + B.ssq 2 i + B.ssq 3 i + B.ssq 4 i + B.ssq 5 i + B.ssq 6 i + B.ssq 7 i)
    (Ideal.ofBits .f32 0x45800000#32) + Ideal.ofBits .f32 0x358637BD#32)

/-- The normed outputs. -/
def out (g i c : ℕ) : EReal := B.YG g i c * B.inv i * B.ng (512 * g + c)

end Blk

end Cert.Ssd
-- ==== Proof.Chain.lean ====
/-
  What the body's buffers hold after each store, in the block's plain functions: the convolved chunks, then per head
  pair an output and a state piece, then the gated groups. One step per kind of store.
-/
module

public import proofs.«01_k».proof.Proof.Values
public import proofs.«01_k».proof.Proof.Spec
public import Idealize.ShloMosaic.Lib.Pipeline.ValueKit

@[expose] public section

set_option maxRecDepth 16384

noncomputable section

namespace Cert.KernelIdeal.Body

open Cert.KernelIdeal Cert.KernelIdeal.Gen Idealize.ShloMosaic Idealize.ShloMosaic.TcCoe Idealize.SL.Sem
open Cert.Ssd

/-- The pieces of a buffer's stores. -/
abbrev Pcs (s : Shape) (e : EltTy) := List (View.Piece (Elt Ideal) s e)

/-- An index the last store holds reads what it stored. -/
theorem canon_hit {s : Shape} {e : EltTy} (r : Rect s) (w : r.shape.Idx → Elt Ideal e) (L : Pcs s e) (x : r.shape.Idx)
    (y : s.Idx) (h : ∀ a, (y a : ℕ) = r.off a + r.stride a * x a) : View.canon (⟨r, w⟩ :: L) y = w x := by
  have e : y = r.emb x := funext fun a => Fin.ext (h a)
  rw [e]; exact View.canon_cons_emb r w L x

/-- The same at rank two, an equation per axis. -/
theorem canon_hit2 {m n a b : ℕ} {e : EltTy} {o p : ℕ} {inb} (w : (⟨2, ![a, b]⟩ : Shape).Idx → Elt Ideal e) (L : Pcs ⟨2, ![m, n]⟩ e)
    (i : Fin a) (j : Fin b) (y : (⟨2, ![m, n]⟩ : Shape).Idx) (h0 : (y 0 : ℕ) = o + i) (h1 : (y 1 : ℕ) = p + j) :
    View.canon (⟨Rect.unit (s := ⟨2, ![m, n]⟩) ![o, p] ![a, b] inb, w⟩ :: L) y = w (ix2 i j) := by
  refine canon_hit (Rect.unit (s := ⟨2, ![m, n]⟩) ![o, p] ![a, b] inb) w L (ix2 i j) y fun x => ?_
  match x with
  | 0 => show (y 0 : ℕ) = o + 1 * (i : ℕ); omega
  | 1 => show (y 1 : ℕ) = p + 1 * (j : ℕ); omega

/-- The same at rank three. -/
theorem canon_hit3 {l m n a b c : ℕ} {e : EltTy} {o p q : ℕ} {inb} (w : (⟨3, ![a, b, c]⟩ : Shape).Idx → Elt Ideal e)
    (L : Pcs ⟨3, ![l, m, n]⟩ e) (i : Fin a) (j : Fin b) (k : Fin c) (y : (⟨3, ![l, m, n]⟩ : Shape).Idx)
    (h0 : (y 0 : ℕ) = o + i) (h1 : (y 1 : ℕ) = p + j) (h2 : (y 2 : ℕ) = q + k) :
    View.canon (⟨Rect.unit (s := ⟨3, ![l, m, n]⟩) ![o, p, q] ![a, b, c] inb, w⟩ :: L) y = w (ix3 i j k) := by
  refine canon_hit (Rect.unit (s := ⟨3, ![l, m, n]⟩) ![o, p, q] ![a, b, c] inb) w L (ix3 i j k) y fun x => ?_
  match x with
  | 0 => show (y 0 : ℕ) = o + 1 * (i : ℕ); omega
  | 1 => show (y 1 : ℕ) = p + 1 * (j : ℕ); omega
  | 2 => show (y 2 : ℕ) = q + 1 * (k : ℕ); omega

/-- A store of a whole buffer of rank four. -/
theorem canon_hit4 {k l m n : ℕ} {e : EltTy} {inb} (w : (⟨4, ![k, l, m, n]⟩ : Shape).Idx → Elt Ideal e)
    (L : Pcs ⟨4, ![k, l, m, n]⟩ e) (i0 : Fin k) (i1 : Fin l) (i2 : Fin m) (i3 : Fin n) (y : (⟨4, ![k, l, m, n]⟩ : Shape).Idx)
    (h0 : (y 0 : ℕ) = i0) (h1 : (y 1 : ℕ) = i1) (h2 : (y 2 : ℕ) = i2) (h3 : (y 3 : ℕ) = i3) :
    View.canon (⟨Rect.unit (s := ⟨4, ![k, l, m, n]⟩) ![0, 0, 0, 0] ![k, l, m, n] inb, w⟩ :: L) y = w (ix4 i0 i1 i2 i3) := by
  refine canon_hit (Rect.unit (s := ⟨4, ![k, l, m, n]⟩) ![0, 0, 0, 0] ![k, l, m, n] inb) w L (ix4 i0 i1 i2 i3) y fun x => ?_
  match x with
  | 0 => show (y 0 : ℕ) = 0 + 1 * (i0 : ℕ); omega
  | 1 => show (y 1 : ℕ) = 0 + 1 * (i1 : ℕ); omega
  | 2 => show (y 2 : ℕ) = 0 + 1 * (i2 : ℕ); omega
  | 3 => show (y 3 : ℕ) = 0 + 1 * (i3 : ℕ); omega

/-- An index the last store misses reads what was there before. -/
theorem canon_miss {s : Shape} {e : EltTy} (off size : Fin s.rank → ℕ) (inb) (w : (Rect.unit off size inb).shape.Idx → Elt Ideal e)
    (L : Pcs s e) (y : s.Idx) (a : Fin s.rank) (h : (y a : ℕ) < off a ∨ off a + size a ≤ y a) :
    View.canon (⟨Rect.unit off size inb, w⟩ :: L) y = View.canon L y := by
  refine View.canon_cons_of_not_mem _ L fun hm => ?_
  have := (Rect.mem_set_unit (inb := inb) (i := y)).mp hm a
  omega

/-- The same at rank three, missed along the first axis. -/
theorem canon_miss3 {l m n a b c : ℕ} {e : EltTy} {o p q : ℕ} {inb} (w : (⟨3, ![a, b, c]⟩ : Shape).Idx → Elt Ideal e)
    (L : Pcs ⟨3, ![l, m, n]⟩ e) (y : (⟨3, ![l, m, n]⟩ : Shape).Idx) (h : (y 0 : ℕ) < o ∨ o + a ≤ (y 0 : ℕ)) :
    View.canon (⟨Rect.unit (s := ⟨3, ![l, m, n]⟩) ![o, p, q] ![a, b, c] inb, w⟩ :: L) y = View.canon L y :=
  canon_miss (s := ⟨3, ![l, m, n]⟩) _ _ inb w L y 0 h

/-- A load of a stored buffer reads its contents at the load's place. -/
theorem load_at {κ : Kind} {sp : Space} {s : Shape} {e : EltTy} (v : View sig κ sp s e) (L : Pcs s e) (r : LoadRect s)
    (x : r.shape.Idx) : v.readCov L r x = View.canon L (r.idx x) := by
  rw [View.readCov_eq_canon']

/-- Two offsets within a shape of rank two. -/
theorem inb2 {m n a b o p : ℕ} (h0 : o + a ≤ m) (h1 : p + b ≤ n) :
    ∀ x, (![o, p] : Fin 2 → ℕ) x + (![a, b] : Fin 2 → ℕ) x ≤ (![m, n] : Fin 2 → ℕ) x := Fin.forall_fin_two.mpr ⟨h0, h1⟩

/-- Three offsets within a shape of rank three. -/
theorem inb3 {l m n a b c o p q : ℕ} (h0 : o + a ≤ l) (h1 : p + b ≤ m) (h2 : q + c ≤ n) :
    ∀ x, (![o, p, q] : Fin 3 → ℕ) x + (![a, b, c] : Fin 3 → ℕ) x ≤ (![l, m, n] : Fin 3 → ℕ) x := by
  intro x
  match x with
  | 0 => exact h0
  | 1 => exact h1
  | 2 => exact h2

/-- A head's row lies in its group. -/
theorem slRow {r : ℕ} (h : r < 8) : S8x64.Slices ![r, 0] S1x64 := by
  refine ⟨rfl, fun x => ?_⟩
  match x with
  | 0 => show r + 1 ≤ 8; omega
  | 1 => show 0 + 64 ≤ 64; omega

/-- A pair's lanes lie in the row of all lanes. -/
theorem slDec {o : ℕ} (h : o + 128 ≤ 4096) : S1x4096.Slices ![0, o] S1x128 := by
  refine ⟨rfl, fun x => ?_⟩
  match x with
  | 0 => show 0 + 1 ≤ 1; omega
  | 1 => show o + 128 ≤ 4096; omega

section Pairs

variable (B : Blk)

/-- The convolved lanes, a pair's or a group's own 128. -/
def ldX (v : View sig .tc .vmem S64x6144 .bf16) (L : Pcs S64x6144 .bf16) (o : ℕ) (h : o + 128 ≤ 6144) :
    FVec Ideal S64x128 .bf16 :=
  v.readCov L (Rect.unit (s := S64x6144) ![0, o] S64x128.size (inb2 (by omega) h)).toLoadRect

/-- A group's rows of an array by head. -/
def ldG (v : View sig .tc .vmem S8x8x64 .f32) (L : Pcs S8x8x64 .f32) (g : ℕ) (h : g < 8) : FVec Ideal S1x8x64 .f32 :=
  v.readCov L (Rect.unit (s := S8x8x64) ![g, 0, 0] S1x8x64.size (inb3 (by omega) (by omega) (by omega))).toLoadRect

/-- A pair's lanes of the state. -/
def ldS (v : View sig .tc .vmem S8x128x512 .f32) (L : Pcs S8x128x512 .f32) (g o : ℕ) (h : g < 8) (ho : o + 128 ≤ 512) :
    FVec Ideal S1x128x128 .f32 :=
  v.readCov L (Rect.unit (s := S8x128x512) ![g, 0, o] S1x128x128.size (inb3 (by omega) (by omega) ho)).toLoadRect

theorem ldX_apply {v : View sig .tc .vmem S64x6144 .bf16} {L : Pcs S64x6144 .bf16}
    (hX : ∀ y : S64x6144.Idx, View.canon L y = B.X (y 0) (y 1)) (o : ℕ) (h : o + 128 ≤ 6144) (i : Fin 64) (l : Fin 128) :
    ldX v L o h (ix2 i l) = B.X i (o + l) := by
  refine (load_at v L _ _).trans ((hX _).trans (congrArg₂ B.X ?_ ?_))
  · show 0 + 1 * (i : ℕ) = _; omega
  · show o + 1 * (l : ℕ) = _; omega

theorem ldG_apply {v : View sig .tc .vmem S8x8x64 .f32} {L : Pcs S8x8x64 .f32} {f : ℕ → ℕ → EReal}
    (hf : ∀ y : S8x8x64.Idx, View.canon L y = f (y 2) ((y 0 : ℕ) * 8 + y 1)) (g : ℕ) (h : g < 8) (r : Fin 8) (i : Fin 64) :
    ldG v L g h (ix3 0 r i) = f i (g * 8 + r) := by
  refine (load_at v L _ _).trans ((hf _).trans (congrArg₂ f ?_ ?_))
  · show 0 + 1 * (i : ℕ) = _; omega
  · show (g + 1 * 0) * 8 + (0 + 1 * (r : ℕ)) = _; omega

theorem ldS_apply {v : View sig .tc .vmem S8x128x512 .f32} {L : Pcs S8x128x512 .f32} {f : ℕ → ℕ → ℕ → EReal}
    (g o : ℕ) (h : g < 8) (ho : o + 128 ≤ 512) (n l : Fin 128)
    (hf : ∀ y : S8x128x512.Idx, (y 0 : ℕ) = g → (y 1 : ℕ) = n → (y 2 : ℕ) = o + l → View.canon L y = f g n (o + l)) :
    ldS v L g o h ho (ix3 0 n l) = f g n (o + l) := by
  refine (load_at v L _ _).trans (hf _ ?_ ?_ ?_)
  · show g + 1 * 0 = _; omega
  · show 0 + 1 * (n : ℕ) = _; omega
  · show o + 1 * (l : ℕ) = _; omega

theorem slice_dec (d : FVec Ideal S1x4096 .f32) {o : ℕ} (h : S1x4096.Slices ![0, o] S1x128) (l : Fin 128)
    (hl : o + l < 4096) : extractStridedSlice S1x128 ![0, o] d h (ix2 0 l) = d (ix2 0 ⟨o + l, hl⟩) := by
  pointwise []

/-- After `k` head pairs: their outputs are stored, their lanes of the state are updated, the other lanes are not. -/
def Pairs (k : ℕ) (LY : Pcs S8x64x512 .f32) (LS : Pcs S8x128x512 .f32) : Prop :=
  (∀ y : S8x64x512.Idx, 4 * (y 0 : ℕ) + (y 2 : ℕ) / 128 < k → View.canon LY y = B.Y (y 0) (y 1) (y 2))
    ∧ ∀ y : S8x128x512.Idx, View.canon LS y
        = if 4 * (y 0 : ℕ) + (y 2 : ℕ) / 128 < k then B.ST (y 0) (y 1) (y 2) else B.s0 (y 0) (y 1) (y 2)

set_option maxHeartbeats 1600000 in
/-- One head pair. -/
theorem pairs_step {vX : View sig .tc .vmem S64x6144 .bf16} {LX : Pcs S64x6144 .bf16}
    {vC vM vW : View sig .tc .vmem S8x8x64 .f32} {LC LM LW : Pcs S8x8x64 .f32} {vS : View sig .tc .vmem S8x128x512 .f32}
    {decv : FVec Ideal S1x4096 .f32}
    (hX : ∀ y : S64x6144.Idx, View.canon LX y = B.X (y 0) (y 1))
    (hC : ∀ y : S8x8x64.Idx, View.canon LC y = B.cum (y 2) ((y 0 : ℕ) * 8 + y 1) * kap)
    (hM : ∀ y : S8x8x64.Idx, View.canon LM y = B.cml (y 2) ((y 0 : ℕ) * 8 + y 1))
    (hW : ∀ y : S8x8x64.Idx, View.canon LW y = B.wgt (y 2) ((y 0 : ℕ) * 8 + y 1))
    (hD : ∀ l : Fin 4096, decv (ix2 0 l) = B.dec l)
    {k : ℕ} {LY : Pcs S8x64x512 .f32} {LS : Pcs S8x128x512 .f32} (hk : k < 32)
    {iY : ∀ a, (![k / 4, 0, 128 * (k % 4)] : Fin 3 → ℕ) a + S1x64x128.size a ≤ S8x64x512.size a}
    {iS : ∀ a, (![k / 4, 0, 128 * (k % 4)] : Fin 3 → ℕ) a + S1x128x128.size a ≤ S8x128x512.size a}
    {wY : FVec Ideal S1x64x128 .f32} {wS : FVec Ideal S1x128x128 .f32}
    (hY : wY = yPair (ldX vX LX (4096 + 128 * (k / 4)) (by omega)) (ldX vX LX (5120 + 128 * (k / 4)) (by omega))
      (ldG vC LC (k / 4) (by omega)) (ldG vM LM (k / 4) (by omega)) (2 * (k % 4)) (2 * (k % 4) + 1)
      (slRow (by omega)) (slRow (by omega)) (ldX vX LX (512 * (k / 4) + 128 * (k % 4)) (by omega))
      (ldS vS LS (k / 4) (128 * (k % 4)) (by omega) (by omega)))
    (hS : wS = stPair (ldX vX LX (4096 + 128 * (k / 4)) (by omega)) (ldG vW LW (k / 4) (by omega))
      (2 * (k % 4)) (2 * (k % 4) + 1) (slRow (by omega)) (slRow (by omega))
      (ldX vX LX (512 * (k / 4) + 128 * (k % 4)) (by omega))
      (ldS vS LS (k / 4) (128 * (k % 4)) (by omega) (by omega))
      (extractStridedSlice S1x128 ![0, 512 * (k / 4) + 128 * (k % 4)] decv (slDec (by omega))))
    (ih : Pairs B k LY LS) :
    Pairs B (k + 1) (⟨Rect.unit (s := S8x64x512) ![k / 4, 0, 128 * (k % 4)] S1x64x128.size iY, wY⟩ :: LY)
      (⟨Rect.unit (s := S8x128x512) ![k / 4, 0, 128 * (k % 4)] S1x128x128.size iS, wS⟩ :: LS) := by
  obtain ⟨ihY, ihS⟩ := ih
  have hs0 : ∀ n l : Fin 128, ldS vS LS (k / 4) (128 * (k % 4)) (by omega) (by omega) (ix3 0 n l)
      = B.s0 (k / 4) n (128 * (k % 4) + l) := fun n l => ldS_apply _ _ _ _ n l fun y h0 h1 h2 => by
    rw [ihS y, if_neg (by have := l.isLt; omega), h0, h1, h2]
  refine ⟨fun y hy => ?_, fun y => ?_⟩
  · have b0 : (y 0 : ℕ) < 8 := (y 0).isLt
    have b1 : (y 1 : ℕ) < 64 := (y 1).isLt
    have b2 : (y 2 : ℕ) < 512 := (y 2).isLt
    by_cases hh : 4 * (y 0 : ℕ) + (y 2 : ℕ) / 128 < k
    · by_cases h0 : (y 0 : ℕ) = k / 4
      · exact (canon_miss _ _ iY wY LY y 2 (.inl (show (y 2 : ℕ) < 128 * (k % 4) by omega))).trans (ihY y hh)
      · exact (canon_miss _ _ iY wY LY y 0 (.inl (show (y 0 : ℕ) < k / 4 by omega))).trans (ihY y hh)
    · have e0 : (y 0 : ℕ) = k / 4 := by omega
      have hl : (y 2 : ℕ) - 128 * (k % 4) < 128 := by omega
      have e2 : (y 2 : ℕ) = 128 * (k % 4) + ((y 2 : ℕ) - 128 * (k % 4)) := by omega
      refine (canon_hit (Rect.unit (s := S8x64x512) ![k / 4, 0, 128 * (k % 4)] S1x64x128.size iY) wY LY
        (ix3 (0 : Fin 1) (⟨y 1, b1⟩ : Fin 64) (⟨(y 2 : ℕ) - 128 * (k % 4), hl⟩ : Fin 128)) y fun a => ?_).trans ?_
      · match a with
        | 0 => exact e0
        | 1 => show (y 1 : ℕ) = 0 + 1 * (y 1 : ℕ); omega
        | 2 => show (y 2 : ℕ) = 128 * (k % 4) + 1 * ((y 2 : ℕ) - 128 * (k % 4)); omega
      · generalize hlv : (y 2 : ℕ) - 128 * (k % 4) = lv at hl e2
        have hq : (y 2 : ℕ) / 64 = if lv < 64 then 2 * (k % 4) else 2 * (k % 4) + 1 := by split <;> omega
        have hq8 : (y 2 : ℕ) / 64 < 8 := by omega
        rw [hY, yPair_apply _ _ _ _ _ _ _ _ _ _ _ _ ((y 2 : ℕ) / 64) (slRow hq8) hq, e0]
        refine congrArg₂ (· + ·) (Finset.sum_congr rfl fun j _ => congrArg₂ (· * ·) ?_ ?_)
          (Finset.sum_congr rfl fun n _ => congrArg₂ (· * ·) ?_ ?_)
        · rw [matH_apply, rowOf_apply _ _ _ hq8, rowOf_apply _ _ _ hq8, ldG_apply (f := fun i h => B.cum i h * kap) hC,
            ldG_apply hM]
          refine congrArg₂ (· * ·) (Finset.sum_congr rfl fun n _ => ?_) rfl
          rw [ldX_apply B hX, ldX_apply B hX]
        · rw [ldX_apply B hX]
          exact congrArg (B.X j) (by show _ + lv = _; omega)
        · rw [csH_apply, rowOf_apply _ _ _ hq8, ldG_apply (f := fun i h => B.cum i h * kap) hC, ldX_apply B hX]
        · rw [hs0]
          exact congrArg (B.s0 _ n) e2.symm
  · have b0 : (y 0 : ℕ) < 8 := (y 0).isLt
    have b1 : (y 1 : ℕ) < 128 := (y 1).isLt
    have b2 : (y 2 : ℕ) < 512 := (y 2).isLt
    by_cases hh : 4 * (y 0 : ℕ) + (y 2 : ℕ) / 128 = k
    · have e0 : (y 0 : ℕ) = k / 4 := by omega
      have hl : (y 2 : ℕ) - 128 * (k % 4) < 128 := by omega
      have e2 : (y 2 : ℕ) = 128 * (k % 4) + ((y 2 : ℕ) - 128 * (k % 4)) := by omega
      rw [if_pos (by omega)]
      refine (canon_hit (Rect.unit (s := S8x128x512) ![k / 4, 0, 128 * (k % 4)] S1x128x128.size iS) wS LS
        (ix3 (0 : Fin 1) (⟨y 1, b1⟩ : Fin 128) (⟨(y 2 : ℕ) - 128 * (k % 4), hl⟩ : Fin 128)) y fun a => ?_).trans ?_
      · match a with
        | 0 => exact e0
        | 1 => show (y 1 : ℕ) = 0 + 1 * (y 1 : ℕ); omega
        | 2 => show (y 2 : ℕ) = 128 * (k % 4) + 1 * ((y 2 : ℕ) - 128 * (k % 4)); omega
      · generalize hlv : (y 2 : ℕ) - 128 * (k % 4) = lv at hl e2
        have hq : (y 2 : ℕ) / 64 = if lv < 64 then 2 * (k % 4) else 2 * (k % 4) + 1 := by split <;> omega
        have hq8 : (y 2 : ℕ) / 64 < 8 := by omega
        rw [hS, stPair_apply _ _ _ _ _ _ _ _ _ _ _ ((y 2 : ℕ) / 64) (slRow hq8) hq, e0, hs0]
        refine congrArg₂ (· + ·) (congrArg₂ (· * ·) (congrArg (B.s0 _ _) e2.symm) ?_)
          (Finset.sum_congr rfl fun j _ => congrArg₂ (· * ·) ?_ ?_)
        · refine (slice_dec decv (slDec (by omega)) ⟨lv, hl⟩ (by show _ + lv < _; omega)).trans ((hD _).trans (congrArg B.dec ?_))
          show 512 * (k / 4) + 128 * (k % 4) + lv = _
          omega
        · rw [bwH_apply, rowOf_apply _ _ _ hq8, ldG_apply hW, ldX_apply B hX]
        · rw [ldX_apply B hX]
          exact congrArg (B.X j) (by show _ + lv = _; omega)
    · have hif : (4 * (y 0 : ℕ) + (y 2 : ℕ) / 128 < k + 1) = (4 * (y 0 : ℕ) + (y 2 : ℕ) / 128 < k) := by
        apply propext; omega
      simp only [hif]
      rw [← ihS y]
      by_cases h0 : (y 0 : ℕ) = k / 4
      · exact canon_miss _ _ iS wS LS y 2 (show (y 2 : ℕ) < 128 * (k % 4) ∨ 128 * (k % 4) + 128 ≤ (y 2 : ℕ) by omega)
      · exact canon_miss _ _ iS wS LS y 0 (show (y 0 : ℕ) < k / 4 ∨ k / 4 + 1 ≤ (y 0 : ℕ) by omega)

end Pairs

end Cert.KernelIdeal.Body
-- ==== Proof.Groups.lean ====
/-
  The stores before and after the head pairs: the convolved chunks with the rows kept for the next block, the first
  state, the arrays by head, the gated groups, the normed outputs and the last state.
-/
module

public import proofs.«01_k».proof.Proof.Chain

@[expose] public section

set_option maxRecDepth 16384

noncomputable section

namespace Cert.KernelIdeal.Body

open Cert.KernelIdeal Cert.KernelIdeal.Gen Idealize.ShloMosaic Idealize.ShloMosaic.TcCoe Idealize.SL.Sem
open Cert.Ssd

variable (B : Blk)

/-- A load of an argument that holds `x` reads `x` at the load's place. -/
theorem arg_at {s : Shape} {e : EltTy} (m : Memref sig .tc .vmem s e) (hm : m.IsWhole) (x : s.Idx → Elt Ideal e)
    (r : LoadRect s) (j : r.shape.Idx) : View.readAt (Elt Ideal) m.view r (hm.unread x) j = x (r.idx j) := by
  rw [View.readAt_apply, hm.read_unread]

/-- The body's arguments are the block's arrays. -/
structure Reads (x0 : Vec Ideal S64x6144 .bf16) (x1 : Vec Ideal S64x4096 .bf16) (x2 : Vec Ideal S64x128 .f32)
    (x3 : Vec Ideal S1x8x6144 .f32) (x4 : Vec Ideal S1x8x128x512 .f32) (x5 : Vec Ideal S4x6144 .f32)
    (x6 : Vec Ideal S1x6144 .f32) (x7 : Vec Ideal S1x128 .f32) (x8 x9 : Vec Ideal S1x4096 .f32)
    (x10 : Vec Ideal S128x4096 .bf16) : Prop where
  raw : ∀ y : S64x6144.Idx, x0 y = B.raw (y 0) (y 1)
  z : ∀ y : S64x4096.Idx, x1 y = B.z (y 0) (y 1)
  dt : ∀ y : S64x128.Idx, x2 y = B.dt (y 0) (y 1)
  hist : ∀ y : S1x8x6144.Idx, x3 y = B.hist (y 1) (y 2)
  s0 : ∀ y : S1x8x128x512.Idx, x4 y = B.s0 (y 1) (y 2) (y 3)
  w : ∀ y : S4x6144.Idx, x5 y = B.w (y 0) (y 1)
  b : ∀ y : S1x6144.Idx, x6 y = B.b (y 1)
  a : ∀ y : S1x128.Idx, x7 y = B.a (y 1)
  d : ∀ y : S1x4096.Idx, x8 y = B.d (y 1)
  ng : ∀ y : S1x4096.Idx, x9 y = B.ng (y 1)
  ex : ∀ y : S128x4096.Idx, x10 y = B.ex (y 0) (y 1)

/-- After `k` chunks: their lanes are convolved, the other lanes' history is still there. -/
def Conv (k : ℕ) (L0 : Pcs S64x6144 .bf16) (L1 : Pcs S8x6144 .f32) : Prop :=
  (∀ y : S64x6144.Idx, (y 1 : ℕ) / 512 < k → View.canon L0 y = B.X (y 0) (y 1))
    ∧ ∀ y : S8x6144.Idx, 512 * k ≤ (y 1 : ℕ) → View.canon L1 y = B.hist (y 0) (y 1)

theorem hist_cast (v : FVec Ideal S1x8x6144 .f32) (i : Fin 8) (j : Fin 6144) :
    shapeCast S8x6144 (shapeCast S8x6144 v shapeCasts_S1x8x6144_S8x6144) shapeCasts_S8x6144_S8x6144 (ix2 i j)
      = v (ix3 0 i j) := by
  pointwise []

/-- Before the first chunk the history holds the rows before the block. -/
theorem conv_zero {m : Memref sig .tc .vmem S1x8x6144 .f32} {hm : m.IsWhole} {x3 : Vec Ideal S1x8x6144 .f32}
    (hx : ∀ y : S1x8x6144.Idx, x3 y = B.hist (y 1) (y 2)) {i0 i1} {w : FVec Ideal S8x6144 .f32}
    (hw : w = shapeCast S8x6144 (shapeCast S8x6144 (View.readAt (Elt Ideal) m.view
      (Rect.unit (s := S1x8x6144) ![0, 0, 0] S1x8x6144.size i0).toLoadRect (hm.unread x3) : FVec Ideal S1x8x6144 .f32)
        shapeCasts_S1x8x6144_S8x6144) shapeCasts_S8x6144_S8x6144) :
    Conv B 0 [] [⟨Rect.unit (s := S8x6144) ![0, 0] S8x6144.size i1, w⟩] := by
  constructor
  · intro y hy
    exfalso
    omega
  · intro y _
    have b0 : (y 0 : ℕ) < 8 := (y 0).isLt
    have b1 : (y 1 : ℕ) < 6144 := (y 1).isLt
    refine (canon_hit2 (m := 8) (n := 6144) (a := 8) (b := 6144) (e := .f32) (o := 0) (p := 0) w [] (⟨y 0, b0⟩ : Fin 8) (⟨y 1, b1⟩ : Fin 6144) y (Nat.zero_add _).symm
      (Nat.zero_add _).symm).trans ?_
    rw [hw, hist_cast]
    refine (arg_at m hm x3 _ _).trans ((hx _).trans (congrArg₂ B.hist ?_ ?_))
    · show 0 + 1 * (y 0 : ℕ) = _; omega
    · show 0 + 1 * (y 1 : ℕ) = _; omega

set_option maxHeartbeats 1600000 in
/-- One chunk. -/
theorem conv_step {m2 : Memref sig .tc .vmem S64x6144 .bf16} {hm2 : m2.IsWhole} {x0 : Vec Ideal S64x6144 .bf16}
    {m7 : Memref sig .tc .vmem S4x6144 .f32} {hm7 : m7.IsWhole} {x5 : Vec Ideal S4x6144 .f32}
    {m8 : Memref sig .tc .vmem S1x6144 .f32} {hm8 : m8.IsWhole} {x6 : Vec Ideal S1x6144 .f32}
    {vH : View sig .tc .vmem S8x6144 .f32}
    (hr : ∀ y : S64x6144.Idx, x0 y = B.raw (y 0) (y 1)) (hw : ∀ y : S4x6144.Idx, x5 y = B.w (y 0) (y 1))
    (hb : ∀ y : S1x6144.Idx, x6 y = B.b (y 1))
    {k : ℕ} {L0 : Pcs S64x6144 .bf16} {L1 : Pcs S8x6144 .f32} (hk : k < 12) {i0 i1}
    {w : FVec Ideal S64x512 .bf16} {t : FVec Ideal S8x512 .f32}
    (e : w = convChunk
      (vH.readCov L1 (Rect.unit (s := S8x6144) ![0, 512 * k] S8x512.size (inb2 (by omega) (by omega))).toLoadRect)
      (View.readAt (Elt Ideal) m2.view
        (Rect.unit (s := S64x6144) ![0, 512 * k] S64x512.size (inb2 (by omega) (by omega))).toLoadRect (hm2.unread x0))
      (View.readAt (Elt Ideal) m7.view
        (Rect.unit (s := S4x6144) ![0, 512 * k] S1x512.size (inb2 (by omega) (by omega))).toLoadRect (hm7.unread x5))
      (View.readAt (Elt Ideal) m7.view
        (Rect.unit (s := S4x6144) ![1, 512 * k] S1x512.size (inb2 (by omega) (by omega))).toLoadRect (hm7.unread x5))
      (View.readAt (Elt Ideal) m7.view
        (Rect.unit (s := S4x6144) ![2, 512 * k] S1x512.size (inb2 (by omega) (by omega))).toLoadRect (hm7.unread x5))
      (View.readAt (Elt Ideal) m7.view
        (Rect.unit (s := S4x6144) ![3, 512 * k] S1x512.size (inb2 (by omega) (by omega))).toLoadRect (hm7.unread x5))
      (View.readAt (Elt Ideal) m8.view
        (Rect.unit (s := S1x6144) ![0, 512 * k] S1x512.size (inb2 (by omega) (by omega))).toLoadRect (hm8.unread x6)))
    (ih : Conv B k L0 L1) :
    Conv B (k + 1) (⟨Rect.unit (s := S64x6144) ![0, 512 * k] S64x512.size i0, w⟩ :: L0)
      (⟨Rect.unit (s := S8x6144) ![0, 512 * k] S8x512.size i1, t⟩ :: L1) := by
  obtain ⟨ih0, ih1⟩ := ih
  refine ⟨fun y hy => ?_, fun y hy => ?_⟩
  · have b0 : (y 0 : ℕ) < 64 := (y 0).isLt
    have b1 : (y 1 : ℕ) < 6144 := (y 1).isLt
    by_cases hh : (y 1 : ℕ) / 512 < k
    · exact (canon_miss _ _ i0 w L0 y 1 (.inl (show (y 1 : ℕ) < 512 * k by omega))).trans (ih0 y hh)
    · have hl : (y 1 : ℕ) - 512 * k < 512 := by omega
      have e1 : (y 1 : ℕ) = 512 * k + ((y 1 : ℕ) - 512 * k) := by omega
      refine (canon_hit (Rect.unit (s := S64x6144) ![0, 512 * k] S64x512.size i0) w L0
        (ix2 (⟨y 0, b0⟩ : Fin 64) (⟨(y 1 : ℕ) - 512 * k, hl⟩ : Fin 512)) y fun a => ?_).trans ?_
      · match a with
        | 0 => show (y 0 : ℕ) = 0 + 1 * (y 0 : ℕ); omega
        | 1 => show (y 1 : ℕ) = 512 * k + 1 * ((y 1 : ℕ) - 512 * k); omega
      · generalize (y 1 : ℕ) - 512 * k = lv at hl e1
        have hp : ∀ i : Fin 64, convPre
            (vH.readCov L1 (Rect.unit (s := S8x6144) ![0, 512 * k] S8x512.size (inb2 (by omega) (by omega))).toLoadRect)
            (View.readAt (Elt Ideal) m2.view
              (Rect.unit (s := S64x6144) ![0, 512 * k] S64x512.size (inb2 (by omega) (by omega))).toLoadRect (hm2.unread x0))
            (View.readAt (Elt Ideal) m7.view
              (Rect.unit (s := S4x6144) ![0, 512 * k] S1x512.size (inb2 (by omega) (by omega))).toLoadRect (hm7.unread x5))
            (View.readAt (Elt Ideal) m7.view
              (Rect.unit (s := S4x6144) ![1, 512 * k] S1x512.size (inb2 (by omega) (by omega))).toLoadRect (hm7.unread x5))
            (View.readAt (Elt Ideal) m7.view
              (Rect.unit (s := S4x6144) ![2, 512 * k] S1x512.size (inb2 (by omega) (by omega))).toLoadRect (hm7.unread x5))
            (View.readAt (Elt Ideal) m7.view
              (Rect.unit (s := S4x6144) ![3, 512 * k] S1x512.size (inb2 (by omega) (by omega))).toLoadRect (hm7.unread x5))
            (View.readAt (Elt Ideal) m8.view
              (Rect.unit (s := S1x6144) ![0, 512 * k] S1x512.size (inb2 (by omega) (by omega))).toLoadRect (hm8.unread x6))
            (ix2 i (⟨lv, hl⟩ : Fin 512)) = B.pre i (512 * k + lv) := fun i => by
          rw [convPre_apply _ _ _ _ _ _ _ i ⟨lv, hl⟩ (fun r => B.E r (512 * k + lv))]
          · unfold Blk.pre
            refine congrArg₂ (· + ·) (congrArg₂ (· + ·) (congrArg₂ (· * ·) rfl ?_) (congrArg₂ (· + ·)
              (congrArg₂ (· * ·) rfl ?_) (congrArg₂ (· + ·) (congrArg₂ (· * ·) rfl ?_) (congrArg₂ (· * ·) rfl ?_)))) ?_
            · refine (arg_at m7 hm7 x5 _ _).trans ((hw _).trans (congrArg₂ B.w ?_ ?_))
              · rfl
              · show 512 * k + 1 * lv = _; omega
            · refine (arg_at m7 hm7 x5 _ _).trans ((hw _).trans (congrArg₂ B.w ?_ ?_))
              · rfl
              · show 512 * k + 1 * lv = _; omega
            · refine (arg_at m7 hm7 x5 _ _).trans ((hw _).trans (congrArg₂ B.w ?_ ?_))
              · rfl
              · show 512 * k + 1 * lv = _; omega
            · refine (arg_at m7 hm7 x5 _ _).trans ((hw _).trans (congrArg₂ B.w ?_ ?_))
              · rfl
              · show 512 * k + 1 * lv = _; omega
            · refine (arg_at m8 hm8 x6 _ _).trans ((hb _).trans (congrArg B.b ?_))
              show 512 * k + 1 * lv = _; omega
          · intro r
            have hr8 := r.isLt
            refine (load_at vH L1 _ _).trans ((ih1 _ ?_).trans ?_)
            · show 512 * k ≤ 512 * k + 1 * lv; omega
            · unfold Blk.E
              rw [if_pos hr8]
              refine congrArg₂ B.hist ?_ ?_
              · show 0 + 1 * (r : ℕ) = _; omega
              · show 512 * k + 1 * lv = _; omega
          · intro r
            refine (arg_at m2 hm2 x0 _ _).trans ((hr _).trans ?_)
            unfold Blk.E
            rw [if_neg (by omega)]
            refine congrArg₂ B.raw ?_ ?_
            · show 0 + 1 * (r : ℕ) = _; omega
            · show 512 * k + 1 * lv = _; omega
        rw [e, convChunk_apply, hp, e1]
        rfl
  · have b1 : (y 1 : ℕ) < 6144 := (y 1).isLt
    exact (canon_miss _ _ i1 t L1 y 1 (.inr (show 512 * k + 512 ≤ (y 1 : ℕ) by omega))).trans (ih1 y (by omega))

section Heads

variable {dt : FVec Ideal S64x128 .f32} {a : FVec Ideal S1x128 .f32}
  (hdt : ∀ (i : Fin 64) (l : Fin 128), dt (ix2 i l) = B.dt i l) (ha : ∀ l : Fin 128, a (ix2 0 l) = B.a l)

include hdt ha

theorem cum_at (i : Fin 64) (l : Fin 128) : cumV dt a (ix2 i l) = B.cum i l := by
  rw [cumV_apply]
  simp only [hdt, ha]
  rfl

/-- The array of running sums, stored whole. -/
theorem cumt_canon {i0} {w : FVec Ideal S8x8x64 .f32} (hw : w = cumtV dt a) (y : S8x8x64.Idx) :
    View.canon ([⟨Rect.unit (s := S8x8x64) ![0, 0, 0] S8x8x64.size i0, w⟩] : Pcs S8x8x64 .f32) y
      = B.cum (y 2) ((y 0 : ℕ) * 8 + y 1) * kap := by
  have b0 : (y 0 : ℕ) < 8 := (y 0).isLt
  have b1 : (y 1 : ℕ) < 8 := (y 1).isLt
  have b2 : (y 2 : ℕ) < 64 := (y 2).isLt
  refine (canon_hit3 (l := 8) (m := 8) (n := 64) (a := 8) (b := 8) (c := 64) (e := .f32) (o := 0) (p := 0) (q := 0) w []
    ⟨y 0, b0⟩ ⟨y 1, b1⟩ ⟨y 2, b2⟩ y (Nat.zero_add _).symm (Nat.zero_add _).symm (Nat.zero_add _).symm).trans ?_
  rw [hw, cumtV_apply, cum_at B hdt ha]

/-- The same less the step lengths' logarithms. -/
theorem cml_canon {i0} {w : FVec Ideal S8x8x64 .f32} (hw : w = cmlV dt a) (y : S8x8x64.Idx) :
    View.canon ([⟨Rect.unit (s := S8x8x64) ![0, 0, 0] S8x8x64.size i0, w⟩] : Pcs S8x8x64 .f32) y = B.cml (y 2) ((y 0 : ℕ) * 8 + y 1) := by
  have b0 : (y 0 : ℕ) < 8 := (y 0).isLt
  have b1 : (y 1 : ℕ) < 8 := (y 1).isLt
  have b2 : (y 2 : ℕ) < 64 := (y 2).isLt
  refine (canon_hit3 (l := 8) (m := 8) (n := 64) (a := 8) (b := 8) (c := 64) (e := .f32) (o := 0) (p := 0) (q := 0) w []
    ⟨y 0, b0⟩ ⟨y 1, b1⟩ ⟨y 2, b2⟩ y (Nat.zero_add _).symm (Nat.zero_add _).symm (Nat.zero_add _).symm).trans ?_
  rw [hw, cmlV_apply, cum_at B hdt ha, hdt]
  rfl

/-- The weights, stored whole. -/
theorem wgt_canon {i0} {w : FVec Ideal S8x8x64 .f32} (hw : w = wgtV dt a) (y : S8x8x64.Idx) :
    View.canon ([⟨Rect.unit (s := S8x8x64) ![0, 0, 0] S8x8x64.size i0, w⟩] : Pcs S8x8x64 .f32) y = B.wgt (y 2) ((y 0 : ℕ) * 8 + y 1) := by
  have b0 : (y 0 : ℕ) < 8 := (y 0).isLt
  have b1 : (y 1 : ℕ) < 8 := (y 1).isLt
  have b2 : (y 2 : ℕ) < 64 := (y 2).isLt
  refine (canon_hit3 (l := 8) (m := 8) (n := 64) (a := 8) (b := 8) (c := 64) (e := .f32) (o := 0) (p := 0) (q := 0) w []
    ⟨y 0, b0⟩ ⟨y 1, b1⟩ ⟨y 2, b2⟩ y (Nat.zero_add _).symm (Nat.zero_add _).symm (Nat.zero_add _).symm).trans ?_
  rw [hw, wgtV_apply, cum_at B hdt ha, cum_at B hdt ha, hdt]
  rfl

/-- The block's decay by lane. -/
theorem dec_at {ex : FVec Ideal S128x4096 .bf16} (hex : ∀ (k : Fin 128) (l : Fin 4096), ex (ix2 k l) = B.ex k l)
    (l : Fin 4096) : decV dt a ex (ix2 0 l) = B.dec l := by
  rw [decV_apply]
  simp only [cum_at B hdt ha, hex]
  rfl

end Heads

theorem st_cast (v : FVec Ideal S1x8x128x512 .f32) (g : Fin 8) (n : Fin 128) (l : Fin 512) :
    shapeCast S8x128x512 (shapeCast S8x128x512 v shapeCasts_S1x8x128x512_S8x128x512) shapeCasts_S8x128x512_S8x128x512
      (ix3 g n l) = v (ix4 0 g n l) := by
  pointwise []

theorem st_cast' (v : FVec Ideal S8x128x512 .f32) (g : Fin 8) (n : Fin 128) (l : Fin 512) :
    shapeCast S1x8x128x512 v shapeCasts_S8x128x512_S1x8x128x512 (ix4 0 g n l) = v (ix3 g n l) := by
  pointwise []

/-- Before the first head pair the state is the given one. -/
theorem pairs_zero {m : Memref sig .tc .vmem S1x8x128x512 .f32} {hm : m.IsWhole} {x4 : Vec Ideal S1x8x128x512 .f32}
    (hx : ∀ y : S1x8x128x512.Idx, x4 y = B.s0 (y 1) (y 2) (y 3)) {i0 i1} {w : FVec Ideal S8x128x512 .f32}
    (hw : w = shapeCast S8x128x512 (shapeCast S8x128x512 (View.readAt (Elt Ideal) m.view
      (Rect.unit (s := S1x8x128x512) ![0, 0, 0, 0] S1x8x128x512.size i0).toLoadRect (hm.unread x4) : FVec Ideal S1x8x128x512 .f32)
        shapeCasts_S1x8x128x512_S8x128x512) shapeCasts_S8x128x512_S8x128x512) :
    Pairs B 0 [] [⟨Rect.unit (s := S8x128x512) ![0, 0, 0] S8x128x512.size i1, w⟩] := by
  constructor
  · intro y hy
    exfalso
    omega
  · intro y
    have b0 : (y 0 : ℕ) < 8 := (y 0).isLt
    have b1 : (y 1 : ℕ) < 128 := (y 1).isLt
    have b2 : (y 2 : ℕ) < 512 := (y 2).isLt
    rw [if_neg (by omega)]
    refine (canon_hit3 (l := 8) (m := 128) (n := 512) (a := 8) (b := 128) (c := 512) (e := .f32) (o := 0) (p := 0) (q := 0) w []
      ⟨y 0, b0⟩ ⟨y 1, b1⟩ ⟨y 2, b2⟩ y (Nat.zero_add _).symm (Nat.zero_add _).symm (Nat.zero_add _).symm).trans ?_
    rw [hw, st_cast]
    refine (arg_at m hm x4 _ _).trans ((hx _).trans ?_)
    have e0 : 0 + 1 * (y 0 : ℕ) = y 0 := by omega
    have e1 : 0 + 1 * (y 1 : ℕ) = y 1 := by omega
    have e2 : 0 + 1 * (y 2 : ℕ) = y 2 := by omega
    show B.s0 (0 + 1 * (y 0 : ℕ)) (0 + 1 * (y 1 : ℕ)) (0 + 1 * (y 2 : ℕ)) = _
    rw [e0, e1, e2]

/-- After `k` groups: theirs are gated, the others are as the head pairs left them. -/
def Gated (k : ℕ) (LY : Pcs S8x64x512 .f32) : Prop :=
  ∀ y : S8x64x512.Idx, View.canon LY y = if (y 0 : ℕ) < k then B.YG (y 0) (y 1) (y 2) else B.Y (y 0) (y 1) (y 2)

/-- A group's outputs. -/
def ldY (v : View sig .tc .vmem S8x64x512 .f32) (L : Pcs S8x64x512 .f32) (g : ℕ) (h : g < 8) : FVec Ideal S1x64x512 .f32 :=
  v.readCov L (Rect.unit (s := S8x64x512) ![g, 0, 0] S1x64x512.size (inb3 (by omega) (by omega) (by omega))).toLoadRect

/-- A group's convolved lanes. -/
def ldXg (v : View sig .tc .vmem S64x6144 .bf16) (L : Pcs S64x6144 .bf16) (g : ℕ) (h : g < 8) : FVec Ideal S64x512 .bf16 :=
  v.readCov L (Rect.unit (s := S64x6144) ![0, 512 * g] S64x512.size (inb2 (by omega) (by omega))).toLoadRect

/-- A group's gate. -/
def ldZ (m : Memref sig .tc .vmem S64x4096 .bf16) (hm : m.IsWhole) (x : Vec Ideal S64x4096 .bf16) (g : ℕ) (h : g < 8) :
    FVec Ideal S64x512 .bf16 :=
  View.readAt (Elt Ideal) m.view
    (Rect.unit (s := S64x4096) ![0, 512 * g] S64x512.size (inb2 (by omega) (by omega))).toLoadRect (hm.unread x)

/-- A group's lanes of a row. -/
def ldR (m : Memref sig .tc .vmem S1x4096 .f32) (hm : m.IsWhole) (x : Vec Ideal S1x4096 .f32) (g : ℕ) (h : g < 8) :
    FVec Ideal S1x512 .f32 :=
  View.readAt (Elt Ideal) m.view
    (Rect.unit (s := S1x4096) ![0, 512 * g] S1x512.size (inb2 (by omega) (by omega))).toLoadRect (hm.unread x)

section Gate

variable {vX : View sig .tc .vmem S64x6144 .bf16} {LX : Pcs S64x6144 .bf16} {vY : View sig .tc .vmem S8x64x512 .f32}
  {m3 : Memref sig .tc .vmem S64x4096 .bf16} {hm3 : m3.IsWhole} {x1 : Vec Ideal S64x4096 .bf16}
  {m10 : Memref sig .tc .vmem S1x4096 .f32} {hm10 : m10.IsWhole} {x8 : Vec Ideal S1x4096 .f32}

theorem ldY_apply {L : Pcs S8x64x512 .f32} {k : ℕ} (hL : Gated B k L) (g : ℕ) (h : g < 8) (i : Fin 64) (l : Fin 512) :
    ldY vY L g h (ix3 0 i l) = if g < k then B.YG g i l else B.Y g i l := by
  refine (load_at vY L _ _).trans ((hL _).trans ?_)
  have e0 : g + 1 * 0 = g := by omega
  have e1 : 0 + 1 * (i : ℕ) = i := by omega
  have e2 : 0 + 1 * (l : ℕ) = l := by omega
  show (if g + 1 * 0 < k then B.YG (g + 1 * 0) (0 + 1 * (i : ℕ)) (0 + 1 * (l : ℕ))
    else B.Y (g + 1 * 0) (0 + 1 * (i : ℕ)) (0 + 1 * (l : ℕ))) = _
  rw [e0, e1, e2]

theorem ldR_apply {f : ℕ → EReal} (hf : ∀ y : S1x4096.Idx, x8 y = f (y 1)) (g : ℕ) (h : g < 8) (l : Fin 512) :
    ldR m10 hm10 x8 g h (ix2 0 l) = f (512 * g + l) := by
  refine (arg_at m10 hm10 x8 _ _).trans ((hf _).trans (congrArg f ?_))
  show 512 * g + 1 * (l : ℕ) = _; omega

/-- A group's gated outputs. -/
theorem ygV_at (hX : ∀ y : S64x6144.Idx, View.canon LX y = B.X (y 0) (y 1))
    (hz : ∀ y : S64x4096.Idx, x1 y = B.z (y 0) (y 1)) (hd : ∀ y : S1x4096.Idx, x8 y = B.d (y 1))
    {L : Pcs S8x64x512 .f32} {g : ℕ} (h : g < 8) (hL : Gated B g L) (i : Fin 64) (l : Fin 512) :
    ygV (ldY vY L g h) (ldR m10 hm10 x8 g h) (ldXg vX LX g h) (ldZ m3 hm3 x1 g h) (ix2 i l) = B.YG g i l := by
  rw [ygV_apply, ldY_apply B hL, if_neg (Nat.lt_irrefl g), ldR_apply hd]
  refine congrArg₂ (· * ·) (congrArg₂ (· + ·) rfl (congrArg₂ (· * ·) rfl ?_)) ?_
  · refine (load_at vX LX _ _).trans ((hX _).trans (congrArg₂ B.X ?_ ?_))
    · show 0 + 1 * (i : ℕ) = _; omega
    · show 512 * g + 1 * (l : ℕ) = _; omega
  · refine (arg_at m3 hm3 x1 _ _).trans ((hz _).trans (congrArg₂ B.z ?_ ?_))
    · show 0 + 1 * (i : ℕ) = _; omega
    · show 512 * g + 1 * (l : ℕ) = _; omega

/-- One group. -/
theorem gated_step (hX : ∀ y : S64x6144.Idx, View.canon LX y = B.X (y 0) (y 1))
    (hz : ∀ y : S64x4096.Idx, x1 y = B.z (y 0) (y 1)) (hd : ∀ y : S1x4096.Idx, x8 y = B.d (y 1))
    {L : Pcs S8x64x512 .f32} {g : ℕ} (h : g < 8) {i0} {w : FVec Ideal S1x64x512 .f32}
    (hw : w = ygChunk (ldY vY L g h) (ldR m10 hm10 x8 g h) (ldXg vX LX g h) (ldZ m3 hm3 x1 g h)) (hL : Gated B g L) :
    Gated B (g + 1) (⟨Rect.unit (s := S8x64x512) ![g, 0, 0] S1x64x512.size i0, w⟩ :: L) := by
  intro y
  have b0 : (y 0 : ℕ) < 8 := (y 0).isLt
  have b1 : (y 1 : ℕ) < 64 := (y 1).isLt
  have b2 : (y 2 : ℕ) < 512 := (y 2).isLt
  by_cases hh : (y 0 : ℕ) = g
  · rw [if_pos (by omega)]
    refine (canon_hit3 (o := g) (p := 0) (q := 0) w L (0 : Fin 1) (⟨y 1, b1⟩ : Fin 64) (⟨y 2, b2⟩ : Fin 512) y hh
      (Nat.zero_add _).symm (Nat.zero_add _).symm).trans ?_
    rw [hw, ygChunk_apply, ← ygV_apply, ygV_at B hX hz hd h hL, hh]
  · have hif : ((y 0 : ℕ) < g + 1) = ((y 0 : ℕ) < g) := propext ⟨fun _ => by omega, fun _ => by omega⟩
    simp only [hif]
    rw [← hL y]
    have h3 : (y 0 : ℕ) < g ∨ g + 1 ≤ (y 0 : ℕ) := by omega
    exact canon_miss3 (l := 8) (m := 64) (n := 512) (a := 1) (b := 64) (c := 512) (e := .f32) (o := g) (p := 0) (q := 0) w L y h3

/-- A group's sum of squares. -/
theorem ssq_at {v : FVec Ideal S64x512 .f32} {g : ℕ} (hv : ∀ (i : Fin 64) (l : Fin 512), v (ix2 i l) = B.YG g i l) (i : Fin 64) :
    ssqG v (ix2 i 0) = B.ssq g i := by
  rw [ssqG_apply]
  exact Finset.sum_congr rfl fun l _ => by rw [hv]

/-- The reciprocal root of the mean square over the eight groups. -/
theorem inv_at {v0 v1 v2 v3 v4 v5 v6 v7 : FVec Ideal S64x512 .f32}
    (h0 : ∀ (i : Fin 64) (l : Fin 512), v0 (ix2 i l) = B.YG 0 i l) (h1 : ∀ (i : Fin 64) (l : Fin 512), v1 (ix2 i l) = B.YG 1 i l)
    (h2 : ∀ (i : Fin 64) (l : Fin 512), v2 (ix2 i l) = B.YG 2 i l) (h3 : ∀ (i : Fin 64) (l : Fin 512), v3 (ix2 i l) = B.YG 3 i l)
    (h4 : ∀ (i : Fin 64) (l : Fin 512), v4 (ix2 i l) = B.YG 4 i l) (h5 : ∀ (i : Fin 64) (l : Fin 512), v5 (ix2 i l) = B.YG 5 i l)
    (h6 : ∀ (i : Fin 64) (l : Fin 512), v6 (ix2 i l) = B.YG 6 i l) (h7 : ∀ (i : Fin 64) (l : Fin 512), v7 (ix2 i l) = B.YG 7 i l)
    (i : Fin 64) : invV v0 v1 v2 v3 v4 v5 v6 v7 (ix2 i 0) = B.inv i := by
  rw [invV_apply, ssq_at B h0, ssq_at B h1, ssq_at B h2, ssq_at B h3, ssq_at B h4, ssq_at B h5, ssq_at B h6, ssq_at B h7]
  rfl

/-- The reciprocal root over the eight groups, each gated over what the groups before it left. -/
theorem inv_run (hX : ∀ y : S64x6144.Idx, View.canon LX y = B.X (y 0) (y 1))
    (hz : ∀ y : S64x4096.Idx, x1 y = B.z (y 0) (y 1)) (hd : ∀ y : S1x4096.Idx, x8 y = B.d (y 1))
    {L0 L1 L2 L3 L4 L5 L6 L7 : Pcs S8x64x512 .f32} (g0 : Gated B 0 L0) (g1 : Gated B 1 L1) (g2 : Gated B 2 L2)
    (g3 : Gated B 3 L3) (g4 : Gated B 4 L4) (g5 : Gated B 5 L5) (g6 : Gated B 6 L6) (g7 : Gated B 7 L7) (i : Fin 64) :
    invV
        (ygV (ldY vY L0 0 (by decide)) (ldR m10 hm10 x8 0 (by decide)) (ldXg vX LX 0 (by decide)) (ldZ m3 hm3 x1 0 (by decide)))
        (ygV (ldY vY L1 1 (by decide)) (ldR m10 hm10 x8 1 (by decide)) (ldXg vX LX 1 (by decide)) (ldZ m3 hm3 x1 1 (by decide)))
        (ygV (ldY vY L2 2 (by decide)) (ldR m10 hm10 x8 2 (by decide)) (ldXg vX LX 2 (by decide)) (ldZ m3 hm3 x1 2 (by decide)))
        (ygV (ldY vY L3 3 (by decide)) (ldR m10 hm10 x8 3 (by decide)) (ldXg vX LX 3 (by decide)) (ldZ m3 hm3 x1 3 (by decide)))
        (ygV (ldY vY L4 4 (by decide)) (ldR m10 hm10 x8 4 (by decide)) (ldXg vX LX 4 (by decide)) (ldZ m3 hm3 x1 4 (by decide)))
        (ygV (ldY vY L5 5 (by decide)) (ldR m10 hm10 x8 5 (by decide)) (ldXg vX LX 5 (by decide)) (ldZ m3 hm3 x1 5 (by decide)))
        (ygV (ldY vY L6 6 (by decide)) (ldR m10 hm10 x8 6 (by decide)) (ldXg vX LX 6 (by decide)) (ldZ m3 hm3 x1 6 (by decide)))
        (ygV (ldY vY L7 7 (by decide)) (ldR m10 hm10 x8 7 (by decide)) (ldXg vX LX 7 (by decide)) (ldZ m3 hm3 x1 7 (by decide)))
        (ix2 i 0) = B.inv i :=
  inv_at B (ygV_at B hX hz hd _ g0) (ygV_at B hX hz hd _ g1) (ygV_at B hX hz hd _ g2) (ygV_at B hX hz hd _ g3)
    (ygV_at B hX hz hd _ g4) (ygV_at B hX hz hd _ g5) (ygV_at B hX hz hd _ g6) (ygV_at B hX hz hd _ g7) i

/-- After `k` groups their outputs are normed. -/
def Outs (k : ℕ) (L : Pcs S64x4096 .bf16) : Prop :=
  ∀ y : S64x4096.Idx, (y 1 : ℕ) / 512 < k → View.canon L y = B.out ((y 1 : ℕ) / 512) (y 0) ((y 1 : ℕ) % 512)

/-- One group's normed outputs. -/
theorem outs_step {LY : Pcs S8x64x512 .f32} (hY : Gated B 8 LY) {invv : FVec Ideal S64x1 .f32}
    (hi : ∀ i : Fin 64, invv (ix2 i 0) = B.inv i) (hg : ∀ y : S1x4096.Idx, x8 y = B.ng (y 1))
    {L : Pcs S64x4096 .bf16} {g : ℕ} (h : g < 8) {i0} {w : FVec Ideal S64x512 .bf16}
    (hw : w = outChunk invv (ldY vY LY g h) (ldR m10 hm10 x8 g h)) (hL : Outs B g L) :
    Outs B (g + 1) (⟨Rect.unit (s := S64x4096) ![0, 512 * g] S64x512.size i0, w⟩ :: L) := by
  intro y hy
  have b0 : (y 0 : ℕ) < 64 := (y 0).isLt
  have b1 : (y 1 : ℕ) < 4096 := (y 1).isLt
  by_cases hh : (y 1 : ℕ) / 512 < g
  · exact (canon_miss _ _ i0 w L y 1 (.inl (show (y 1 : ℕ) < 512 * g by omega))).trans (hL y hh)
  · have hl : (y 1 : ℕ) % 512 < 512 := by omega
    have e1 : (y 1 : ℕ) / 512 = g := by omega
    have e2 : (y 1 : ℕ) = 512 * g + (y 1 : ℕ) % 512 := by omega
    refine (canon_hit2 (o := 0) (p := 512 * g) w L (⟨y 0, b0⟩ : Fin 64) (⟨(y 1 : ℕ) % 512, hl⟩ : Fin 512) y
      (Nat.zero_add _).symm e2).trans ?_
    rw [hw, outChunk_apply, ldY_apply B hY, if_pos h, ldR_apply hg, hi, e1]
    rfl

end Gate

/-- The last store of the state: the whole buffer. -/
theorem st_last {LS : Pcs S8x128x512 .f32} {v : View sig .tc .vmem S8x128x512 .f32}
    (hS : ∀ y : S8x128x512.Idx, View.canon LS y
        = if 4 * (y 0 : ℕ) + (y 2 : ℕ) / 128 < 32 then B.ST (y 0) (y 1) (y 2) else B.s0 (y 0) (y 1) (y 2)) {i0 i1}
    {w : FVec Ideal S1x8x128x512 .f32}
    (hw : w = shapeCast S1x8x128x512 (v.readCov LS (Rect.unit (s := S8x128x512) ![0, 0, 0] S8x128x512.size i0).toLoadRect
      : FVec Ideal S8x128x512 .f32) shapeCasts_S8x128x512_S1x8x128x512) (y : S1x8x128x512.Idx) :
    View.canon ([⟨Rect.unit (s := S1x8x128x512) ![0, 0, 0, 0] S1x8x128x512.size i1, w⟩] : Pcs S1x8x128x512 .f32) y
      = B.ST (y 1) (y 2) (y 3) := by
  have b0 : (y 0 : ℕ) < 1 := (y 0).isLt
  have b1 : (y 1 : ℕ) < 8 := (y 1).isLt
  have b2 : (y 2 : ℕ) < 128 := (y 2).isLt
  have b3 : (y 3 : ℕ) < 512 := (y 3).isLt
  refine (canon_hit4 (k := 1) (l := 8) (m := 128) (n := 512) (e := .f32) w [] (0 : Fin 1)
    ⟨y 1, b1⟩ ⟨y 2, b2⟩ ⟨y 3, b3⟩ y (by omega) rfl rfl rfl).trans ?_
  rw [hw, st_cast']
  refine (load_at v LS _ _).trans ((hS _).trans ?_)
  have e1 : 0 + 1 * (y 1 : ℕ) = y 1 := by omega
  have e2 : 0 + 1 * (y 2 : ℕ) = y 2 := by omega
  have e3 : 0 + 1 * (y 3 : ℕ) = y 3 := by omega
  show (if 4 * (0 + 1 * (y 1 : ℕ)) + (0 + 1 * (y 3 : ℕ)) / 128 < 32
    then B.ST (0 + 1 * (y 1 : ℕ)) (0 + 1 * (y 2 : ℕ)) (0 + 1 * (y 3 : ℕ)) else _) = _
  rw [e1, e2, e3, if_pos (by omega)]

end Cert.KernelIdeal.Body
-- ==== Proof.Buffers.lean ====
/-
  The body's run, buffer by buffer: the pieces the printed run stores are the block's plain functions.
-/
module

public import proofs.«01_k».proof.Proof.Groups
public import proofs.«01_k».proof.Proof.Gen.KernelIdeal.Value

@[expose] public section

set_option maxRecDepth 16384

noncomputable section

namespace Cert.KernelIdeal.Body

open Cert.KernelIdeal Cert.KernelIdeal.Gen Idealize.ShloMosaic Idealize.ShloMosaic.TcCoe Idealize.SL.Sem
open Cert.Ssd

variable (B : Blk) (c : Dev nD)
  (arg2 : Memref sig .tc .vmem S64x6144 .bf16) (harg2 : arg2.IsWhole)
  (arg3 : Memref sig .tc .vmem S64x4096 .bf16) (harg3 : arg3.IsWhole)
  (arg4 : Memref sig .tc .vmem S64x128 .f32) (harg4 : arg4.IsWhole)
  (arg5 : Memref sig .tc .vmem S1x8x6144 .f32) (harg5 : arg5.IsWhole)
  (arg6 : Memref sig .tc .vmem S1x8x128x512 .f32) (harg6 : arg6.IsWhole)
  (arg7 : Memref sig .tc .vmem S4x6144 .f32) (harg7 : arg7.IsWhole)
  (arg8 : Memref sig .tc .vmem S1x6144 .f32) (harg8 : arg8.IsWhole)
  (arg9 : Memref sig .tc .vmem S1x128 .f32) (harg9 : arg9.IsWhole)
  (arg10 : Memref sig .tc .vmem S1x4096 .f32) (harg10 : arg10.IsWhole)
  (arg11 : Memref sig .tc .vmem S1x4096 .f32) (harg11 : arg11.IsWhole)
  (arg12 : Memref sig .tc .vmem S128x4096 .bf16) (harg12 : arg12.IsWhole)
  (arg15 : Memref sig .tc .vmem S64x6144 .bf16) (arg16 : Memref sig .tc .vmem S8x6144 .f32)
  (arg17 : Memref sig .tc .vmem S8x64x512 .f32) (arg18 : Memref sig .tc .vmem S8x128x512 .f32)
  (arg19 arg20 arg21 : Memref sig .tc .vmem S8x8x64 .f32)
  (x0 : Vec Ideal S64x6144 .bf16) (x1 : Vec Ideal S64x4096 .bf16) (x2 : Vec Ideal S64x128 .f32)
  (x3 : Vec Ideal S1x8x6144 .f32) (x4 : Vec Ideal S1x8x128x512 .f32) (x5 : Vec Ideal S4x6144 .f32)
  (x6 : Vec Ideal S1x6144 .f32) (x7 : Vec Ideal S1x128 .f32) (x8 x9 : Vec Ideal S1x4096 .f32)
  (x10 : Vec Ideal S128x4096 .bf16)
  (h : Reads B x0 x1 x2 x3 x4 x5 x6 x7 x8 x9 x10)

include h in
/-- The twelve chunks hold the activated convolution. -/
theorem conv_all (y : S64x6144.Idx) :
    View.canon (kernelRun0_A.sl.HS0_12 (F := Ideal) c arg2 harg2 arg5 harg5 arg7 harg7 arg8 harg8 arg16 x0 x3 x5 x6) y
      = B.X (y 0) (y 1) := by
  have b1 : (y 1 : ℕ) < 6144 := (y 1).isLt
  have hc : Conv B 12
      (kernelRun0_A.sl.HS0_12 (F := Ideal) c arg2 harg2 arg5 harg5 arg7 harg7 arg8 harg8 arg16 x0 x3 x5 x6)
      (⟨Rect.unit (s := S8x6144) ![0, 512 * 11] S8x512.size (inb2 (by decide) (by decide)),
        kernelRun0_A.sl.v518 (F := Ideal) c arg2 harg2 x0⟩
        :: kernelRun0_A.sl.HS1_12 (F := Ideal) c arg2 harg2 arg5 harg5 x0 x3) := by
    iterate 12
      refine conv_step B (m2 := arg2) (hm2 := harg2) (m7 := arg7) (hm7 := harg7) (m8 := arg8) (hm8 := harg8)
        (vH := arg16.view) h.raw h.w h.b (by decide) rfl ?_
    exact conv_zero B h.hist rfl
  exact hc.1 y (by omega)

include h in
theorem dt_at (i0) (i : Fin 64) (l : Fin 128) :
    View.readAt (Elt Ideal) arg4.view (Rect.unit (s := S64x128) ![0, 0] S64x128.size i0).toLoadRect (harg4.unread x2)
      (ix2 i l) = B.dt i l := by
  refine (arg_at arg4 harg4 x2 _ _).trans ((h.dt _).trans (congrArg₂ B.dt ?_ ?_))
  · show 0 + 1 * (i : ℕ) = _; omega
  · show 0 + 1 * (l : ℕ) = _; omega

include h in
theorem a_at (i0) (l : Fin 128) :
    View.readAt (Elt Ideal) arg9.view (Rect.unit (s := S1x128) ![0, 0] S1x128.size i0).toLoadRect (harg9.unread x7)
      (ix2 0 l) = B.a l := by
  refine (arg_at arg9 harg9 x7 _ _).trans ((h.a _).trans (congrArg B.a ?_))
  show 0 + 1 * (l : ℕ) = _; omega

include h in
theorem ex_at (i0) (k : Fin 128) (l : Fin 4096) :
    View.readAt (Elt Ideal) arg12.view (Rect.unit (s := S128x4096) ![0, 0] S128x4096.size i0).toLoadRect
      (harg12.unread x10) (ix2 k l) = B.ex k l := by
  refine (arg_at arg12 harg12 x10 _ _).trans ((h.ex _).trans (congrArg₂ B.ex ?_ ?_))
  · show 0 + 1 * (k : ℕ) = _; omega
  · show 0 + 1 * (l : ℕ) = _; omega

include h in
/-- The arrays by head hold the running sums, the same less the step lengths' logarithms, and the weights. -/
theorem heads_all (y : S8x8x64.Idx) :
    View.canon (kernelRun0_A.sl.HS4_1 (F := Ideal) c arg4 harg4 arg9 harg9 x2 x7) y
        = B.cum (y 2) ((y 0 : ℕ) * 8 + y 1) * kap
      ∧ View.canon (kernelRun0_A.sl.HS5_1 (F := Ideal) c arg4 harg4 arg9 harg9 x2 x7) y
        = B.cml (y 2) ((y 0 : ℕ) * 8 + y 1)
      ∧ View.canon (kernelRun0_A.sl.HS6_1 (F := Ideal) c arg4 harg4 arg9 harg9 x2 x7) y
        = B.wgt (y 2) ((y 0 : ℕ) * 8 + y 1) :=
  ⟨cumt_canon B (dt_at (arg4 := arg4) (harg4 := harg4) (h := h) (i0 := inb2 (by decide) (by decide)))
      (a_at (arg9 := arg9) (harg9 := harg9) (h := h) (i0 := inb2 (by decide) (by decide))) rfl y,
    cml_canon B (dt_at (arg4 := arg4) (harg4 := harg4) (h := h) (i0 := inb2 (by decide) (by decide)))
      (a_at (arg9 := arg9) (harg9 := harg9) (h := h) (i0 := inb2 (by decide) (by decide))) rfl y,
    wgt_canon B (dt_at (arg4 := arg4) (harg4 := harg4) (h := h) (i0 := inb2 (by decide) (by decide)))
      (a_at (arg9 := arg9) (harg9 := harg9) (h := h) (i0 := inb2 (by decide) (by decide))) rfl y⟩

include h in
/-- The 32 head pairs. -/
theorem pairs_all : Pairs B 32
    (kernelRun0_A.sl.HS2_32 (F := Ideal) c arg2 harg2 arg4 harg4 arg5 harg5 arg6 harg6 arg7 harg7 arg8 harg8 arg9 harg9
      arg12 harg12 arg15 arg16 arg18 arg19 arg20 arg21 x0 x2 x3 x4 x5 x6 x7 x10)
    (kernelRun0_A.sl.HS3_33 (F := Ideal) c arg2 harg2 arg4 harg4 arg5 harg5 arg6 harg6 arg7 harg7 arg8 harg8 arg9 harg9
      arg12 harg12 arg15 arg16 arg18 arg21 x0 x2 x3 x4 x5 x6 x7 x10) := by
  have hX := conv_all B c arg2 harg2 arg5 harg5 arg7 harg7 arg8 harg8 arg16 x0 x1 x2 x3 x4 x5 x6 x7 x8 x9 x10 h
  have hH := heads_all B c arg4 harg4 arg9 harg9 x0 x1 x2 x3 x4 x5 x6 x7 x8 x9 x10 h
  have hD := dec_at B (dt_at (arg4 := arg4) (harg4 := harg4) (h := h) (i0 := inb2 (by decide) (by decide)))
      (a_at (arg9 := arg9) (harg9 := harg9) (h := h) (i0 := inb2 (by decide) (by decide)))
      (ex_at (arg12 := arg12) (harg12 := harg12) (h := h) (i0 := inb2 (by decide) (by decide)))
  iterate 32
    refine pairs_step B (vX := arg15.view) (vC := arg19.view) (vM := arg20.view) (vW := arg21.view) (vS := arg18.view) hX
      (fun y => (hH y).1) (fun y => (hH y).2.1) (fun y => (hH y).2.2) hD (by decide) ?outs ?state ?_
    case outs => rfl
    case state => rfl
  exact pairs_zero B h.s0 rfl

include h in
/-- After the head pairs the outputs' buffer holds the outputs. -/
theorem gated_zero : Gated B 0
    (kernelRun0_A.sl.HS2_32 (F := Ideal) c arg2 harg2 arg4 harg4 arg5 harg5 arg6 harg6 arg7 harg7 arg8 harg8 arg9 harg9
      arg12 harg12 arg15 arg16 arg18 arg19 arg20 arg21 x0 x2 x3 x4 x5 x6 x7 x10) := by
  intro y
  have b0 : (y 0 : ℕ) < 8 := (y 0).isLt
  have b2 : (y 2 : ℕ) < 512 := (y 2).isLt
  rw [if_neg (by omega)]
  exact (pairs_all B c arg2 harg2 arg4 harg4 arg5 harg5 arg6 harg6 arg7 harg7 arg8 harg8 arg9 harg9 arg12 harg12 arg15
    arg16 arg18 arg19 arg20 arg21 x0 x1 x2 x3 x4 x5 x6 x7 x8 x9 x10 h).1 y (by omega)

include h in
/-- The eight groups are gated. -/
theorem gated_all :
    Gated B 8 (kernelRun0_A.sl.HS2_40 (F := Ideal) c arg2 harg2 arg3 harg3 arg4 harg4 arg5 harg5 arg6 harg6 arg7 harg7 arg8 harg8
      arg9 harg9 arg10 harg10 arg12 harg12 arg15 arg16 arg17 arg18 arg19 arg20 arg21 x0 x1 x2 x3 x4 x5 x6 x7 x8 x10) := by
  have hX := conv_all B c arg2 harg2 arg5 harg5 arg7 harg7 arg8 harg8 arg16 x0 x1 x2 x3 x4 x5 x6 x7 x8 x9 x10 h
  iterate 8
    refine gated_step B (vX := arg15.view) (vY := arg17.view) (m3 := arg3) (hm3 := harg3) (m10 := arg10)
      (hm10 := harg10) hX h.z h.d (by decide) ?out ?_
    case out => rfl
  exact gated_zero B c arg2 harg2 arg4 harg4 arg5 harg5 arg6 harg6 arg7 harg7 arg8 harg8 arg9 harg9 arg12 harg12 arg15
    arg16 arg18 arg19 arg20 arg21 x0 x1 x2 x3 x4 x5 x6 x7 x8 x9 x10 h

include h in
/-- The printed run's reciprocal root. -/
theorem inv_all (i : Fin 64) :
    kernelRun0_A.sl.r_286 (F := Ideal) c arg2 harg2 arg3 harg3 arg4 harg4 arg5 harg5 arg6 harg6 arg7 harg7 arg8 harg8
      arg9 harg9 arg10 harg10 arg12 harg12 arg15 arg16 arg17 arg18 arg19 arg20 arg21 x0 x1 x2 x3 x4 x5 x6 x7 x8 x10 (ix2 i 0) = B.inv i := by
  have hX := conv_all B c arg2 harg2 arg5 harg5 arg7 harg7 arg8 harg8 arg16 x0 x1 x2 x3 x4 x5 x6 x7 x8 x9 x10 h
  refine inv_run B (vX := arg15.view) (vY := arg17.view) (m3 := arg3) (hm3 := harg3) (m10 := arg10) (hm10 := harg10)
    hX h.z h.d ?_ ?_ ?_ ?_ ?_ ?_ ?_ ?_ i
  all_goals
    repeat
      refine gated_step B (vX := arg15.view) (vY := arg17.view) (m3 := arg3) (hm3 := harg3) (m10 := arg10)
        (hm10 := harg10) hX h.z h.d (by decide) ?out ?_
      case out => rfl
    exact gated_zero B c arg2 harg2 arg4 harg4 arg5 harg5 arg6 harg6 arg7 harg7 arg8 harg8 arg9 harg9 arg12 harg12 arg15
      arg16 arg18 arg19 arg20 arg21 x0 x1 x2 x3 x4 x5 x6 x7 x8 x9 x10 h

variable (i : grid0.Coords)
  (arg13 : Memref sig .tc .vmem S64x4096 .bf16) (harg13 : arg13.IsWhole)
  (arg14 : Memref sig .tc .vmem S1x8x128x512 .f32) (harg14 : arg14.IsWhole)
  (harg15 : arg15.IsWhole) (harg16 : arg16.IsWhole) (harg17 : arg17.IsWhole) (harg18 : arg18.IsWhole)
  (harg19 : arg19.IsWhole) (harg20 : arg20.IsWhole) (harg21 : arg21.IsWhole)

include h in
/-- The first output's pieces hold the normed outputs. -/
theorem outs_all (hc0) (hc1) :
    Outs B 8 (kernelRun0_A (F := Ideal) c i arg2 harg2 arg3 harg3 arg4 harg4 arg5 harg5 arg6 harg6 arg7 harg7 arg8 harg8
      arg9 harg9 arg10 harg10 arg11 harg11 arg12 harg12 arg13 harg13 arg14 harg14 arg15 harg15 arg16 harg16 arg17 harg17
      arg18 harg18 arg19 harg19 arg20 harg20 arg21 harg21 hc0 hc1 x0 x1 x2 x3 x4 x5 x6 x7 x8 x9 x10).1 := by
  have hY := gated_all B c arg2 harg2 arg3 harg3 arg4 harg4 arg5 harg5 arg6 harg6 arg7 harg7 arg8 harg8 arg9 harg9 arg10
    harg10 arg12 harg12 arg15 arg16 arg17 arg18 arg19 arg20 arg21 x0 x1 x2 x3 x4 x5 x6 x7 x8 x9 x10 h
  have hi := inv_all B c arg2 harg2 arg3 harg3 arg4 harg4 arg5 harg5 arg6 harg6 arg7 harg7 arg8 harg8 arg9 harg9 arg10
    harg10 arg12 harg12 arg15 arg16 arg17 arg18 arg19 arg20 arg21 x0 x1 x2 x3 x4 x5 x6 x7 x8 x9 x10 h
  iterate 8
    refine outs_step B (vY := arg17.view) (m10 := arg11) (hm10 := harg11) hY hi h.ng (by decide) ?out ?_
    case out => rfl
  intro y hy
  exfalso
  omega

include h in
/-- The second output's piece holds the state after the block. -/
theorem st_all (hc0) (hc1) (y : S1x8x128x512.Idx) :
    View.canon (kernelRun0_A (F := Ideal) c i arg2 harg2 arg3 harg3 arg4 harg4 arg5 harg5 arg6 harg6 arg7 harg7 arg8 harg8
      arg9 harg9 arg10 harg10 arg11 harg11 arg12 harg12 arg13 harg13 arg14 harg14 arg15 harg15 arg16 harg16 arg17 harg17
      arg18 harg18 arg19 harg19 arg20 harg20 arg21 harg21 hc0 hc1 x0 x1 x2 x3 x4 x5 x6 x7 x8 x9 x10).2.1 y
      = B.ST (y 1) (y 2) (y 3) := by
  have b0 : (y 0 : ℕ) < 1 := (y 0).isLt
  have b1 : (y 1 : ℕ) < 8 := (y 1).isLt
  have b2 : (y 2 : ℕ) < 128 := (y 2).isLt
  have b3 : (y 3 : ℕ) < 512 := (y 3).isLt
  have hP := (pairs_all B c arg2 harg2 arg4 harg4 arg5 harg5 arg6 harg6 arg7 harg7 arg8 harg8 arg9 harg9 arg12 harg12 arg15
    arg16 arg18 arg19 arg20 arg21 x0 x1 x2 x3 x4 x5 x6 x7 x8 x9 x10 h).2
  exact st_last B hP rfl y

end Cert.KernelIdeal.Body
-- ==== Proof.Entry.lean ====
/-
  Arrays read at numbers, and a matrix product's entry over them.
-/
module

public import Idealize.ShloMosaic.Lib.Pipeline.ValueKit
public import Idealize.ShloMosaic.Lib.ValueLayout

@[expose] public section

noncomputable section

namespace Cert.Ssd

open Idealize.ShloMosaic

/-- An array of one axis at a number, zero beyond its end. -/
def rd1 {A : ℕ} (x : (⟨1, ![A]⟩ : Shape).Idx → EReal) (i : ℕ) : EReal := if h : i < A then x (ix1 ⟨i, h⟩) else 0

/-- An array of two axes at two numbers, zero beyond its ends. -/
def rd2 {A B : ℕ} (x : (⟨2, ![A, B]⟩ : Shape).Idx → EReal) (i j : ℕ) : EReal :=
  if h : i < A ∧ j < B then x (ix2 ⟨i, h.1⟩ ⟨j, h.2⟩) else 0

/-- An array of three axes at three numbers, zero beyond its ends. -/
def rd3 {A B C : ℕ} (x : (⟨3, ![A, B, C]⟩ : Shape).Idx → EReal) (i j k : ℕ) : EReal :=
  if h : i < A ∧ j < B ∧ k < C then x (ix3 ⟨i, h.1⟩ ⟨j, h.2.1⟩ ⟨k, h.2.2⟩) else 0

/-- An array of four axes at four numbers, zero beyond its ends. -/
def rd4 {A B C D : ℕ} (x : (⟨4, ![A, B, C, D]⟩ : Shape).Idx → EReal) (i j k l : ℕ) : EReal :=
  if h : i < A ∧ j < B ∧ k < C ∧ l < D then x (ix4 ⟨i, h.1⟩ ⟨j, h.2.1⟩ ⟨k, h.2.2.1⟩ ⟨l, h.2.2.2⟩) else 0

theorem rd1_of {A : ℕ} (x : (⟨1, ![A]⟩ : Shape).Idx → EReal) {i : ℕ} (h : i < A) : rd1 x i = x (ix1 ⟨i, h⟩) := dif_pos h

theorem rd2_of {A B : ℕ} (x : (⟨2, ![A, B]⟩ : Shape).Idx → EReal) {i j : ℕ} (hi : i < A) (hj : j < B) :
    rd2 x i j = x (ix2 ⟨i, hi⟩ ⟨j, hj⟩) := dif_pos ⟨hi, hj⟩

theorem rd3_of {A B C : ℕ} (x : (⟨3, ![A, B, C]⟩ : Shape).Idx → EReal) {i j k : ℕ} (hi : i < A) (hj : j < B)
    (hk : k < C) : rd3 x i j k = x (ix3 ⟨i, hi⟩ ⟨j, hj⟩ ⟨k, hk⟩) := dif_pos ⟨hi, hj, hk⟩

theorem rd4_of {A B C D : ℕ} (x : (⟨4, ![A, B, C, D]⟩ : Shape).Idx → EReal) {i j k l : ℕ} (hi : i < A) (hj : j < B)
    (hk : k < C) (hl : l < D) : rd4 x i j k l = x (ix4 ⟨i, hi⟩ ⟨j, hj⟩ ⟨k, hk⟩ ⟨l, hl⟩) := dif_pos ⟨hi, hj, hk, hl⟩

/-- A row of the first array times a column of the second. -/
def mm {A K B : ℕ} (h : (⟨2, ![A, K]⟩ : Shape).Idx → EReal) (w : (⟨2, ![K, B]⟩ : Shape).Idx → EReal) (i j : ℕ) : EReal :=
  ∑ k : Fin K, rd2 h i k * rd2 w k j

theorem mm_of {A K B : ℕ} (h : (⟨2, ![A, K]⟩ : Shape).Idx → EReal) (w : (⟨2, ![K, B]⟩ : Shape).Idx → EReal) {i j : ℕ}
    (hi : i < A) (hj : j < B) : mm h w i j = ∑ k : Fin K, h (ix2 ⟨i, hi⟩ k) * w (ix2 k ⟨j, hj⟩) :=
  Finset.sum_congr rfl fun k _ => by rw [rd2_of h hi k.isLt, rd2_of w k.isLt hj]

/-- A row's scale: the reciprocal root of the mean of its 2048 squares and a small constant. -/
def rms (f : ℕ → EReal) : EReal :=
  Ideal.rsqrt (Ideal.div (∑ k : Fin 2048, f k * f k) (Ideal.ofBits .f32 1157627904#32) + Ideal.ofBits .f32 897988541#32)

/-- The logistic function by its quotient. -/
def sigm (v : EReal) : EReal := Ideal.div 1 (1 + Ideal.exp (-v))

theorem sigm_of (v : EReal) : Ideal.div 1 (1 + Ideal.exp (0 - v)) = sigm v := by rw [zero_sub]; rfl

end Cert.Ssd
-- ==== Proof.Arrays.lean ====
/-
  The kernel's arrays: each sequence's block as read from the arguments, and the two results, entry by entry.
-/
module

public import proofs.«01_k».proof.Proof.Buffers
public import proofs.«01_k».proof.Proof.Entry
public import Idealize.ShloMosaic.Lib.Pipeline.ValueKit

@[expose] public section

set_option maxRecDepth 16384

noncomputable section

namespace Cert.Ssd

open Idealize.ShloMosaic

/-- The arguments: the projected rows, the gate, the step lengths, the three rows before each sequence, the states, the
filter, its bias, the log rates, the skips and the norm's scale. -/
structure Arrs where
  xbc : (⟨2, ![17408, 6144]⟩ : Shape).Idx → EReal
  zs : (⟨2, ![17408, 4096]⟩ : Shape).Idx → EReal
  dt : (⟨2, ![17408, 128]⟩ : Shape).Idx → EReal
  cache : (⟨3, ![16, 3, 6144]⟩ : Shape).Idx → EReal
  state : (⟨4, ![16, 64, 64, 128]⟩ : Shape).Idx → EReal
  w : (⟨2, ![4, 6144]⟩ : Shape).Idx → EReal
  b : (⟨1, ![6144]⟩ : Shape).Idx → EReal
  alog : (⟨1, ![64]⟩ : Shape).Idx → EReal
  skip : (⟨1, ![64]⟩ : Shape).Idx → EReal
  ng : (⟨1, ![4096]⟩ : Shape).Idx → EReal

/-- Sequence `b`'s block of the arguments. -/
def Arrs.blk (A : Arrs) (b : ℕ) : Blk where
  raw i c := rd2 A.xbc (16384 + 64 * b + i) c
  hist r c := if r < 5 then 0 else rd3 A.cache b (r - 5) c
  w k c := rd2 A.w k c
  b c := rd1 A.b c
  dt i h := rd2 A.dt (16384 + 64 * b + i) h
  a h := if h < 64 then -Ideal.exp (rd1 A.alog h) else 0
  ex k l := if k = l / 64 then 1 else 0
  s0 g n c := rd4 A.state b (8 * g + c / 64) (c % 64) n
  d c := rd1 A.skip (c / 64)
  z i c := rd2 A.zs (16384 + 64 * b + i) c
  ng c := rd1 A.ng c

end Cert.Ssd

namespace Cert.KernelIdeal.Body

open Cert.KernelIdeal Cert.KernelIdeal.Gen Idealize.ShloMosaic Idealize.ShloMosaic.TcCoe Idealize.SL.Sem
open Idealize.ShloMosaic.Pipeline (Dat)
open Cert.Ssd

variable (m : (ℓ : Loc nD τ sig) → Buf (Elt Ideal) ℓ) (c : Dev nD)

/-- The arguments in memory. -/
def arrs : Arrs where
  xbc := m ((c : Thread nD τ).loc main_arg0)
  zs := m ((c : Thread nD τ).loc main_arg1)
  dt := m ((c : Thread nD τ).loc main_arg2)
  cache := m ((c : Thread nD τ).loc main_arg3)
  state := m ((c : Thread nD τ).loc main_arg4)
  w := m ((c : Thread nD τ).loc main_arg5)
  b := m ((c : Thread nD τ).loc main_arg6)
  alog := m ((c : Thread nD τ).loc main_arg7)
  skip := m ((c : Thread nD τ).loc main_arg8)
  ng := m ((c : Thread nD τ).loc main_arg9)

/-- The windows' blocks at each point. -/
theorem idx : ∀ t : Fin cfg0.N, win0_0.index t = ![256 + t.val, 0] ∧ win0_1.index t = ![256 + t.val, 0]
    ∧ win0_2.index t = ![256 + t.val, 0] ∧ win0_3.index t = ![t.val, 0, 0] ∧ win0_4.index t = ![t.val, 0, 0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val, 0]
    ∧ win0_12.index t = ![t.val, 0, 0, 0] ∧ t.val < 16 :=
  (by decide +kernel : ∀ t : Fin grid0.N, _)

variable (t : Fin cfg0.N)

theorem raw_at (y : S64x6144.Idx) : iblk m c 0 t y = ((arrs m c).blk t).raw (y 0) (y 1) := by
  have ht := (idx t).2.2.2.2.2.2.2.2.2.2.2.2.2
  have b0 : (y 0 : ℕ) < 64 := (y 0).isLt
  have b1 : (y 1 : ℕ) < 6144 := (y 1).isLt
  refine Eq.trans ?_ (rd2_of (A := 17408) (B := 6144) _ (by omega) b1).symm
  unfold arrs
  blk_ext [iblk, V, idx t]

theorem z_at (y : S64x4096.Idx) : iblk m c 1 t y = ((arrs m c).blk t).z (y 0) (y 1) := by
  have ht := (idx t).2.2.2.2.2.2.2.2.2.2.2.2.2
  have b0 : (y 0 : ℕ) < 64 := (y 0).isLt
  have b1 : (y 1 : ℕ) < 4096 := (y 1).isLt
  refine Eq.trans ?_ (rd2_of (A := 17408) (B := 4096) _ (by omega) b1).symm
  unfold arrs
  blk_ext [iblk, V, idx t]

theorem dtb_at (y : S64x128.Idx) : iblk m c 2 t y = ((arrs m c).blk t).dt (y 0) (y 1) := by
  have ht := (idx t).2.2.2.2.2.2.2.2.2.2.2.2.2
  have b0 : (y 0 : ℕ) < 64 := (y 0).isLt
  have b1 : (y 1 : ℕ) < 128 := (y 1).isLt
  refine Eq.trans ?_ (rd2_of (A := 17408) (B := 128) _ (by omega) b1).symm
  unfold arrs
  blk_ext [iblk, V, idx t]

theorem w_at (y : S4x6144.Idx) : iblk m c 5 t y = ((arrs m c).blk t).w (y 0) (y 1) := by
  refine Eq.trans ?_ (rd2_of (A := 4) (B := 6144) _ (y 0).isLt (y 1).isLt).symm
  unfold arrs
  blk_ext [iblk, V, idx t]

theorem zero_cast : (FloatOps.sitofp FTy.f32 0#32 : Ideal .f32) = 0 := by
  show (((0#32 : BitVec 32).toInt : ℝ) : EReal) = 0
  simp

/-- The history: five zero rows, then the cache. -/
theorem V_hist (i : Fin 16) (j : Fin 8) (k : Fin 6144) :
    V m c main_v18 (ix3 i j k) = if (j : ℕ) < 5 then 0 else rd3 (arrs m c).cache i (j - 5) k := by
  unfold V
  simp only [List.flatten_cons, List.flatten_nil, List.append_nil, List.cons_append, List.nil_append]
  entry_read
  simp only [StableHlo.TRef.ofBuf_toBuf, StableHlo.TRef.ofBuf, StableHlo.TRef.toBuf, eq_mpr_eq_cast, cast_eq]
  pointwise []
  have hj := j.isLt
  by_cases h : (j : ℕ) < 5
  · rw [if_pos h, dif_neg (by omega)]
    exact zero_cast
  · rw [if_neg h, dif_pos (by omega)]
    exact (rd3_of (A := 16) (B := 3) (C := 6144) _ i.isLt (by omega) k.isLt).symm

/-- The state, its two inner axes swapped. -/
theorem V_s0 (i : Fin 16) (j : Fin 8) (k : Fin 128) (l : Fin 512) :
    V m c main_v17 (ix4 i j k l) = rd4 (arrs m c).state i (8 * j + l / 64) (l % 64) k := by
  unfold V
  simp only [List.flatten_cons, List.flatten_nil, List.append_nil, List.cons_append, List.nil_append]
  entry_read
  pointwise []
  refine Eq.trans ?_ (rd4_of (A := 16) (B := 64) (C := 64) (D := 128) _ i.isLt (by omega) (by omega) k.isLt).symm
  unfold arrs
  blk_ext []

theorem V_b (j : Fin 6144) : V m c main_v19 (ix2 0 j) = rd1 (arrs m c).b j := by
  unfold V
  simp only [List.flatten_cons, List.flatten_nil, List.append_nil, List.cons_append, List.nil_append]
  entry_read
  pointwise []
  exact (rd1_of (A := 6144) _ j.isLt).symm

theorem V_a (j : Fin 128) : V m c main_v3 (ix2 0 j) = if (j : ℕ) < 64 then -Ideal.exp (rd1 (arrs m c).alog j) else 0 := by
  unfold V
  simp only [List.flatten_cons, List.flatten_nil, List.append_nil, List.cons_append, List.nil_append]
  entry_read
  simp only [StableHlo.TRef.ofBuf_toBuf, StableHlo.TRef.ofBuf, StableHlo.TRef.toBuf, eq_mpr_eq_cast, cast_eq]
  pointwise []
  by_cases h : (j : ℕ) < 64
  · rw [dif_pos h, if_pos h]
    exact congrArg (fun x => -Ideal.exp x) (rd1_of (A := 64) _ h).symm
  · rw [dif_neg h, if_neg h]
    exact zero_cast

theorem V_d (j : Fin 4096) : V m c main_v6 (ix2 0 j) = rd1 (arrs m c).skip (j / 64) := by
  unfold V
  simp only [List.flatten_cons, List.flatten_nil, List.append_nil, List.cons_append, List.nil_append]
  entry_read
  pointwise []
  refine Eq.trans ?_ (rd1_of (A := 64) _ (by omega)).symm
  unfold arrs
  blk_ext []

theorem V_ng (j : Fin 4096) : V m c main_v20 (ix2 0 j) = rd1 (arrs m c).ng j := by
  unfold V
  simp only [List.flatten_cons, List.flatten_nil, List.append_nil, List.cons_append, List.nil_append]
  entry_read
  pointwise []
  exact (rd1_of (A := 4096) (arrs m c).ng j.isLt).symm

/-- A lane's head number, as the host computes it: the quotient by 64, corrected where the signs differ. -/
theorem head_of : ∀ j : Fin 4096, Scalar.select
    (IntOp.andi
      (IntOp.cmpi CmpIPredicate.ne
        (if BitVec.ofNat 32 (j : ℕ) = 0 then (0 : BitVec 32) else if (BitVec.ofNat 32 (j : ℕ)).msb = true then -1 else 1)
        (if 64#32 = 0 then 0 else if (64#32).msb = true then -1 else 1))
      (IntOp.cmpi CmpIPredicate.ne (IntOp.remsi ArithUnit.host (BitVec.ofNat 32 (j : ℕ)) 64#32) 0#32))
    (IntOp.subi (IntOp.divsi ArithUnit.host (BitVec.ofNat 32 (j : ℕ)) 64#32) 1#32)
    (IntOp.divsi ArithUnit.host (BitVec.ofNat 32 (j : ℕ)) 64#32) = BitVec.ofNat 32 ((j : ℕ) / 64) := by
  decide +kernel

theorem same_head (i j : ℕ) (hi : i < 128) (hj : j < 64) :
    (FloatOps.uitofp FTy.bf16 (IntOp.cmpi CmpIPredicate.eq (BitVec.ofNat 32 i) (BitVec.ofNat 32 j)) : Ideal .bf16)
      = if i = j then 1 else 0 := by
  show (((IntOp.cmpi CmpIPredicate.eq (BitVec.ofNat 32 i) (BitVec.ofNat 32 j)).toNat : ℝ) : EReal) = _
  by_cases h : i = j
  · subst h
    rw [if_pos rfl]
    simp [IntOp.cmpi]
  · rw [if_neg h]
    have hne : BitVec.ofNat 32 i ≠ BitVec.ofNat 32 j := fun he => h (by
      have := congrArg BitVec.toNat he
      simp only [BitVec.toNat_ofNat] at this
      omega)
    simp [IntOp.cmpi, hne]

/-- The heads' lanes: one where the lane is the head's, zero elsewhere. -/
theorem V_ex (i : Fin 128) (j : Fin 4096) :
    @Eq EReal (V m c main_v15 (ix2 i j)) (if (i : ℕ) = j / 64 then 1 else 0) := by
  unfold V
  simp only [List.flatten_cons, List.flatten_nil, List.append_nil, List.cons_append, List.nil_append]
  entry_read
  simp only [StableHlo.TRef.ofBuf_toBuf, StableHlo.TRef.ofBuf, StableHlo.TRef.toBuf, eq_mpr_eq_cast, cast_eq]
  pointwise []
  exact (congrArg (fun x => (FloatOps.uitofp FTy.bf16 (IntOp.cmpi CmpIPredicate.eq (BitVec.ofNat 32 (i : ℕ)) x) : Ideal .bf16))
    (head_of j)).trans (same_head i (j / 64) i.isLt (by omega))

theorem hist_at (y : S1x8x6144.Idx) : iblk m c 3 t y = ((arrs m c).blk t).hist (y 1) (y 2) := by
  refine Eq.trans ?_ (V_hist m c ⟨t.val, (idx t).2.2.2.2.2.2.2.2.2.2.2.2.2⟩ (y 1) (y 2))
  blk_ext [iblk, idx t]

theorem s0_at (y : S1x8x128x512.Idx) : iblk m c 4 t y = ((arrs m c).blk t).s0 (y 1) (y 2) (y 3) := by
  refine Eq.trans ?_ (V_s0 m c ⟨t.val, (idx t).2.2.2.2.2.2.2.2.2.2.2.2.2⟩ (y 1) (y 2) (y 3))
  blk_ext [iblk, idx t]

theorem b_at (y : S1x6144.Idx) : iblk m c 6 t y = ((arrs m c).blk t).b (y 1) := by
  refine Eq.trans ?_ (V_b m c (y 1))
  blk_ext [iblk, idx t]

theorem rate_at (y : S1x128.Idx) : iblk m c 7 t y = ((arrs m c).blk t).a (y 1) := by
  refine Eq.trans ?_ (V_a m c (y 1))
  blk_ext [iblk, idx t]

theorem d_at (y : S1x4096.Idx) : iblk m c 8 t y = ((arrs m c).blk t).d (y 1) := by
  refine Eq.trans ?_ (V_d m c (y 1))
  blk_ext [iblk, idx t]

theorem ng_at (y : S1x4096.Idx) : iblk m c 9 t y = ((arrs m c).blk t).ng (y 1) := by
  refine Eq.trans ?_ (V_ng m c (y 1))
  blk_ext [iblk, idx t]

theorem lanes_at (y : S128x4096.Idx) : iblk m c 10 t y = ((arrs m c).blk t).ex (y 0) (y 1) := by
  refine Eq.trans ?_ (V_ex m c (y 0) (y 1))
  blk_ext [iblk, idx t]

/-- Each point's windows hold its sequence's block. -/
theorem reads : Reads ((arrs m c).blk t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) where
  raw := raw_at m c t
  z := z_at m c t
  dt := dtb_at m c t
  hist := hist_at m c t
  s0 := s0_at m c t
  w := w_at m c t
  b := b_at m c t
  a := rate_at m c t
  d := d_at m c t
  ng := ng_at m c t
  ex := lanes_at m c t

end Cert.KernelIdeal.Body
-- ==== Proof.Plain.lean ====
/-
  The step as the mathematics states it, on one sequence's block, and the kernel's form of it: equal where no step length
  is negative, no rate is positive and the heads' lanes are the heads' own.
-/
module

public import proofs.«01_k».proof.Proof.Spec

@[expose] public section

noncomputable section

namespace Cert.Ssd.Blk

open Idealize.ShloMosaic

variable (B : Blk)

/-- The running sum of the log decays. -/
def rc (i h : ℕ) : EReal := ∑ j : Fin 64, if (j : ℕ) ≤ i then B.dt j h * B.a h else 0

/-- A position's score of another, with its decay and step length. -/
def rmat (g h i j : ℕ) : EReal :=
  (∑ n : Fin 128, B.X j (4096 + 128 * g + n) * B.X i (5120 + 128 * g + n))
    * Ideal.exp (if j ≤ i then B.rc i (8 * g + h) - B.rc j (8 * g + h) else ⊥) * B.dt j (8 * g + h)

/-- The outputs before the skip. -/
def rY (g h p i : ℕ) : EReal :=
  (∑ j : Fin 64, B.X j (512 * g + 64 * h + p) * B.rmat g h i j)
    + ∑ n : Fin 128, B.s0 g n (64 * h + p) * (B.X i (5120 + 128 * g + n) * Ideal.exp (B.rc i (8 * g + h)))

/-- The state after the block. -/
def rST (g h p n : ℕ) : EReal :=
  B.s0 g n (64 * h + p) * Ideal.exp (B.rc 63 (8 * g + h))
    + ∑ j : Fin 64, B.X j (512 * g + 64 * h + p)
      * (B.X j (4096 + 128 * g + n) * (B.dt j (8 * g + h) * Ideal.exp (B.rc 63 (8 * g + h) - B.rc j (8 * g + h))))

/-- The outputs with the skip, gated. -/
def rYG (g h p i : ℕ) : EReal :=
  (B.rY g h p i + B.d (512 * g + 64 * h + p) * B.X i (512 * g + 64 * h + p)) * B.z i (512 * g + 64 * h + p)

/-- The reciprocal root of the mean square. -/
def rinv (i : ℕ) : EReal :=
  Ideal.rsqrt (Ideal.div (∑ l : Fin 4096, B.rYG ((l : ℕ) / 512) ((l : ℕ) % 512 / 64) ((l : ℕ) % 64) i
      * B.rYG ((l : ℕ) / 512) ((l : ℕ) % 512 / 64) ((l : ℕ) % 64) i)
    (Ideal.ofBits .f32 0x45800000#32) + Ideal.ofBits .f32 0x358637BD#32)

/-- What the equality asks of a block: no negative step length, no positive rate, the lanes the heads' own. -/
structure Sound : Prop where
  dt : ∀ i < 64, ∀ h < 128, 0 ≤ B.dt i h
  a : ∀ h, B.a h ≤ 0
  ex : ∀ k l, B.ex k l = if k = l / 64 then 1 else 0

variable {B} (hB : B.Sound)

include hB

theorem da_nonpos {j h : ℕ} (hj : j < 64) (hh : h < 128) : B.dt j h * B.a h ≤ 0 :=
  EReal.mul_nonpos_iff.2 (Or.inl ⟨hB.dt j hj h hh, hB.a h⟩)

theorem rc_mono {i j h : ℕ} (hh : h < 128) (hij : j ≤ i) : B.rc i h ≤ B.rc j h := by
  refine Finset.sum_le_sum fun k _ => ?_
  have hk := da_nonpos hB k.isLt hh
  by_cases h1 : (k : ℕ) ≤ j
  · rw [if_pos h1, if_pos (h1.trans hij)]
  · rw [if_neg h1]
    split
    · exact hk
    · exact le_refl _

theorem rc_nonpos (i : ℕ) {h : ℕ} (hh : h < 128) : B.rc i h ≤ 0 := by
  refine Finset.sum_nonpos fun k _ => ?_
  split
  · exact da_nonpos hB k.isLt hh
  · exact le_refl _

/-- The rounded part and the remainder sum to the running sum. -/
theorem cum_eq (i : ℕ) {h : ℕ} (hh : h < 128) : B.cum i h = B.rc i h := by
  unfold cum rc
  rw [← Finset.sum_add_distrib]
  refine Finset.sum_congr rfl fun k _ => ?_
  split
  · refine split_eq fun ht => ?_
    have := da_nonpos hB k.isLt hh
    rw [ht] at this
    exact absurd this (by simp)
  · exact add_zero 0

theorem dec_eq {l : ℕ} (hl : l / 64 < 128) : B.dec l = Ideal.exp (B.rc 63 (l / 64)) := by
  unfold dec
  have h2 : (∑ k : Fin 128, (Ideal.exp (B.cum 63 k) - Ideal.exp (B.cum 63 k)) * B.ex k l) = 0 := by
    refine Finset.sum_eq_zero fun k _ => ?_
    rw [exp_sub_self (by rw [cum_eq hB 63 k.isLt]; exact rc_nonpos hB 63 k.isLt), zero_mul]
  rw [h2, add_zero, Finset.sum_eq_single (⟨l / 64, hl⟩ : Fin 128)]
  · rw [hB.ex, if_pos rfl, mul_one, cum_eq hB 63 hl]
  · intro k _ hk
    rw [hB.ex, if_neg (fun h => hk (Fin.ext h)), mul_zero]
  · intro h
    exact absurd (Finset.mem_univ _) h

theorem mat_eq {g h i j : ℕ} (hj : j < 64) (hh : 8 * g + h < 128) : B.mat g (8 * g + h) i j = B.rmat g h i j := by
  unfold mat rmat cml
  rw [cum_eq hB i hh, cum_eq hB j hh]
  have hs : (∑ n : Fin 128, B.X i (5120 + 128 * g + n) * B.X j (4096 + 128 * g + n))
      = ∑ n : Fin 128, B.X j (4096 + 128 * g + n) * B.X i (5120 + 128 * g + n) :=
    Finset.sum_congr rfl fun n _ => mul_comm _ _
  rw [hs, mul_assoc]
  congr 1
  by_cases hij : j ≤ i
  · rw [if_pos hij, if_pos hij]
    exact decay_eq (rc_nonpos hB j hh) (rc_mono hB hh hij) (hB.dt j hj _ hh)
  · rw [if_neg hij, if_neg hij]
    simp

theorem Y_eq {g i c : ℕ} (hg : g < 8) (hc : c < 512) : B.Y g i c = B.rY g (c / 64) (c % 64) i := by
  unfold Y rY
  have h1 : g * 8 + c / 64 = 8 * g + c / 64 := by omega
  have h2 : 512 * g + 64 * (c / 64) + c % 64 = 512 * g + c := by omega
  have h3 : 64 * (c / 64) + c % 64 = c := by omega
  rw [h1, h2, h3]
  congr 1
  · refine Finset.sum_congr rfl fun j _ => ?_
    rw [mat_eq hB j.isLt (by omega), mul_comm]
  · refine Finset.sum_congr rfl fun n _ => ?_
    rw [cum_eq hB i (by omega), exp2_kap (rc_nonpos hB i (by omega)), mul_comm]

theorem ST_eq {g n c : ℕ} (hg : g < 8) (hc : c < 512) : B.ST g n c = B.rST g (c / 64) (c % 64) n := by
  unfold ST rST wgt
  have h1 : g * 8 + c / 64 = 8 * g + c / 64 := by omega
  have h2 : 512 * g + 64 * (c / 64) + c % 64 = 512 * g + c := by omega
  have h3 : 64 * (c / 64) + c % 64 = c := by omega
  have h4 : (512 * g + c) / 64 = 8 * g + c / 64 := by omega
  rw [h1, h2, h3, dec_eq hB (by omega), h4]
  congr 1
  refine Finset.sum_congr rfl fun j _ => ?_
  rw [cum_eq hB 63 (by omega), cum_eq hB j (by omega), mul_comm]

theorem YG_eq {g i c : ℕ} (hg : g < 8) (hc : c < 512) : B.YG g i c = B.rYG g (c / 64) (c % 64) i := by
  unfold YG rYG
  have h2 : 512 * g + 64 * (c / 64) + c % 64 = 512 * g + c := by omega
  rw [Y_eq hB hg hc, h2]

/-- Eight groups of 512 lanes are the 4096 lanes. -/
theorem ssq_eq (i : ℕ) :
    B.ssq 0 i + B.ssq 1 i + B.ssq 2 i + B.ssq 3 i + B.ssq 4 i + B.ssq 5 i + B.ssq 6 i + B.ssq 7 i
      = ∑ l : Fin 4096, B.rYG ((l : ℕ) / 512) ((l : ℕ) % 512 / 64) ((l : ℕ) % 64) i
        * B.rYG ((l : ℕ) / 512) ((l : ℕ) % 512 / 64) ((l : ℕ) % 64) i := by
  have hs : (∑ g : Fin 8, B.ssq g i)
      = ∑ l : Fin 4096, B.rYG ((l : ℕ) / 512) ((l : ℕ) % 512 / 64) ((l : ℕ) % 64) i
        * B.rYG ((l : ℕ) / 512) ((l : ℕ) % 512 / 64) ((l : ℕ) % 64) i := by
    unfold ssq
    rw [← Fintype.sum_prod_type' (f := fun (g : Fin 8) (c : Fin 512) => B.YG g i c * B.YG g i c)]
    refine Fintype.sum_equiv finProdFinEquiv _ _ fun x => ?_
    have h1 : ((finProdFinEquiv x : Fin (8 * 512)) : ℕ) = x.2 + 512 * x.1 := rfl
    have hx1 := x.1.isLt
    have hx2 := x.2.isLt
    rw [YG_eq hB x.1.isLt x.2.isLt]
    have e1 : ((finProdFinEquiv x : Fin (8 * 512)) : ℕ) / 512 = x.1 := by omega
    have e2 : ((finProdFinEquiv x : Fin (8 * 512)) : ℕ) % 512 / 64 = x.2 / 64 := by omega
    have e3 : ((finProdFinEquiv x : Fin (8 * 512)) : ℕ) % 64 = x.2 % 64 := by omega
    rw [e1, e2, e3]
  rw [← hs, Fin.sum_univ_eight]
  rfl

theorem out_eq {g i c : ℕ} (hg : g < 8) (hc : c < 512) :
    B.out g i c = B.rYG g (c / 64) (c % 64) i * B.rinv i * B.ng (512 * g + c) := by
  unfold out inv rinv
  rw [YG_eq hB hg hc, ssq_eq hB i]

end Cert.Ssd.Blk
-- ==== Proof.Stages.lean ====
/-
  The reference's stages, entry by entry, as the same plain functions of a sequence's block.
-/
module

public import proofs.«01_k».proof.Proof.Arrays
public import proofs.«01_k».proof.Proof.Plain
public import proofs.«01_k».proof.Proof.Gen.ReferenceIdeal.Read

@[expose] public section

set_option maxRecDepth 16384

noncomputable section

namespace Cert.ReferenceIdeal.Stages

open Cert.ReferenceIdeal Cert.ReferenceIdeal.Gen Cert.ReferenceIdeal.Read Idealize.ShloMosaic Idealize.ShloMosaic.TcCoe
open Idealize.SL.Sem
open Cert.Ssd

variable (A : Arrs)

theorem v3_at (b : Fin 16) (r : Fin 67) (l : Fin 6144) :
    val_main_v3 (F := Ideal) A.xbc A.cache (ix3 b r l) = (A.blk b).E (5 + r) l := by
  pointwise [val_main_v3, val_main_v2, val_main_v1, val_main_v0]
  have hr := r.isLt
  unfold Blk.E
  by_cases h : (r : ℕ) < 3
  · rw [dif_pos h, if_pos (by omega)]
    show _ = if 5 + (r : ℕ) < 5 then (0 : EReal) else rd3 A.cache b (5 + r - 5) l
    rw [if_neg (by omega), rd3_of (A := 16) (B := 3) (C := 6144) _ b.isLt (by omega) l.isLt]
    blk_ext []
  · rw [dif_neg h]
    have hb : (b : ℕ) < 16 := b.isLt
    have h8 : ¬ 5 + (r : ℕ) < 8 := fun hc => h (by omega)
    have hr2 : 16384 + 64 * (b : ℕ) + (5 + r - 8) < 17408 := by omega
    refine Eq.trans ?_ (if_neg h8).symm
    refine Eq.trans ?_ (rd2_of (A := 17408) (B := 6144) A.xbc hr2 l.isLt).symm
    blk_ext []

theorem v33_at (b : Fin 16) (i : Fin 64) (l : Fin 6144) :
    val_main_v33 (F := Ideal) A.xbc A.cache A.w A.b (ix3 b i l) = (A.blk b).pre i l := by
  pointwise [val_main_v33, val_main_v32, val_main_v31, val_main_v30, val_main_v29, val_main_v28, val_main_v27,
    val_main_v26, val_main_v25, val_main_v24, val_main_v23, val_main_v22, val_main_v21, val_main_v20, val_main_v19,
    val_main_v18, val_main_v17, val_main_v16, val_main_v15, val_main_v14, val_main_v13, val_main_v12, val_main_v11,
    val_main_v10, val_main_v9, val_main_v8, val_main_v7, val_main_v6, val_main_v5, val_main_v4]
  have hw : ∀ k : Fin 4, A.w (ix2 k l) = (A.blk b).w k l := fun k =>
    (rd2_of (A := 4) (B := 6144) A.w k.isLt l.isLt).symm
  have hb : A.b (ix1 l) = (A.blk b).b l := (rd1_of (A := 6144) A.b l.isLt).symm
  rw [v3_at, v3_at, v3_at, v3_at, hw, hw, hw, hw, hb]
  unfold Blk.pre
  have e1 : 5 + (1 + (i : ℕ)) = 6 + i := by omega
  have e2 : 5 + (2 + (i : ℕ)) = 7 + i := by omega
  have e3 : 5 + (3 + (i : ℕ)) = 8 + i := by omega
  show (A.blk b).E (5 + i) l * (A.blk b).w 0 l + (A.blk b).E (5 + (1 + i)) l * (A.blk b).w 1 l
    + (A.blk b).E (5 + (2 + i)) l * (A.blk b).w 2 l + (A.blk b).E (5 + (3 + i)) l * (A.blk b).w 3 l + (A.blk b).b l = _
  rw [e1, e2, e3]
  ac_rfl

theorem v34_at (b : Fin 16) (i : Fin 64) (l : Fin 6144) :
    val_main_v34 (F := Ideal) A.xbc A.cache A.w A.b (ix3 b i l) = (A.blk b).X i l := by
  pointwise [val_main_v34, val_main_call0_v5, val_main_call0_v4, val_main_call0_v3, val_main_call0_v2,
    val_main_call0_v1, val_main_call0_v0, val_main_call0_cst, val_main_call0_cst_0]
  rw [v33_at]
  rfl

theorem v36_at (b : Fin 16) (i : Fin 64) (g h : Fin 8) (p : Fin 64) :
    val_main_v36 (F := Ideal) A.xbc A.cache A.w A.b (ix5 b i g h p) = (A.blk b).X i (512 * g + 64 * h + p) := by
  pointwise [val_main_v36, val_main_v35]
  refine (v34_at A _ _ _).trans ?_
  congr 1
  show (g : ℕ) * 512 + h * 64 + p = _
  omega

theorem v38_at (b : Fin 16) (i : Fin 64) (g : Fin 8) (n : Fin 128) :
    val_main_v38 (F := Ideal) A.xbc A.cache A.w A.b (ix4 b i g n) = (A.blk b).X i (4096 + 128 * g + n) := by
  pointwise [val_main_v38, val_main_v37]
  refine (v34_at A _ _ _).trans ?_
  congr 1
  dsimp only
  omega

theorem v40_at (b : Fin 16) (i : Fin 64) (g : Fin 8) (n : Fin 128) :
    val_main_v40 (F := Ideal) A.xbc A.cache A.w A.b (ix4 b i g n) = (A.blk b).X i (5120 + 128 * g + n) := by
  pointwise [val_main_v40, val_main_v39]
  refine (v34_at A _ _ _).trans ?_
  congr 1
  dsimp only
  omega

theorem v42_at (b : Fin 16) (i : Fin 64) (g h : Fin 8) :
    val_main_v42 (F := Ideal) A.dt (ix4 b i g h) = (A.blk b).dt i (8 * g + h) := by
  pointwise [val_main_v42, val_main_v41]
  refine Eq.trans ?_ (rd2_of (A := 17408) (B := 128) A.dt (by omega) (by omega)).symm
  blk_ext []

theorem v47_at (b : Fin 16) (i : Fin 64) (g h : Fin 8) :
    val_main_v47 (F := Ideal) A.alog (ix4 b i g h) = (A.blk b).a (8 * g + h) := by
  pointwise [val_main_v47, val_main_v46, val_main_v45, val_main_v44, val_main_v43]
  refine Eq.trans ?_ (if_pos (by omega)).symm
  refine congrArg (fun x => -Ideal.exp x) ?_
  refine Eq.trans ?_ (rd1_of (A := 64) A.alog (by omega)).symm
  blk_ext []

theorem v48_at (b : Fin 16) (i : Fin 64) (g h : Fin 8) :
    val_main_v48 (F := Ideal) A.dt A.alog (ix4 b i g h) = (A.blk b).dt i (8 * g + h) * (A.blk b).a (8 * g + h) := by
  pointwise [val_main_v48]
  rw [v42_at, v47_at]

/-- A list summed from the left is the initial value and the sum. -/
theorem foldl_add {α : Type} (f : α → EReal) (L : List α) (v : EReal) :
    L.foldl (fun r k => r + f k) v = v + (L.map f).sum := by
  induction L generalizing v with
  | nil => simp
  | cons a L ih => rw [List.foldl_cons, ih, List.map_cons, List.sum_cons, add_assoc]

/-- The window's positions are its second coordinates. -/
def winEquiv : (⟨4, ![1, 64, 1, 1]⟩ : Shape).Idx ≃ Fin 64 where
  toFun w := w 1
  invFun k := ix4 0 k 0 0
  left_inv w := by
    have h0 : (w 0 : ℕ) < 1 := (w 0).isLt
    have h2 : (w 2 : ℕ) < 1 := (w 2).isLt
    have h3 : (w 3 : ℕ) < 1 := (w 3).isLt
    funext a
    apply Fin.ext
    match a with
    | ⟨0, _⟩ => show 0 = (w 0 : ℕ); omega
    | ⟨1, _⟩ => rfl
    | ⟨2, _⟩ => show 0 = (w 2 : ℕ); omega
    | ⟨3, _⟩ => show 0 = (w 3 : ℕ); omega
  right_inv k := rfl

/-- The windowed sum over 64 positions padded by 63 before is the running sum. -/
theorem window_sum (x : FVec Ideal S16x64x8x8 .f32) (v : S_.Idx → EReal) (hv : ∀ k, v k = 0)
    (b : Fin 16) (i : Fin 64) (g h : Fin 8) :
    Host.reduceWindow (fun p q : EReal => p + q) ![1, 64, 1, 1] ![1, 1, 1, 1] ![0, 63, 0, 0] ![0, 0, 0, 0] x v
        reduceWindows_S16x64x8x8_S16x64x8x8_w1s1p0_0_w64s1p63_0_w1s1p0_0_w1s1p0_0 h_S_ (ix4 b i g h)
      = ∑ j : Fin 64, if (j : ℕ) ≤ i then x (ix4 b j g h) else 0 := by
  unfold Host.reduceWindow
  dsimp only
  rw [foldl_add, hv, zero_add, ← Fin.sum_univ_def]
  refine Eq.trans (Fintype.sum_equiv ((Shape.rowMajor ⟨4, ![1, 64, 1, 1]⟩).symm.trans winEquiv) _
    (fun n : Fin 64 => if hn : 63 ≤ (i : ℕ) + n then x (ix4 b ⟨i + n - 63, by omega⟩ g h) else 0) fun n => ?_) ?_
  · let w := (Shape.rowMajor ⟨4, ![1, 64, 1, 1]⟩).symm n
    have w0 : (w 0 : ℕ) < 1 := (w 0).isLt
    have w1 : (w 1 : ℕ) < 64 := (w 1).isLt
    have w2 : (w 2 : ℕ) < 1 := (w 2).isLt
    have w3 : (w 3 : ℕ) < 1 := (w 3).isLt
    have hb := b.isLt
    have hi := i.isLt
    have hg := g.isLt
    have hh := h.isLt
    by_cases h1 : 63 ≤ (i : ℕ) + (w 1 : ℕ)
    · refine Eq.trans ?_ (dif_pos h1).symm
      refine (dif_pos fun a => ?_).trans ?_
      · match a with
        | ⟨0, _⟩ => show 0 ≤ (b : ℕ) * 1 + (w 0 : ℕ) ∧ (b : ℕ) * 1 + (w 0 : ℕ) - 0 < 16; omega
        | ⟨1, _⟩ => show 63 ≤ (i : ℕ) * 1 + (w 1 : ℕ) ∧ (i : ℕ) * 1 + (w 1 : ℕ) - 63 < 64; omega
        | ⟨2, _⟩ => show 0 ≤ (g : ℕ) * 1 + (w 2 : ℕ) ∧ (g : ℕ) * 1 + (w 2 : ℕ) - 0 < 8; omega
        | ⟨3, _⟩ => show 0 ≤ (h : ℕ) * 1 + (w 3 : ℕ) ∧ (h : ℕ) * 1 + (w 3 : ℕ) - 0 < 8; omega
      · refine congrArg x (funext fun a => Fin.ext ?_)
        match a with
        | ⟨0, _⟩ => show (b : ℕ) * 1 + (w 0 : ℕ) - 0 = b; omega
        | ⟨1, _⟩ => show (i : ℕ) * 1 + (w 1 : ℕ) - 63 = i + (w 1 : ℕ) - 63; omega
        | ⟨2, _⟩ => show (g : ℕ) * 1 + (w 2 : ℕ) - 0 = g; omega
        | ⟨3, _⟩ => show (h : ℕ) * 1 + (w 3 : ℕ) - 0 = h; omega
    · refine Eq.trans ?_ (dif_neg h1).symm
      refine dif_neg fun hc => h1 ?_
      have := (hc 1).1
      have h2 : 63 ≤ (i : ℕ) * 1 + (w 1 : ℕ) := this
      omega
  · refine Fintype.sum_equiv (Equiv.addRight (i + 1)) _ _ fun n => ?_
    have hi := i.isLt
    have hn := n.isLt
    have e : ((Equiv.addRight (i + 1) n : Fin 64) : ℕ) = (n + (i + 1) % 64) % 64 := by
      show ((n + (i + 1) : Fin 64) : ℕ) = _
      rw [Fin.val_add, Fin.val_add]
      rfl
    by_cases h1 : 63 ≤ (i : ℕ) + n
    · rw [dif_pos h1, if_pos (by omega)]
      congr 2
      apply Fin.ext
      show (i : ℕ) + n - 63 = _
      omega
    · rw [dif_neg h1, if_neg (by omega)]

theorem v49_at (b : Fin 16) (i : Fin 64) (g h : Fin 8) :
    val_main_v49 (F := Ideal) A.dt A.alog (ix4 b i g h) = (A.blk b).rc i (8 * g + h) := by
  refine (window_sum (val_main_v48 (F := Ideal) A.dt A.alog) (fun _ => val_main_call1_call0_v0 (F := Ideal) (Shape.Idx.first h_S_)) (fun k => ?_) b i g h).trans ?_
  · pointwise [val_main_call1_call0_v0, val_main_call1_call0_cst]
  · refine Finset.sum_congr rfl fun j _ => ?_
    rw [v48_at]

/-- The bit of the causal mask: set where the second step is not after the first. -/
theorem causal (i j : Fin 64) :
    Scalar.select (IntOp.cmpi CmpIPredicate.sge (IntOp.addi (BitVec.ofNat 32 i) 0#32) (BitVec.ofNat 32 j)) 1#1 0#1
      = if (j : ℕ) ≤ i then 1#1 else 0#1 := by
  revert i j
  decide +kernel

theorem v59_at (b : Fin 16) (i j : Fin 64) (g h : Fin 8) :
    val_main_v59 (F := Ideal) A.dt A.alog (ix5 b i j g h)
      = Ideal.exp (if (j : ℕ) ≤ i then (A.blk b).rc i (8 * g + h) - (A.blk b).rc j (8 * g + h) else ⊥) := by
  pointwise [val_main_v59, val_main_v58, val_main_call3_v0, val_main_call3_v1, val_main_call3_v2, val_main_v57, val_main_v56, val_main_call2_v0,
    val_main_call2_v1, val_main_call2_v2, val_main_call2_v3, val_main_call2_v4, val_main_call2_v5, val_main_call2_c,
    val_main_call2_c_0, val_main_v55, val_main_c, val_main_cst, val_main_v54, val_main_v53, val_main_v52, val_main_v51, val_main_v50]
  rw [v49_at, v49_at, causal]
  by_cases hji : (j : ℕ) ≤ i
  · rw [if_pos hji, if_pos hji]
    rfl
  · rw [if_neg hji, if_neg hji]
    refine congrArg Ideal.exp ?_
    show Ideal.ofBits .f32 4286578688#32 = ⊥
    simp [Ideal.ofBits, Ideal.ieee]

theorem v67_at (b : Fin 16) (i j : Fin 64) (g h : Fin 8) :
    val_main_v67 (F := Ideal) A.xbc A.dt A.cache A.w A.b A.alog (ix5 b i j g h) = (A.blk b).rmat g h i j := by
  pointwise [val_main_v67, val_main_v66, val_main_v65, val_main_v64, val_main_v63, val_main_v62, val_main_v61, val_main_v60]
  simp only [v59_at, v42_at, v38_at, v40_at]
  rfl

theorem v69_at (b : Fin 16) (i : Fin 64) (g h : Fin 8) (p : Fin 64) :
    val_main_v69 (F := Ideal) A.xbc A.dt A.cache A.w A.b A.alog (ix5 b i g h p)
      = ∑ j : Fin 64, (A.blk b).X j (512 * g + 64 * h + p) * (A.blk b).rmat g h i j := by
  pointwise [val_main_v69, val_main_v68]
  simp only [v36_at, v67_at]

theorem v70_at (b : Fin 16) (g h : Fin 8) (p : Fin 64) (n : Fin 128) :
    val_main_v70 (F := Ideal) A.state (ix5 b g h p n) = (A.blk b).s0 g n (64 * h + p) := by
  pointwise [val_main_v70]
  refine Eq.trans ?_ (rd4_of (A := 16) (B := 64) (C := 64) (D := 128) A.state b.isLt (by omega) (by omega) n.isLt).symm
  blk_ext []

theorem v78_at (b : Fin 16) (i : Fin 64) (g h : Fin 8) (p : Fin 64) :
    val_main_v78 (F := Ideal) A.xbc A.dt A.cache A.state A.w A.b A.alog (ix5 b i g h p)
      = ∑ n : Fin 128, (A.blk b).s0 g n (64 * h + p)
        * ((A.blk b).X i (5120 + 128 * g + n) * Ideal.exp ((A.blk b).rc i (8 * g + h))) := by
  pointwise [val_main_v78, val_main_v77, val_main_v76, val_main_v75, val_main_v74, val_main_v73, val_main_v72, val_main_v71]
  simp only [v70_at, v40_at, v49_at]

theorem v79_at (b : Fin 16) (i : Fin 64) (g h : Fin 8) (p : Fin 64) :
    val_main_v79 (F := Ideal) A.xbc A.dt A.cache A.state A.w A.b A.alog (ix5 b i g h p) = (A.blk b).rY g h p i := by
  pointwise [val_main_v79]
  rw [v69_at, v78_at]
  rfl

theorem v81_at (b : Fin 16) (g h : Fin 8) :
    val_main_v81 (F := Ideal) A.dt A.alog (ix3 b g h) = (A.blk b).rc 63 (8 * g + h) := by
  pointwise [val_main_v81, val_main_v80]
  exact v49_at A b 63 g h

theorem v97_at (b : Fin 16) (g h : Fin 8) (p : Fin 64) (n : Fin 128) :
    val_main_v97 (F := Ideal) A.xbc A.dt A.cache A.state A.w A.b A.alog (ix5 b g h p n) = (A.blk b).rST g h p n := by
  pointwise [val_main_v97, val_main_v96, val_main_v95, val_main_v94, val_main_v93, val_main_v92, val_main_v91, val_main_v90, val_main_v89, val_main_v88, val_main_v87, val_main_v86, val_main_v85, val_main_v84, val_main_v83, val_main_v82]
  simp only [v70_at, v81_at, v36_at, v38_at, v42_at, v49_at]
  rfl

end Cert.ReferenceIdeal.Stages
-- ==== Proof.Results.lean ====
/-
  The reference's two results, entry by entry, and their equality with the kernel's.
-/
module

public import proofs.«01_k».proof.Proof.Stages

@[expose] public section

set_option maxRecDepth 16384

noncomputable section

namespace Cert.ReferenceIdeal.Stages

open Cert.ReferenceIdeal Cert.ReferenceIdeal.Gen Cert.ReferenceIdeal.Read Idealize.ShloMosaic Idealize.ShloMosaic.TcCoe
open Idealize.SL.Sem
open Cert.Ssd

variable (A : Arrs)

/-- The gated outputs with the skip, by row and channel. -/
theorem v107_row (b : Fin 16) (i : Fin 64) (l : Fin 4096) :
    val_main_v107 (F := Ideal) A.xbc A.zs A.dt A.cache A.state A.w A.b A.alog A.skip (ix2 ⟨64 * b + i, by omega⟩ l)
      = (A.blk b).rYG (l / 512) (l % 512 / 64) (l % 64) i := by
  pointwise [val_main_v107, val_main_v106, val_main_v105, val_main_v104, val_main_v103, val_main_v102, val_main_v101,
    val_main_v100, val_main_v99, val_main_v98]
  rw [v79_at, v36_at]
  have hl := l.isLt
  have hb := b.isLt
  have hi := i.isLt
  have e1 : (l : ℕ) / 64 % 8 = l % 512 / 64 := by omega
  unfold Blk.rYG
  rw [← e1]
  refine congrArg₂ (· * ·) (congrArg₂ (· + ·) rfl (congrArg₂ (· * ·) ?_ rfl)) ?_
  · refine Eq.trans ?_ (rd1_of (A := 64) A.skip
      (show (512 * ((l : ℕ) / 512) + 64 * (l / 64 % 8) + l % 64) / 64 < 64 by omega)).symm
    refine congrArg A.skip (congrArg ix1 (Fin.ext ?_))
    show (l : ℕ) / 512 * 8 + l / 64 % 8 = (512 * ((l : ℕ) / 512) + 64 * (l / 64 % 8) + l % 64) / 64
    omega
  · refine Eq.trans ?_ (rd2_of (A := 17408) (B := 4096) A.zs (show 16384 + 64 * (b : ℕ) + i < 17408 by omega)
      (show 512 * ((l : ℕ) / 512) + 64 * (l / 64 % 8) + l % 64 < 4096 by omega)).symm
    refine congrArg₂ (fun r s => A.zs (ix2 r s)) (Fin.ext ?_) (Fin.ext ?_)
    · show 16384 + (64 * (b : ℕ) + i) = 16384 + 64 * b + i
      omega
    · show (l : ℕ) = 512 * ((l : ℕ) / 512) + 64 * (l / 64 % 8) + l % 64
      omega

/-- The same at a row given by its number. -/
theorem v107_at (b : Fin 16) (i : Fin 64) (l : Fin 4096) (r : Fin 1024) (hr : (r : ℕ) = 64 * b + i) :
    val_main_v107 (F := Ideal) A.xbc A.zs A.dt A.cache A.state A.w A.b A.alog A.skip (ix2 r l)
      = (A.blk b).rYG (l / 512) (l % 512 / 64) (l % 64) i :=
  (congrArg (fun s => val_main_v107 (F := Ideal) A.xbc A.zs A.dt A.cache A.state A.w A.b A.alog A.skip (ix2 s l))
    (Fin.ext hr : r = ⟨64 * b + i, by omega⟩)).trans (v107_row A b i l)

/-- The reciprocal root of a row's mean square. -/
theorem v115_at (b : Fin 16) (i : Fin 64) (r : Fin 1024) (hr : (r : ℕ) = 64 * b + i) (z : Fin 1) :
    val_main_v115 (F := Ideal) A.xbc A.zs A.dt A.cache A.state A.w A.b A.alog A.skip (ix2 r z) = (A.blk b).rinv i := by
  pointwise [val_main_v115, val_main_v114, val_main_v113, val_main_v112, val_main_v111, val_main_v110, val_main_v109,
    val_main_v108, val_main_cst_0, val_main_cst_1, val_main_cst_2]
  simp only [v107_at A b i _ r hr]
  rfl

/-- The reference's outputs. -/
theorem v121_at (b : Fin 16) (i : Fin 64) (l : Fin 4096) (r : Fin 1024) (hr : (r : ℕ) = 64 * b + i) :
    val_main_v121 (F := Ideal) A.xbc A.zs A.dt A.cache A.state A.w A.b A.alog A.skip A.ng (ix2 r l)
      = (A.blk b).rYG (l / 512) (l % 512 / 64) (l % 64) i * (A.blk b).rinv i * (A.blk b).ng l := by
  pointwise [val_main_v121, val_main_v120, val_main_v119, val_main_v118, val_main_v117, val_main_v116]
  rw [v107_at A b i l r hr, v115_at A b i r hr]
  congr 1
  exact (rd1_of (A := 4096) A.ng l.isLt).symm

/-- The reference's states. -/
theorem v123_at (b : Fin 16) (g : Fin 8) (n : Fin 128) (q : Fin 512) :
    val_main_v123 (F := Ideal) A.xbc A.dt A.cache A.state A.w A.b A.alog (ix4 b g n q)
      = (A.blk b).rST g (q / 64) (q % 64) n := by
  pointwise [val_main_v123, val_main_v122]
  exact v97_at A b g _ _ n

end Cert.ReferenceIdeal.Stages
-- ==== Proof.Finals.lean ====
/-
  The kernel's two results, entry by entry: the blocks the grid's points write back, joined to arrays.
-/
module

public import proofs.«01_k».proof.Proof.Arrays

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)
open Cert.Ssd

variable (m : (ℓ : Loc nD τ sig) → Buf (Elt Ideal) ℓ) (c : Dev nD)

/-- The normed outputs, row by row. -/
def G0 (A : Arrs) : S1024x4096.Idx → EReal := fun y =>
  (A.blk ((y 0 : ℕ) / 64)).out ((y 1 : ℕ) / 512) ((y 0 : ℕ) % 64) ((y 1 : ℕ) % 512)

/-- The states, sequence by sequence. -/
def G1 (A : Arrs) : S16x8x128x512.Idx → EReal := fun y => (A.blk (y 0)).ST (y 1) (y 2) (y 3)

theorem out_final : (dats m 0 c).arrAt 11 cfg0.N = G0 (arrs m c) := by
  refine (dats m 0 c).arrAt_eq_of_covers 11 (G0 (arrs m c)) (by decide +kernel) fun t hf y => ?_
  blk_simp
  rw [after0_11]
  have hy0 : (y 0 : ℕ) < 64 := (y 0).isLt
  have hy1 : (y 1 : ℕ) < 4096 := (y 1).isLt
  have h := outs_all ((arrs m c).blk t) c _ (hs0_0 t) _ (hs0_1 t) _ (hs0_2 t) _ (hs0_3 t) _ (hs0_4 t) _ (hs0_5 t)
    _ (hs0_6 t) _ (hs0_7 t) _ (hs0_8 t) _ (hs0_9 t) _ (hs0_10 t) scM0_0 scM0_1 scM0_2 scM0_3 scM0_4 scM0_5 scM0_6
    _ _ _ _ _ _ _ _ _ _ _ (reads m c t) (grid0.coords t) _ (hs0_11 t) _ (hs0_12 t) (Memref.isWhole_whole _)
    (Memref.isWhole_whole _) (Memref.isWhole_whole _) (Memref.isWhole_whole _) (Memref.isWhole_whole _)
    (Memref.isWhole_whole _) (Memref.isWhole_whole _) (hcond0_0 t) (hcond0_1 t) y (by omega)
  refine Eq.trans ?_ (h.trans ?_)
  · unfold outsAt0
    dsimp only
    unfold out0_A_11
    refine congrFun (View.read_writes_eq_canon VO0_11 VO0_11.junk _ fun z => ?_) y
    exact cover0_A_11 (F := Ideal) c _ _ _ _ _ _ _ _ _ _ _ _ _ _ _ _ _ _ _ _ _ _ _ _ _ _ _
      _ _ _ _ _ _ _ _ _ _ _ _ _ _ _ _ _ _ _ _ _ _ _ _ _ _ _ z
  · unfold G0
    blk_simp [idx t]
    rw [show ((t : ℕ) * 64 + (y 0 : ℕ)) / 64 = t by omega, show ((t : ℕ) * 64 + (y 0 : ℕ)) % 64 = (y 0 : ℕ) by omega]

theorem st_final : (dats m 0 c).arrAt 12 cfg0.N = G1 (arrs m c) := by
  refine (dats m 0 c).arrAt_eq_of_covers 12 (G1 (arrs m c)) (by decide +kernel) fun t hf y => ?_
  blk_simp
  rw [after0_12]
  have hy0 : (y 0 : ℕ) < 1 := (y 0).isLt
  have h := st_all ((arrs m c).blk t) c _ (hs0_0 t) _ (hs0_1 t) _ (hs0_2 t) _ (hs0_3 t) _ (hs0_4 t) _ (hs0_5 t)
    _ (hs0_6 t) _ (hs0_7 t) _ (hs0_8 t) _ (hs0_9 t) _ (hs0_10 t) scM0_0 scM0_1 scM0_2 scM0_3 scM0_4 scM0_5 scM0_6
    _ _ _ _ _ _ _ _ _ _ _ (reads m c t) (grid0.coords t) _ (hs0_11 t) _ (hs0_12 t) (Memref.isWhole_whole _)
    (Memref.isWhole_whole _) (Memref.isWhole_whole _) (Memref.isWhole_whole _) (Memref.isWhole_whole _)
    (Memref.isWhole_whole _) (Memref.isWhole_whole _) (hcond0_0 t) (hcond0_1 t) y
  refine Eq.trans ?_ (h.trans ?_)
  · unfold outsAt0
    dsimp only
    unfold out0_A_12
    refine congrFun (View.read_writes_eq_canon VO0_12 VO0_12.junk _ fun z => ?_) y
    exact cover0_A_12 (F := Ideal) c _ _ _ _ _ _ _ _ _ _ _ _ _ _ _ _ _ _ _ _ _ _ _ _ _ _ _
      _ _ _ _ _ _ _ _ _ _ _ _ _ _ _ _ _ _ _ _ _ _ _ _ _ _ _ z
  · unfold G1
    blk_simp [idx t]

end Cert.KernelIdeal.Body
-- ==== Proof.Equal.lean ====
/-
  The kernel's two results and the reference's, equal where no step length is negative.
-/
module

public import proofs.«01_k».proof.Defs
public import proofs.«01_k».proof.Proof.Results
public import proofs.«01_k».proof.Proof.Finals
public import proofs.«01_k».proof.Proof.Gen.Pre_dt_nonneg
public import Idealize.ShloMosaic.Lib.ReduceAll

@[expose] public section

set_option maxRecDepth 16384

noncomputable section

namespace Cert.Ssd

open Idealize.ShloMosaic

/-- Every step length of the sequences is at least zero. -/
def NonNeg (A : Arrs) : Prop := ∀ y, 0 ≤ A.dt y

/-- Where no step length is negative, every sequence's block is sound. -/
theorem sound {A : Arrs} (hA : NonNeg A) {b : ℕ} (hb : b < 16) : (A.blk b).Sound where
  dt i hi h hh := by
    show 0 ≤ rd2 A.dt (16384 + 64 * b + i) h
    rw [rd2_of (A := 17408) (B := 128) A.dt (by omega) hh]
    exact hA _
  a h := by
    show (if h < 64 then -Ideal.exp (rd1 A.alog h) else 0) ≤ 0
    split
    · simpa using rate_nonpos zero_le_one (rd1 A.alog h)
    · exact le_refl _
  ex _ _ := rfl

/-- The outputs agree. -/
theorem outs_eq {A : Arrs} (hA : NonNeg A) :
    Cert.ReferenceIdeal.Read.val_main_v121 (F := Ideal) A.xbc A.zs A.dt A.cache A.state A.w A.b A.alog A.skip A.ng
      = Cert.KernelIdeal.Body.G0 A := by
  funext y
  have h0 : (y 0 : ℕ) < 1024 := (y 0).isLt
  have h1 : (y 1 : ℕ) < 4096 := (y 1).isLt
  have h := Cert.ReferenceIdeal.Stages.v121_at A ⟨(y 0 : ℕ) / 64, by omega⟩ ⟨(y 0 : ℕ) % 64, by omega⟩ (y 1) (y 0)
    (show (y 0 : ℕ) = 64 * ((y 0 : ℕ) / 64) + (y 0 : ℕ) % 64 by omega)
  have hs := sound hA (show (y 0 : ℕ) / 64 < 16 by omega)
  have ho := Blk.out_eq hs (g := (y 1 : ℕ) / 512) (c := (y 1 : ℕ) % 512) (i := (y 0 : ℕ) % 64) (by omega) (by omega)
  refine (congrArg _ (eq_ix2 y)).trans (h.trans (Eq.trans ?_ ho.symm))
  have e1 : (y 1 : ℕ) % 512 % 64 = (y 1 : ℕ) % 64 := by omega
  have e2 : 512 * ((y 1 : ℕ) / 512) + (y 1 : ℕ) % 512 = y 1 := by omega
  rw [e1, e2]

/-- The states agree. -/
theorem states_eq {A : Arrs} (hA : NonNeg A) :
    Cert.ReferenceIdeal.Read.val_main_v123 (F := Ideal) A.xbc A.dt A.cache A.state A.w A.b A.alog
      = Cert.KernelIdeal.Body.G1 A := by
  funext y
  have h := Cert.ReferenceIdeal.Stages.v123_at A (y 0) (y 1) (y 2) (y 3)
  have ho := Blk.ST_eq (sound hA (y 0).isLt) (g := y 1) (c := y 3) (n := y 2) (y 1).isLt (y 3).isLt
  exact (congrArg _ (eq_ix4 y)).trans (h.trans ho.symm)

/-- The precondition, entry by entry. -/
theorem nonNeg {m} (hm : Pre_KernelIdeal_dt_nonneg m) (c) : NonNeg (Cert.KernelIdeal.Body.arrs m c) := by
  intro y
  have h := congrFun (hm c) ix0
  haveI : Subsingleton Cert.Pre_dt_nonneg.S_.Idx := ⟨fun a b => funext fun k => k.elim0⟩
  have h2 := Host.reduce_andi_all _ _ _ _ _ h y
  have h3 : Ideal.ofBits .f32 0#32 ≤ (Cert.KernelIdeal.Body.arrs m c).dt y := (Ideal.cmp_oge_eq_one _ _).1 h2
  rwa [Ideal.ofBits_zero_f32] at h3

end Cert.Ssd
-- ==== Proof.ProjGlu.lean ====
/-
  The input projection's gated linear unit: the carried weight buffer (the value's columns in its first half, the gate's in its
  second), one block's entry, and the call's result as the reference's.
-/
module

public import proofs.«01_k».proof.Proof.Chain
public import proofs.«01_k».proof.Proof.Entry
public import Idealize.ShloMosaic.Lib.Pipeline.ReadBack
public import proofs.«01_k».proof.Proof.Gen.GluIdeal.Frame
public import Idealize.ShloMosaic.Lib.Pipeline.Value
public import Idealize.ShloMosaic.Lib.Claim
public import proofs.«01_k».proof.Proof.Gen.GluRefIdeal.Read

@[expose] public section

set_option maxRecDepth 16384

noncomputable section

namespace Cert.GluIdeal.Body

open Cert.GluIdeal Cert.GluIdeal.Gen Idealize.ShloMosaic Idealize.ShloMosaic.TcCoe Idealize.SL.Sem
open Idealize.ShloMosaic.Pipeline (Dat)
open Cert.Ssd

variable (m : (ℓ : Loc nD τ sig) → Buf (Elt Ideal) ℓ) (c : Dev nD)

/-- Where each window's block lies, and how many blocks there are. -/
theorem idx : ∀ t : Fin cfg0.N, win0_0.index t = ![t.val % 17, 0] ∧ win0_1.index t = ![t.val / 17, 0]
    ∧ win0_2.index t = ![4 + t.val / 17, 0] ∧ win0_3.index t = ![t.val % 17, t.val / 17] ∧ t.val < 68 :=
  (by decide +kernel : ∀ t : Fin grid0.N, _)

/-- The arguments: the rows and the weight. -/
def H : S17408x2048.Idx → EReal := m ((c : Thread nD τ).loc main_arg0)
def W : S2048x18496.Idx → EReal := m ((c : Thread nD τ).loc main_arg1)

/-- The block of rows. -/
theorem h_at (t : Fin cfg0.N) (y : S1024x2048.Idx) : iblk m c 0 t y = rd2 (H m c) (1024 * (t.val % 17) + y 0) (y 1) := by
  have ht := (idx t).2.2.2.2
  have b0 : (y 0 : ℕ) < 1024 := (y 0).isLt
  have b1 : (y 1 : ℕ) < 2048 := (y 1).isLt
  refine Eq.trans ?_ (rd2_of (A := 17408) (B := 2048) _ (by omega) b1).symm
  unfold H
  blk_ext [iblk, V, idx t]

/-- The two blocks of the weight, their rows the weight's columns. -/
theorem a_at (t : Fin cfg0.N) (y : S512x2048.Idx) : X0_1 m c t y = rd2 (W m c) (y 1) (512 * (t.val / 17) + y 0) := by
  have ht := (idx t).2.2.2.2
  have b0 : (y 0 : ℕ) < 512 := (y 0).isLt
  have b1 : (y 1 : ℕ) < 2048 := (y 1).isLt
  refine Eq.trans ?_ (rd2_of (A := 2048) (B := 18496) _ b1 (by omega)).symm
  unfold W X0_1 Pipeline.Window.fill
  refine (dif_pos (moved0_1 t y)).trans ?_
  unfold iblk V V0
  simp only [List.flatten_cons, List.flatten_nil, List.append_nil, List.cons_append, List.nil_append]
  entry_read
  refine (show _ = transpose S18496x2048 [1, 0] (m (c, Proc.tc.devRef main_arg1)) transposes_S2048x18496_S18496x2048_1_0
    (ix2 ⟨512 * (t.val / 17) + y 0, by omega⟩ ⟨y 1, b1⟩) from ?_).trans ?_
  · blk_ext [idx t]
  · pointwise []

theorem g_at (t : Fin cfg0.N) (y : S512x2048.Idx) : X0_2 m c t y = rd2 (W m c) (y 1) (2048 + 512 * (t.val / 17) + y 0) := by
  have ht := (idx t).2.2.2.2
  have b0 : (y 0 : ℕ) < 512 := (y 0).isLt
  have b1 : (y 1 : ℕ) < 2048 := (y 1).isLt
  refine Eq.trans ?_ (rd2_of (A := 2048) (B := 18496) _ b1 (by omega)).symm
  unfold W X0_2 Pipeline.Window.fill
  refine (dif_pos (moved0_2 t y)).trans ?_
  unfold iblk V V0
  simp only [List.flatten_cons, List.flatten_nil, List.append_nil, List.cons_append, List.nil_append]
  entry_read
  refine (show _ = transpose S18496x2048 [1, 0] (m (c, Proc.tc.devRef main_arg1)) transposes_S2048x18496_S18496x2048_1_0
    (ix2 ⟨2048 + 512 * (t.val / 17) + y 0, by omega⟩ ⟨y 1, b1⟩) from ?_).trans ?_
  · blk_ext [idx t]
  · pointwise []

/-- What the buffer holds for column block `q`. -/
def col (w : S2048x18496.Idx → EReal) (q : ℕ) (y : S1024x2048.Idx) : EReal :=
  if (y 0 : ℕ) < 512 then rd2 w (y 1) (512 * q + y 0) else rd2 w (y 1) (2048 + 512 * q + (y 0 - 512))

/-- At the first of a column block's points the buffer takes its two blocks. -/
theorem buf_A (t : Fin cfg0.N) (h0 : t.val % 17 = 0) (y : S1024x2048.Idx) : (outsAt0 m c t.val t.isLt).2 y = col (W m c) (t.val / 17) y := by
  rw [outsAt0_A m c t h0]
  frame_out
  have b0 : (y 0 : ℕ) < 1024 := (y 0).isLt
  by_cases h : (y 0 : ℕ) < 512
  · refine (Cert.KernelIdeal.Body.canon_miss (s := S1024x2048) ![512, 0] ![512, 2048] _ _ _ y 0 (Or.inl h)).trans ?_
    refine (Cert.KernelIdeal.Body.canon_hit2 _ _ ⟨y 0, h⟩ (y 1) y (Nat.zero_add _).symm (Nat.zero_add _).symm).trans ?_
    refine Eq.trans ?_ ((a_at m c t (ix2 ⟨y 0, h⟩ (y 1))).trans (if_pos h).symm)
    pointwise [k0_pay1]
  · have h' : (y 0 : ℕ) - 512 < 512 := by omega
    refine (Cert.KernelIdeal.Body.canon_hit2 _ _ ⟨y 0 - 512, h'⟩ (y 1) y (Nat.add_sub_of_le (Nat.le_of_not_lt h)).symm
      (Nat.zero_add _).symm).trans ?_
    refine Eq.trans ?_ ((g_at m c t (ix2 ⟨y 0 - 512, h'⟩ (y 1))).trans (if_neg h).symm)
    pointwise [k0_pay2]

theorem buf_at (n : ℕ) : ∀ (hn : n < cfg0.N) (y : S1024x2048.Idx), (outsAt0 m c n hn).2 y = col (W m c) (n / 17) y := by
  induction n with
  | zero => exact fun hn y => buf_A m c ⟨0, hn⟩ rfl y
  | succ n ih =>
    intro hn y
    by_cases h0 : (n + 1) % 17 = 0
    · exact buf_A m c ⟨n + 1, hn⟩ h0 y
    · rw [outsAt0_B m c ⟨n + 1, hn⟩ h0]
      have hp : (n + 1) / 17 = n / 17 := by omega
      rw [hp]
      exact ih (Nat.lt_of_succ_lt hn) y

variable (t : Fin cfg0.N)

/-- The body's product of a row with a row of the buffer. -/
def prod (x : S1024x2048.Idx → EReal) (w : S1024x2048.Idx → EReal) (i : Fin 1024) (j : Fin 1024) : EReal :=
  ∑ k : Fin 2048, x (ix2 i k) * w (ix2 j k)

/-- The body's value at an entry. -/
theorem pay_at (x : S1024x2048.Idx → EReal) (w : S1024x2048.Idx → EReal) (y : S1024x512.Idx) :
    k0_pay3 (F := Ideal) x w y = prod x w (y 0) ⟨y 1, lt_trans (y 1).isLt (by decide)⟩
      * sigm (prod x w (y 0) ⟨512 + y 1, Nat.add_lt_add_left (show (y 1 : ℕ) < 512 from (y 1).isLt) 512⟩) := by
  rw [← sigm_of]
  pointwise [k0_pay3, prod]

/-- A block's entry: the value's product times the logistic function of the gate's. -/
theorem out_at (y : S1024x512.Idx) : (outsAt0 m c t.val t.isLt).1 y
    = mm (H m c) (W m c) (1024 * (t.val % 17) + y 0) (512 * (t.val / 17) + y 1)
      * sigm (mm (H m c) (W m c) (1024 * (t.val % 17) + y 0) (2048 + 512 * (t.val / 17) + y 1)) := by
  have e : (outsAt0 m c t.val t.isLt).1 y
      = k0_pay3 (F := Ideal) (iblk m c 0 t) (outsAt0 m c t.val t.isLt).2 y := by
    by_cases h0 : t.val % 17 = 0
    · rw [outsAt0_A m c t h0]
      frame_out
      rw [View.readCov_eq_canon']
      refine congrArg (fun w => k0_pay3 (F := Ideal) (iblk m c 0 t) w y) (funext fun j => congrArg _ ?_)
      exact funext fun a => match a with
        | 0 => Fin.ext (show 0 + 1 * (j 0 : ℕ) = (j 0 : ℕ) by omega)
        | 1 => Fin.ext (show 0 + 1 * (j 1 : ℕ) = (j 1 : ℕ) by omega)
    · rw [outsAt0_B m c t h0]
      frame_out
      simp only [read_unread_whole]
      rfl
  rw [e, pay_at]
  have b1 : (y 1 : ℕ) < 512 := (y 1).isLt
  have s : ∀ (j : Fin 1024), prod (iblk m c 0 t) (outsAt0 m c t.val t.isLt).2 (y 0) j
      = ∑ k : Fin 2048, rd2 (H m c) (1024 * (t.val % 17) + y 0) k * col (W m c) (t.val / 17) (ix2 j k) := by
    intro j
    refine Finset.sum_congr rfl fun k _ => ?_
    rw [h_at, buf_at]
    rfl
  rw [s, s]
  refine congrArg₂ (fun u v => u * sigm v) ?_ ?_
  · exact Finset.sum_congr rfl fun k _ => congrArg _ (if_pos b1)
  · refine Finset.sum_congr rfl fun k _ => congrArg _ ((if_neg (Nat.not_lt.2 (Nat.le_add_right 512 _))).trans ?_)
    exact congrArg _ (congrArg (2048 + 512 * (t.val / 17) + ·) (Nat.add_sub_cancel_left ..))

/-- The reference at an entry. -/
theorem ref_at (x : S17408x2048.Idx → EReal) (w : S2048x18496.Idx → EReal) (i : Fin 17408) (j : Fin 2048) :
    Cert.GluRefIdeal.Read.val_main_v12 (F := Ideal) x w (ix2 i j) = mm x w i j * sigm (mm x w i (2048 + j)) := by
  rw [mm_of x w i.isLt (by omega), mm_of x w i.isLt (by omega)]
  open Cert.GluRefIdeal.Read in
  pointwise [sigm, val_main_v12, val_main_v11, val_main_v10, val_main_v9, val_main_v8, val_main_v7, val_main_v6, val_main_v5,
    val_main_v4, val_main_v3, val_main_v2, val_main_v1, val_main_v0, val_main_cst, val_main_cst_0]

/-- The call's result is the reference's. -/
theorem out_final : (dats m 0 c).arrAt 3 cfg0.N = Cert.GluRefIdeal.Read.val_main_v12 (F := Ideal) (H m c) (W m c) := by
  refine (dats m 0 c).arrAt_eq_of_covers 3 (Cert.GluRefIdeal.Read.val_main_v12 (F := Ideal) (H m c) (W m c))
    (by decide +kernel) fun t hf y => ?_
  blk_simp
  rw [after0_3]
  have ht := (idx t).2.2.2.2
  have hy0 : (y 0 : ℕ) < 1024 := (y 0).isLt
  have hy1 : (y 1 : ℕ) < 512 := (y 1).isLt
  refine (out_at m c t y).trans ?_
  refine Eq.trans ?_ ((ref_at _ _ ⟨1024 * (t.val % 17) + y 0, by omega⟩ ⟨512 * (t.val / 17) + y 1, by omega⟩).symm.trans
    (congrArg _ ?_))
  · exact congrArg (fun n => mm (H m c) (W m c) (1024 * (t.val % 17) + y 0) (512 * (t.val / 17) + y 1)
      * sigm (mm (H m c) (W m c) (1024 * (t.val % 17) + y 0) n)) (Nat.add_assoc _ _ _)
  · blk_ext [idx t]

end Cert.GluIdeal.Body
-- ==== Proof.TailGlu.lean ====
/-
  The gated linear unit: the last 30 rows of each sequence, which the host lines after the call cut out, as the reference's.
-/
module

public import proofs.«01_k».proof.Proof.ProjGlu

@[expose] public section

set_option maxRecDepth 16384

noncomputable section

namespace Cert.GluIdeal.Body

open Cert.GluIdeal Cert.GluIdeal.Gen Idealize.ShloMosaic Idealize.ShloMosaic.TcCoe Idealize.SL.Sem
open Idealize.ShloMosaic.Pipeline (Dat)
open Cert.Ssd

/-- A piece of the stack: 30 rows of the result from row `o`. -/
theorem piece_at (o : ℕ) (ho : o + 30 ≤ 17408) (u : S17408x2048.Idx → EReal) (h : S17408x2048.Slices ![o, 0] S30x2048) (i : S1x30x2048.Idx) :
    broadcastInDim S1x30x2048 ![1, 2] bcast_S30x2048_S1x30x2048_1_2 (extractStridedSlice S30x2048 ![o, 0] u h) i = rd2 u (o + i 1) (i 2) := by
  have b1 : (i 1 : ℕ) < 30 := (i 1).isLt
  have b2 : (i 2 : ℕ) < 2048 := (i 2).isLt
  rw [rd2_of u (show o + (i 1 : ℕ) < 17408 by omega) b2]
  refine (broadcastInDim_apply _ bcast_S30x2048_S1x30x2048_1_2 _ i (ix2 (⟨i 1, b1⟩ : Fin 30) (⟨i 2, b2⟩ : Fin 2048)) (fun a => match a with
    | ⟨0, _⟩ => by show (i 1).val = if (30 : Nat) = 1 then 0 else (i 1).val; rw [if_neg (by decide)]
    | ⟨1, _⟩ => by show (i 2).val = if (2048 : Nat) = 1 then 0 else (i 2).val; rw [if_neg (by decide)])).trans ?_
  exact extractStridedSlice_apply ![o, 0] u h _ (ix2 (⟨o + (i 1 : ℕ), by omega⟩ : Fin 17408) (⟨i 2, b2⟩ : Fin 2048)) (fun a => match a with
    | ⟨0, _⟩ => rfl
    | ⟨1, _⟩ => (Nat.zero_add _).symm)

/-- The reference's rows of the sample sequences, at an entry. -/
theorem ref_s (x : S17408x2048.Idx → EReal) (w : S2048x18496.Idx → EReal) (y : S16x30x2048.Idx) :
    Cert.GluRefIdeal.Read.val_main_v17 (F := Ideal) x w y = rd2 (Cert.GluRefIdeal.Read.val_main_v12 (F := Ideal) x w) (16418 + 64 * (y 0 : ℕ) + y 1) (y 2) := by
  have b0 : (y 0 : ℕ) < 16 := (y 0).isLt
  have b1 : (y 1 : ℕ) < 30 := (y 1).isLt
  have b2 : (y 2 : ℕ) < 2048 := (y 2).isLt
  rw [rd2_of _ (show 16418 + 64 * (y 0 : ℕ) + (y 1 : ℕ) < 17408 by omega) b2]
  rw [Cert.GluRefIdeal.Read.val_main_v17_apply, Cert.GluRefIdeal.Read.val_main_v16_apply, Cert.GluRefIdeal.Read.val_main_v15_apply]
  refine congrArg (Cert.GluRefIdeal.Read.val_main_v12 (F := Ideal) x w) (funext fun a => match a with
    | ⟨0, _⟩ => Fin.ext ?_
    | ⟨1, _⟩ => Fin.ext ?_)
  · show 16384 + (((y 0 : ℕ) * 64 + (34 + (y 1 : ℕ))) * 2048 + (y 2 : ℕ)) / 2048 = 16418 + 64 * (y 0 : ℕ) + (y 1 : ℕ)
    omega
  · show (((y 0 : ℕ) * 64 + (34 + (y 1 : ℕ))) * 2048 + (y 2 : ℕ)) % 2048 = (y 2 : ℕ)
    omega

variable (m : (ℓ : Loc nD τ sig) → Buf (Elt Ideal) ℓ) (c : Dev nD)

/-- The call's result as the lines after it read it. -/
theorem exit_v1 : Pipeline.withArrays (cfgs 0).spec c (V0 m c) (fun w => (dats m 0 c).arrAt w (cfgs 0).N) (Proc.devRef .tc main_v1)
    = Cert.GluRefIdeal.Read.val_main_v12 (F := Ideal) (H m c) (W m c) :=
  (Pipeline.withArrays_arr_shared (cfgs 0).spec c (V0 m c) _ ((dats m 0 c).arrAt_sharedIn sharedIn0 (V0 m c) (A_eq m c) _) 3).trans
    (out_final m c)

/-- The prompt's rows. -/
theorem tail_p : Pipeline.afterTail₀ cfgs (dats m) 0 (V0 m) [hostOps1] c main_v4
    = Cert.GluRefIdeal.Read.val_main_v14 (F := Ideal) (H m c) (W m c) := by
  unfold Pipeline.afterTail₀
  simp only [List.flatten_cons, List.flatten_nil, List.append_nil]
  have e := exit_v1 m c
  generalize Pipeline.withArrays (cfgs 0).spec c (V0 m c) (fun w => (dats m 0 c).arrAt w (cfgs 0).N) = σ at e ⊢
  after_results
  rw [e]
  rfl

/-- The lines before the stack leave each sequence's rows in a buffer of their own. -/
theorem pieces (σ : Valuation τ sig (Elt Ideal)) (u : S17408x2048.Idx → EReal) (e : σ (Proc.devRef .tc main_v1) = u) :
    StableHlo.after ((hostOps1 (F := Ideal)).take 35) σ (Proc.devRef .tc main_v21)
      = broadcastInDim S1x30x2048 ![1, 2] bcast_S30x2048_S1x30x2048_1_2 (extractStridedSlice S30x2048 ![16418, 0] u slices_S17408x2048_S30x2048_16418_0)
    ∧ StableHlo.after ((hostOps1 (F := Ideal)).take 35) σ (Proc.devRef .tc main_v22)
      = broadcastInDim S1x30x2048 ![1, 2] bcast_S30x2048_S1x30x2048_1_2 (extractStridedSlice S30x2048 ![16482, 0] u slices_S17408x2048_S30x2048_16482_0)
    ∧ StableHlo.after ((hostOps1 (F := Ideal)).take 35) σ (Proc.devRef .tc main_v23)
      = broadcastInDim S1x30x2048 ![1, 2] bcast_S30x2048_S1x30x2048_1_2 (extractStridedSlice S30x2048 ![16546, 0] u slices_S17408x2048_S30x2048_16546_0)
    ∧ StableHlo.after ((hostOps1 (F := Ideal)).take 35) σ (Proc.devRef .tc main_v24)
      = broadcastInDim S1x30x2048 ![1, 2] bcast_S30x2048_S1x30x2048_1_2 (extractStridedSlice S30x2048 ![16610, 0] u slices_S17408x2048_S30x2048_16610_0)
    ∧ StableHlo.after ((hostOps1 (F := Ideal)).take 35) σ (Proc.devRef .tc main_v25)
      = broadcastInDim S1x30x2048 ![1, 2] bcast_S30x2048_S1x30x2048_1_2 (extractStridedSlice S30x2048 ![16674, 0] u slices_S17408x2048_S30x2048_16674_0)
    ∧ StableHlo.after ((hostOps1 (F := Ideal)).take 35) σ (Proc.devRef .tc main_v26)
      = broadcastInDim S1x30x2048 ![1, 2] bcast_S30x2048_S1x30x2048_1_2 (extractStridedSlice S30x2048 ![16738, 0] u slices_S17408x2048_S30x2048_16738_0)
    ∧ StableHlo.after ((hostOps1 (F := Ideal)).take 35) σ (Proc.devRef .tc main_v27)
      = broadcastInDim S1x30x2048 ![1, 2] bcast_S30x2048_S1x30x2048_1_2 (extractStridedSlice S30x2048 ![16802, 0] u slices_S17408x2048_S30x2048_16802_0)
    ∧ StableHlo.after ((hostOps1 (F := Ideal)).take 35) σ (Proc.devRef .tc main_v28)
      = broadcastInDim S1x30x2048 ![1, 2] bcast_S30x2048_S1x30x2048_1_2 (extractStridedSlice S30x2048 ![16866, 0] u slices_S17408x2048_S30x2048_16866_0)
    ∧ StableHlo.after ((hostOps1 (F := Ideal)).take 35) σ (Proc.devRef .tc main_v29)
      = broadcastInDim S1x30x2048 ![1, 2] bcast_S30x2048_S1x30x2048_1_2 (extractStridedSlice S30x2048 ![16930, 0] u slices_S17408x2048_S30x2048_16930_0)
    ∧ StableHlo.after ((hostOps1 (F := Ideal)).take 35) σ (Proc.devRef .tc main_v30)
      = broadcastInDim S1x30x2048 ![1, 2] bcast_S30x2048_S1x30x2048_1_2 (extractStridedSlice S30x2048 ![16994, 0] u slices_S17408x2048_S30x2048_16994_0)
    ∧ StableHlo.after ((hostOps1 (F := Ideal)).take 35) σ (Proc.devRef .tc main_v31)
      = broadcastInDim S1x30x2048 ![1, 2] bcast_S30x2048_S1x30x2048_1_2 (extractStridedSlice S30x2048 ![17058, 0] u slices_S17408x2048_S30x2048_17058_0)
    ∧ StableHlo.after ((hostOps1 (F := Ideal)).take 35) σ (Proc.devRef .tc main_v32)
      = broadcastInDim S1x30x2048 ![1, 2] bcast_S30x2048_S1x30x2048_1_2 (extractStridedSlice S30x2048 ![17122, 0] u slices_S17408x2048_S30x2048_17122_0)
    ∧ StableHlo.after ((hostOps1 (F := Ideal)).take 35) σ (Proc.devRef .tc main_v33)
      = broadcastInDim S1x30x2048 ![1, 2] bcast_S30x2048_S1x30x2048_1_2 (extractStridedSlice S30x2048 ![17186, 0] u slices_S17408x2048_S30x2048_17186_0)
    ∧ StableHlo.after ((hostOps1 (F := Ideal)).take 35) σ (Proc.devRef .tc main_v34)
      = broadcastInDim S1x30x2048 ![1, 2] bcast_S30x2048_S1x30x2048_1_2 (extractStridedSlice S30x2048 ![17250, 0] u slices_S17408x2048_S30x2048_17250_0)
    ∧ StableHlo.after ((hostOps1 (F := Ideal)).take 35) σ (Proc.devRef .tc main_v35)
      = broadcastInDim S1x30x2048 ![1, 2] bcast_S30x2048_S1x30x2048_1_2 (extractStridedSlice S30x2048 ![17314, 0] u slices_S17408x2048_S30x2048_17314_0)
    ∧ StableHlo.after ((hostOps1 (F := Ideal)).take 35) σ (Proc.devRef .tc main_v36)
      = broadcastInDim S1x30x2048 ![1, 2] bcast_S30x2048_S1x30x2048_1_2 (extractStridedSlice S30x2048 ![17378, 0] u slices_S17408x2048_S30x2048_17378_0) := by
  subst e
  simp only [hostOps1, List.take_succ_cons, List.take_zero]
  refine ⟨?_, ?_, ?_, ?_, ?_, ?_, ?_, ?_, ?_, ?_, ?_, ?_, ?_, ?_, ?_, ?_⟩ <;> after_results

/-- The stack of sixteen pieces at an entry. -/
theorem stack_at (u : S17408x2048.Idx → EReal) (p0 p1 p2 p3 p4 p5 p6 p7 p8 p9 p10 p11 p12 p13 p14 p15 : S1x30x2048.Idx → EReal)
    (e0 : p0 = broadcastInDim S1x30x2048 ![1, 2] bcast_S30x2048_S1x30x2048_1_2 (extractStridedSlice S30x2048 ![16418, 0] u slices_S17408x2048_S30x2048_16418_0))
    (e1 : p1 = broadcastInDim S1x30x2048 ![1, 2] bcast_S30x2048_S1x30x2048_1_2 (extractStridedSlice S30x2048 ![16482, 0] u slices_S17408x2048_S30x2048_16482_0))
    (e2 : p2 = broadcastInDim S1x30x2048 ![1, 2] bcast_S30x2048_S1x30x2048_1_2 (extractStridedSlice S30x2048 ![16546, 0] u slices_S17408x2048_S30x2048_16546_0))
    (e3 : p3 = broadcastInDim S1x30x2048 ![1, 2] bcast_S30x2048_S1x30x2048_1_2 (extractStridedSlice S30x2048 ![16610, 0] u slices_S17408x2048_S30x2048_16610_0))
    (e4 : p4 = broadcastInDim S1x30x2048 ![1, 2] bcast_S30x2048_S1x30x2048_1_2 (extractStridedSlice S30x2048 ![16674, 0] u slices_S17408x2048_S30x2048_16674_0))
    (e5 : p5 = broadcastInDim S1x30x2048 ![1, 2] bcast_S30x2048_S1x30x2048_1_2 (extractStridedSlice S30x2048 ![16738, 0] u slices_S17408x2048_S30x2048_16738_0))
    (e6 : p6 = broadcastInDim S1x30x2048 ![1, 2] bcast_S30x2048_S1x30x2048_1_2 (extractStridedSlice S30x2048 ![16802, 0] u slices_S17408x2048_S30x2048_16802_0))
    (e7 : p7 = broadcastInDim S1x30x2048 ![1, 2] bcast_S30x2048_S1x30x2048_1_2 (extractStridedSlice S30x2048 ![16866, 0] u slices_S17408x2048_S30x2048_16866_0))
    (e8 : p8 = broadcastInDim S1x30x2048 ![1, 2] bcast_S30x2048_S1x30x2048_1_2 (extractStridedSlice S30x2048 ![16930, 0] u slices_S17408x2048_S30x2048_16930_0))
    (e9 : p9 = broadcastInDim S1x30x2048 ![1, 2] bcast_S30x2048_S1x30x2048_1_2 (extractStridedSlice S30x2048 ![16994, 0] u slices_S17408x2048_S30x2048_16994_0))
    (e10 : p10 = broadcastInDim S1x30x2048 ![1, 2] bcast_S30x2048_S1x30x2048_1_2 (extractStridedSlice S30x2048 ![17058, 0] u slices_S17408x2048_S30x2048_17058_0))
    (e11 : p11 = broadcastInDim S1x30x2048 ![1, 2] bcast_S30x2048_S1x30x2048_1_2 (extractStridedSlice S30x2048 ![17122, 0] u slices_S17408x2048_S30x2048_17122_0))
    (e12 : p12 = broadcastInDim S1x30x2048 ![1, 2] bcast_S30x2048_S1x30x2048_1_2 (extractStridedSlice S30x2048 ![17186, 0] u slices_S17408x2048_S30x2048_17186_0))
    (e13 : p13 = broadcastInDim S1x30x2048 ![1, 2] bcast_S30x2048_S1x30x2048_1_2 (extractStridedSlice S30x2048 ![17250, 0] u slices_S17408x2048_S30x2048_17250_0))
    (e14 : p14 = broadcastInDim S1x30x2048 ![1, 2] bcast_S30x2048_S1x30x2048_1_2 (extractStridedSlice S30x2048 ![17314, 0] u slices_S17408x2048_S30x2048_17314_0))
    (e15 : p15 = broadcastInDim S1x30x2048 ![1, 2] bcast_S30x2048_S1x30x2048_1_2 (extractStridedSlice S30x2048 ![17378, 0] u slices_S17408x2048_S30x2048_17378_0))
    (hc) (y : S16x30x2048.Idx) :
    concatenate S16x30x2048 0 [⟨S1x30x2048, p0⟩, ⟨S1x30x2048, p1⟩, ⟨S1x30x2048, p2⟩, ⟨S1x30x2048, p3⟩, ⟨S1x30x2048, p4⟩, ⟨S1x30x2048, p5⟩, ⟨S1x30x2048, p6⟩, ⟨S1x30x2048, p7⟩, ⟨S1x30x2048, p8⟩, ⟨S1x30x2048, p9⟩, ⟨S1x30x2048, p10⟩, ⟨S1x30x2048, p11⟩, ⟨S1x30x2048, p12⟩, ⟨S1x30x2048, p13⟩, ⟨S1x30x2048, p14⟩, ⟨S1x30x2048, p15⟩] hc y
      = rd2 u (16418 + 64 * (y 0 : ℕ) + y 1) (y 2) := by
  concat_tiles i h
  · refine (congrFun e0 i).trans ((piece_at 16418 (by decide) u _ i).trans (congrArg₂ (rd2 u) (by omega) (by omega)))
  · refine (congrFun e1 i).trans ((piece_at 16482 (by decide) u _ i).trans (congrArg₂ (rd2 u) (by omega) (by omega)))
  · refine (congrFun e2 i).trans ((piece_at 16546 (by decide) u _ i).trans (congrArg₂ (rd2 u) (by omega) (by omega)))
  · refine (congrFun e3 i).trans ((piece_at 16610 (by decide) u _ i).trans (congrArg₂ (rd2 u) (by omega) (by omega)))
  · refine (congrFun e4 i).trans ((piece_at 16674 (by decide) u _ i).trans (congrArg₂ (rd2 u) (by omega) (by omega)))
  · refine (congrFun e5 i).trans ((piece_at 16738 (by decide) u _ i).trans (congrArg₂ (rd2 u) (by omega) (by omega)))
  · refine (congrFun e6 i).trans ((piece_at 16802 (by decide) u _ i).trans (congrArg₂ (rd2 u) (by omega) (by omega)))
  · refine (congrFun e7 i).trans ((piece_at 16866 (by decide) u _ i).trans (congrArg₂ (rd2 u) (by omega) (by omega)))
  · refine (congrFun e8 i).trans ((piece_at 16930 (by decide) u _ i).trans (congrArg₂ (rd2 u) (by omega) (by omega)))
  · refine (congrFun e9 i).trans ((piece_at 16994 (by decide) u _ i).trans (congrArg₂ (rd2 u) (by omega) (by omega)))
  · refine (congrFun e10 i).trans ((piece_at 17058 (by decide) u _ i).trans (congrArg₂ (rd2 u) (by omega) (by omega)))
  · refine (congrFun e11 i).trans ((piece_at 17122 (by decide) u _ i).trans (congrArg₂ (rd2 u) (by omega) (by omega)))
  · refine (congrFun e12 i).trans ((piece_at 17186 (by decide) u _ i).trans (congrArg₂ (rd2 u) (by omega) (by omega)))
  · refine (congrFun e13 i).trans ((piece_at 17250 (by decide) u _ i).trans (congrArg₂ (rd2 u) (by omega) (by omega)))
  · refine (congrFun e14 i).trans ((piece_at 17314 (by decide) u _ i).trans (congrArg₂ (rd2 u) (by omega) (by omega)))
  · refine (congrFun e15 i).trans ((piece_at 17378 (by decide) u _ i).trans (congrArg₂ (rd2 u) (by omega) (by omega)))

/-- The sample sequences' rows. -/
theorem tail_s : Pipeline.afterTail₀ cfgs (dats m) 0 (V0 m) [hostOps1] c main_v38
    = Cert.GluRefIdeal.Read.val_main_v17 (F := Ideal) (H m c) (W m c) := by
  unfold Pipeline.afterTail₀
  simp only [List.flatten_cons, List.flatten_nil, List.append_nil]
  have e := exit_v1 m c
  generalize Pipeline.withArrays (cfgs 0).spec c (V0 m c) (fun w => (dats m 0 c).arrAt w (cfgs 0).N) = σ at e ⊢
  have E := pieces σ _ e
  refine (show _ = StableHlo.after ((hostOps1 (F := Ideal)).drop 35) (StableHlo.after ((hostOps1 (F := Ideal)).take 35) σ) (Proc.devRef .tc main_v38) from rfl).trans ?_
  generalize StableHlo.after ((hostOps1 (F := Ideal)).take 35) σ = σ' at E ⊢
  obtain ⟨e0, e1, e2, e3, e4, e5, e6, e7, e8, e9, e10, e11, e12, e13, e14, e15⟩ := E
  simp only [hostOps1, List.drop_succ_cons, List.drop_zero]
  after_results
  funext y
  rw [ref_s]
  exact stack_at _ (σ' (Proc.devRef .tc main_v21)) (σ' (Proc.devRef .tc main_v22)) (σ' (Proc.devRef .tc main_v23)) (σ' (Proc.devRef .tc main_v24)) (σ' (Proc.devRef .tc main_v25)) (σ' (Proc.devRef .tc main_v26)) (σ' (Proc.devRef .tc main_v27)) (σ' (Proc.devRef .tc main_v28)) (σ' (Proc.devRef .tc main_v29)) (σ' (Proc.devRef .tc main_v30)) (σ' (Proc.devRef .tc main_v31)) (σ' (Proc.devRef .tc main_v32)) (σ' (Proc.devRef .tc main_v33)) (σ' (Proc.devRef .tc main_v34)) (σ' (Proc.devRef .tc main_v35)) (σ' (Proc.devRef .tc main_v36)) e0 e1 e2 e3 e4 e5 e6 e7 e8 e9 e10 e11 e12 e13 e14 e15 concatenates_S1x30x2048_S1x30x2048_S1x30x2048_S1x30x2048_S1x30x2048_S1x30x2048_S1x30x2048_S1x30x2048_S1x30x2048_S1x30x2048_S1x30x2048_S1x30x2048_S1x30x2048_S1x30x2048_S1x30x2048_S1x30x2048_S16x30x2048_d0 y

/-- The run: the call's result, the two arrays of last rows, and the arguments as they were. -/
theorem run_tails (ρ : Dev nD → PrngReg) : θ_run defs (onTc (τ := τ) (main (F := Ideal))) ⟨m, fun _ => 0, ρ⟩ fun r => ∀ c : Dev nD,
      r.2.mem ((c : Thread nD τ).loc main_v1) = Cert.GluRefIdeal.Read.val_main_v12 (F := Ideal) (H m c) (W m c)
      ∧ r.2.mem ((c : Thread nD τ).loc main_v4) = Cert.GluRefIdeal.Read.val_main_v14 (F := Ideal) (H m c) (W m c)
      ∧ r.2.mem ((c : Thread nD τ).loc main_v38) = Cert.GluRefIdeal.Read.val_main_v17 (F := Ideal) (H m c) (W m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 3).trans (out_final m c),
      ((h c).2 main_v4 (Pipeline.mem_restRefs_of main_v4 (by decide) (by decide))).trans (tail_p m c),
      ((h c).2 main_v38 (Pipeline.mem_restRefs_of main_v38 (by decide) (by decide))).trans (tail_s m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.GluIdeal.Body
-- ==== Proof.ProjXbc.lean ====
/-
  The input projection's part that branch B convolves: the kernel's result is the reference's, entry by entry.
-/
module

public import proofs.«01_k».proof.Proof.Entry
public import Idealize.ShloMosaic.Lib.Pipeline.ReadBack
public import proofs.«01_k».proof.Proof.Gen.XbcIdeal.Frame
public import Idealize.ShloMosaic.Lib.Pipeline.Value
public import Idealize.ShloMosaic.Lib.Claim
public import proofs.«01_k».proof.Proof.Gen.XbcRefIdeal.Read

@[expose] public section

set_option maxRecDepth 16384

noncomputable section

namespace Cert.XbcIdeal.Body

open Cert.XbcIdeal Cert.XbcIdeal.Gen Idealize.ShloMosaic Idealize.ShloMosaic.TcCoe Idealize.SL.Sem
open Idealize.ShloMosaic.Pipeline (Dat)
open Cert.Ssd

variable (m : (ℓ : Loc nD τ sig) → Buf (Elt Ideal) ℓ) (c : Dev nD)

/-- The windows' blocks at each point. -/
theorem idx : ∀ t : Fin cfg0.N, win0_0.index t = ![t.val % 17, 0] ∧ win0_1.index t = ![8 + t.val / 17, 0]
    ∧ win0_2.index t = ![t.val % 17, t.val / 17] ∧ t.val < 102 :=
  (by decide +kernel : ∀ t : Fin grid0.N, _)

variable (t : Fin cfg0.N)

/-- The rows and the weights in memory. -/
def H : S17408x2048.Idx → EReal := m ((c : Thread nD τ).loc main_arg0)
def W : S2048x18496.Idx → EReal := m ((c : Thread nD τ).loc main_arg1)

theorem h_at (y : S1024x2048.Idx) : iblk m c 0 t y = rd2 (H m c) (1024 * (t.val % 17) + y 0) (y 1) := by
  have ht := (idx t).2.2.2
  have b0 : (y 0 : ℕ) < 1024 := (y 0).isLt
  have b1 : (y 1 : ℕ) < 2048 := (y 1).isLt
  refine Eq.trans ?_ (rd2_of (A := 17408) (B := 2048) _ (by omega) b1).symm
  unfold H
  blk_ext [iblk, V, idx t]

theorem w_at (y : S1024x2048.Idx) : X0_1 m c t y = rd2 (W m c) (y 1) (8192 + 1024 * (t.val / 17) + y 0) := by
  have ht := (idx t).2.2.2
  have b0 : (y 0 : ℕ) < 1024 := (y 0).isLt
  have b1 : (y 1 : ℕ) < 2048 := (y 1).isLt
  refine Eq.trans ?_ (rd2_of (A := 2048) (B := 18496) _ b1 (by omega)).symm
  unfold W X0_1 Pipeline.Window.fill
  refine (dif_pos (moved0_1 t y)).trans ?_
  unfold iblk V V0
  simp only [List.flatten_cons, List.flatten_nil, List.append_nil, List.cons_append, List.nil_append]
  entry_read
  refine (show _ = transpose S18496x2048 [1, 0] (m (c, Proc.tc.devRef main_arg1)) transposes_S2048x18496_S18496x2048_1_0
    (ix2 ⟨8192 + 1024 * (t.val / 17) + y 0, by omega⟩ ⟨y 1, b1⟩) from ?_).trans ?_
  · blk_ext [idx t]
  · pointwise []

/-- What the carried buffer holds after a point: the weights of the point's columns. -/
theorem buf_at (n : ℕ) : ∀ (hn : n < cfg0.N) (y : S1024x2048.Idx),
    (outsAt0 m c n hn).2 y = rd2 (W m c) (y 1) (8192 + 1024 * (n / 17) + y 0) := by
  induction n with
  | zero =>
    intro hn y
    rw [outsAt0_A m c ⟨0, hn⟩ rfl]
    frame_out
    refine Eq.trans ?_ (w_at m c ⟨0, hn⟩ y)
    pointwise [k0_pay1]
  | succ n ih =>
    intro hn y
    by_cases h0 : (n + 1) % 17 = 0
    · rw [outsAt0_A m c ⟨n + 1, hn⟩ h0]
      frame_out
      refine Eq.trans ?_ (w_at m c ⟨n + 1, hn⟩ y)
      pointwise [k0_pay1]
    · rw [outsAt0_B m c ⟨n + 1, hn⟩ h0]
      have hp : (n + 1) / 17 = n / 17 := by omega
      rw [hp]
      exact ih (Nat.lt_of_succ_lt hn) y

/-- The body's product at an entry. -/
theorem pay_at (x : S1024x2048.Idx → EReal) (w : S1024x2048.Idx → EReal) (y : S1024x1024.Idx) :
    k0_pay2 (F := Ideal) x w y = ∑ k : Fin 2048, x (ix2 (y 0) k) * w (ix2 (y 1) k) := by
  pointwise [k0_pay2]

/-- A block's entry: the row times the column. -/
theorem out_at (y : S1024x1024.Idx) : (outsAt0 m c t.val t.isLt).1 y
    = mm (H m c) (W m c) (1024 * (t.val % 17) + y 0) (8192 + 1024 * (t.val / 17) + y 1) := by
  have e : (outsAt0 m c t.val t.isLt).1 y = k0_pay2 (F := Ideal) (iblk m c 0 t) (outsAt0 m c t.val t.isLt).2 y := by
    by_cases h0 : t.val % 17 = 0
    · rw [outsAt0_A m c t h0]
      frame_out
    · rw [outsAt0_B m c t h0]
      frame_out
      simp only [read_unread_whole]
      rfl
  rw [e, pay_at]
  refine Finset.sum_congr rfl fun k _ => ?_
  rw [h_at, buf_at]
  rfl

/-- The reference at an entry. -/
theorem ref_at (x : S17408x2048.Idx → EReal) (w : S2048x18496.Idx → EReal) (i : Fin 17408) (j : Fin 6144) :
    Cert.XbcRefIdeal.Read.val_main_v3 (F := Ideal) x w (ix2 i j) = mm x w i (8192 + j) := by
  rw [mm_of x w i.isLt (by omega)]
  pointwise [Cert.XbcRefIdeal.Read.val_main_v3, Cert.XbcRefIdeal.Read.val_main_v2, Cert.XbcRefIdeal.Read.val_main_v1,
    Cert.XbcRefIdeal.Read.val_main_v0]

/-- The call's result is the reference's. -/
theorem out_final : (dats m 0 c).arrAt 2 cfg0.N = Cert.XbcRefIdeal.Read.val_main_v3 (F := Ideal) (H m c) (W m c) := by
  refine (dats m 0 c).arrAt_eq_of_covers 2 (Cert.XbcRefIdeal.Read.val_main_v3 (F := Ideal) (H m c) (W m c))
    (by decide +kernel) fun t hf y => ?_
  blk_simp
  rw [after0_2]
  have ht := (idx t).2.2.2
  have hy0 : (y 0 : ℕ) < 1024 := (y 0).isLt
  have hy1 : (y 1 : ℕ) < 1024 := (y 1).isLt
  refine (out_at m c t y).trans ?_
  refine Eq.trans ?_ ((ref_at _ _ ⟨1024 * (t.val % 17) + y 0, by omega⟩ ⟨1024 * (t.val / 17) + y 1, by omega⟩).symm.trans
    (congrArg _ ?_))
  · exact congrArg _ (Nat.add_assoc _ _ _)
  · blk_ext [idx t]

end Cert.XbcIdeal.Body
-- ==== Proof.TailXbc.lean ====
/-
  The convolution's input: the last 3 rows of each sequence, which the host lines after the call cut out, as the reference's.
-/
module

public import proofs.«01_k».proof.Proof.ProjXbc

@[expose] public section

set_option maxRecDepth 16384

noncomputable section

namespace Cert.XbcIdeal.Body

open Cert.XbcIdeal Cert.XbcIdeal.Gen Idealize.ShloMosaic Idealize.ShloMosaic.TcCoe Idealize.SL.Sem
open Idealize.ShloMosaic.Pipeline (Dat)
open Cert.Ssd

/-- A piece of the stack: 3 rows of the result from row `o`. -/
theorem piece_at (o : ℕ) (ho : o + 3 ≤ 17408) (u : S17408x6144.Idx → EReal) (h : S17408x6144.Slices ![o, 0] S3x6144) (i : S1x3x6144.Idx) :
    broadcastInDim S1x3x6144 ![1, 2] bcast_S3x6144_S1x3x6144_1_2 (extractStridedSlice S3x6144 ![o, 0] u h) i = rd2 u (o + i 1) (i 2) := by
  have b1 : (i 1 : ℕ) < 3 := (i 1).isLt
  have b2 : (i 2 : ℕ) < 6144 := (i 2).isLt
  rw [rd2_of u (show o + (i 1 : ℕ) < 17408 by omega) b2]
  refine (broadcastInDim_apply _ bcast_S3x6144_S1x3x6144_1_2 _ i (ix2 (⟨i 1, b1⟩ : Fin 3) (⟨i 2, b2⟩ : Fin 6144)) (fun a => match a with
    | ⟨0, _⟩ => by show (i 1).val = if (3 : Nat) = 1 then 0 else (i 1).val; rw [if_neg (by decide)]
    | ⟨1, _⟩ => by show (i 2).val = if (6144 : Nat) = 1 then 0 else (i 2).val; rw [if_neg (by decide)])).trans ?_
  exact extractStridedSlice_apply ![o, 0] u h _ (ix2 (⟨o + (i 1 : ℕ), by omega⟩ : Fin 17408) (⟨i 2, b2⟩ : Fin 6144)) (fun a => match a with
    | ⟨0, _⟩ => rfl
    | ⟨1, _⟩ => (Nat.zero_add _).symm)

/-- The reference's rows of the sample sequences, at an entry. -/
theorem ref_s (x : S17408x2048.Idx → EReal) (w : S2048x18496.Idx → EReal) (y : S16x3x6144.Idx) :
    Cert.XbcRefIdeal.Read.val_main_v8 (F := Ideal) x w y = rd2 (Cert.XbcRefIdeal.Read.val_main_v3 (F := Ideal) x w) (16445 + 64 * (y 0 : ℕ) + y 1) (y 2) := by
  have b0 : (y 0 : ℕ) < 16 := (y 0).isLt
  have b1 : (y 1 : ℕ) < 3 := (y 1).isLt
  have b2 : (y 2 : ℕ) < 6144 := (y 2).isLt
  rw [rd2_of _ (show 16445 + 64 * (y 0 : ℕ) + (y 1 : ℕ) < 17408 by omega) b2]
  rw [Cert.XbcRefIdeal.Read.val_main_v8_apply, Cert.XbcRefIdeal.Read.val_main_v7_apply, Cert.XbcRefIdeal.Read.val_main_v6_apply]
  refine congrArg (Cert.XbcRefIdeal.Read.val_main_v3 (F := Ideal) x w) (funext fun a => match a with
    | ⟨0, _⟩ => Fin.ext ?_
    | ⟨1, _⟩ => Fin.ext ?_)
  · show 16384 + (((y 0 : ℕ) * 64 + (61 + (y 1 : ℕ))) * 6144 + (y 2 : ℕ)) / 6144 = 16445 + 64 * (y 0 : ℕ) + (y 1 : ℕ)
    omega
  · show (((y 0 : ℕ) * 64 + (61 + (y 1 : ℕ))) * 6144 + (y 2 : ℕ)) % 6144 = (y 2 : ℕ)
    omega

variable (m : (ℓ : Loc nD τ sig) → Buf (Elt Ideal) ℓ) (c : Dev nD)

/-- The call's result as the lines after it read it. -/
theorem exit_v1 : Pipeline.withArrays (cfgs 0).spec c (V0 m c) (fun w => (dats m 0 c).arrAt w (cfgs 0).N) (Proc.devRef .tc main_v1)
    = Cert.XbcRefIdeal.Read.val_main_v3 (F := Ideal) (H m c) (W m c) :=
  (Pipeline.withArrays_arr (cfgs 0).spec (by decide : Function.Injective (Pipeline.arrRef spec0)) c (V0 m c) _ 2).trans
    (out_final m c)

/-- The prompt's rows. -/
theorem tail_p : Pipeline.afterTail₀ cfgs (dats m) 0 (V0 m) [hostOps1] c main_v4
    = Cert.XbcRefIdeal.Read.val_main_v5 (F := Ideal) (H m c) (W m c) := by
  unfold Pipeline.afterTail₀
  simp only [List.flatten_cons, List.flatten_nil, List.append_nil]
  have e := exit_v1 m c
  generalize Pipeline.withArrays (cfgs 0).spec c (V0 m c) (fun w => (dats m 0 c).arrAt w (cfgs 0).N) = σ at e ⊢
  after_results
  rw [e]
  rfl

/-- The lines before the stack leave each sequence's rows in a buffer of their own. -/
theorem pieces (σ : Valuation τ sig (Elt Ideal)) (u : S17408x6144.Idx → EReal) (e : σ (Proc.devRef .tc main_v1) = u) :
    StableHlo.after ((hostOps1 (F := Ideal)).take 35) σ (Proc.devRef .tc main_v21)
      = broadcastInDim S1x3x6144 ![1, 2] bcast_S3x6144_S1x3x6144_1_2 (extractStridedSlice S3x6144 ![16445, 0] u slices_S17408x6144_S3x6144_16445_0)
    ∧ StableHlo.after ((hostOps1 (F := Ideal)).take 35) σ (Proc.devRef .tc main_v22)
      = broadcastInDim S1x3x6144 ![1, 2] bcast_S3x6144_S1x3x6144_1_2 (extractStridedSlice S3x6144 ![16509, 0] u slices_S17408x6144_S3x6144_16509_0)
    ∧ StableHlo.after ((hostOps1 (F := Ideal)).take 35) σ (Proc.devRef .tc main_v23)
      = broadcastInDim S1x3x6144 ![1, 2] bcast_S3x6144_S1x3x6144_1_2 (extractStridedSlice S3x6144 ![16573, 0] u slices_S17408x6144_S3x6144_16573_0)
    ∧ StableHlo.after ((hostOps1 (F := Ideal)).take 35) σ (Proc.devRef .tc main_v24)
      = broadcastInDim S1x3x6144 ![1, 2] bcast_S3x6144_S1x3x6144_1_2 (extractStridedSlice S3x6144 ![16637, 0] u slices_S17408x6144_S3x6144_16637_0)
    ∧ StableHlo.after ((hostOps1 (F := Ideal)).take 35) σ (Proc.devRef .tc main_v25)
      = broadcastInDim S1x3x6144 ![1, 2] bcast_S3x6144_S1x3x6144_1_2 (extractStridedSlice S3x6144 ![16701, 0] u slices_S17408x6144_S3x6144_16701_0)
    ∧ StableHlo.after ((hostOps1 (F := Ideal)).take 35) σ (Proc.devRef .tc main_v26)
      = broadcastInDim S1x3x6144 ![1, 2] bcast_S3x6144_S1x3x6144_1_2 (extractStridedSlice S3x6144 ![16765, 0] u slices_S17408x6144_S3x6144_16765_0)
    ∧ StableHlo.after ((hostOps1 (F := Ideal)).take 35) σ (Proc.devRef .tc main_v27)
      = broadcastInDim S1x3x6144 ![1, 2] bcast_S3x6144_S1x3x6144_1_2 (extractStridedSlice S3x6144 ![16829, 0] u slices_S17408x6144_S3x6144_16829_0)
    ∧ StableHlo.after ((hostOps1 (F := Ideal)).take 35) σ (Proc.devRef .tc main_v28)
      = broadcastInDim S1x3x6144 ![1, 2] bcast_S3x6144_S1x3x6144_1_2 (extractStridedSlice S3x6144 ![16893, 0] u slices_S17408x6144_S3x6144_16893_0)
    ∧ StableHlo.after ((hostOps1 (F := Ideal)).take 35) σ (Proc.devRef .tc main_v29)
      = broadcastInDim S1x3x6144 ![1, 2] bcast_S3x6144_S1x3x6144_1_2 (extractStridedSlice S3x6144 ![16957, 0] u slices_S17408x6144_S3x6144_16957_0)
    ∧ StableHlo.after ((hostOps1 (F := Ideal)).take 35) σ (Proc.devRef .tc main_v30)
      = broadcastInDim S1x3x6144 ![1, 2] bcast_S3x6144_S1x3x6144_1_2 (extractStridedSlice S3x6144 ![17021, 0] u slices_S17408x6144_S3x6144_17021_0)
    ∧ StableHlo.after ((hostOps1 (F := Ideal)).take 35) σ (Proc.devRef .tc main_v31)
      = broadcastInDim S1x3x6144 ![1, 2] bcast_S3x6144_S1x3x6144_1_2 (extractStridedSlice S3x6144 ![17085, 0] u slices_S17408x6144_S3x6144_17085_0)
    ∧ StableHlo.after ((hostOps1 (F := Ideal)).take 35) σ (Proc.devRef .tc main_v32)
      = broadcastInDim S1x3x6144 ![1, 2] bcast_S3x6144_S1x3x6144_1_2 (extractStridedSlice S3x6144 ![17149, 0] u slices_S17408x6144_S3x6144_17149_0)
    ∧ StableHlo.after ((hostOps1 (F := Ideal)).take 35) σ (Proc.devRef .tc main_v33)
      = broadcastInDim S1x3x6144 ![1, 2] bcast_S3x6144_S1x3x6144_1_2 (extractStridedSlice S3x6144 ![17213, 0] u slices_S17408x6144_S3x6144_17213_0)
    ∧ StableHlo.after ((hostOps1 (F := Ideal)).take 35) σ (Proc.devRef .tc main_v34)
      = broadcastInDim S1x3x6144 ![1, 2] bcast_S3x6144_S1x3x6144_1_2 (extractStridedSlice S3x6144 ![17277, 0] u slices_S17408x6144_S3x6144_17277_0)
    ∧ StableHlo.after ((hostOps1 (F := Ideal)).take 35) σ (Proc.devRef .tc main_v35)
      = broadcastInDim S1x3x6144 ![1, 2] bcast_S3x6144_S1x3x6144_1_2 (extractStridedSlice S3x6144 ![17341, 0] u slices_S17408x6144_S3x6144_17341_0)
    ∧ StableHlo.after ((hostOps1 (F := Ideal)).take 35) σ (Proc.devRef .tc main_v36)
      = broadcastInDim S1x3x6144 ![1, 2] bcast_S3x6144_S1x3x6144_1_2 (extractStridedSlice S3x6144 ![17405, 0] u slices_S17408x6144_S3x6144_17405_0) := by
  subst e
  simp only [hostOps1, List.take_succ_cons, List.take_zero]
  refine ⟨?_, ?_, ?_, ?_, ?_, ?_, ?_, ?_, ?_, ?_, ?_, ?_, ?_, ?_, ?_, ?_⟩ <;> after_results

/-- The stack of sixteen pieces at an entry. -/
theorem stack_at (u : S17408x6144.Idx → EReal) (p0 p1 p2 p3 p4 p5 p6 p7 p8 p9 p10 p11 p12 p13 p14 p15 : S1x3x6144.Idx → EReal)
    (e0 : p0 = broadcastInDim S1x3x6144 ![1, 2] bcast_S3x6144_S1x3x6144_1_2 (extractStridedSlice S3x6144 ![16445, 0] u slices_S17408x6144_S3x6144_16445_0))
    (e1 : p1 = broadcastInDim S1x3x6144 ![1, 2] bcast_S3x6144_S1x3x6144_1_2 (extractStridedSlice S3x6144 ![16509, 0] u slices_S17408x6144_S3x6144_16509_0))
    (e2 : p2 = broadcastInDim S1x3x6144 ![1, 2] bcast_S3x6144_S1x3x6144_1_2 (extractStridedSlice S3x6144 ![16573, 0] u slices_S17408x6144_S3x6144_16573_0))
    (e3 : p3 = broadcastInDim S1x3x6144 ![1, 2] bcast_S3x6144_S1x3x6144_1_2 (extractStridedSlice S3x6144 ![16637, 0] u slices_S17408x6144_S3x6144_16637_0))
    (e4 : p4 = broadcastInDim S1x3x6144 ![1, 2] bcast_S3x6144_S1x3x6144_1_2 (extractStridedSlice S3x6144 ![16701, 0] u slices_S17408x6144_S3x6144_16701_0))
    (e5 : p5 = broadcastInDim S1x3x6144 ![1, 2] bcast_S3x6144_S1x3x6144_1_2 (extractStridedSlice S3x6144 ![16765, 0] u slices_S17408x6144_S3x6144_16765_0))
    (e6 : p6 = broadcastInDim S1x3x6144 ![1, 2] bcast_S3x6144_S1x3x6144_1_2 (extractStridedSlice S3x6144 ![16829, 0] u slices_S17408x6144_S3x6144_16829_0))
    (e7 : p7 = broadcastInDim S1x3x6144 ![1, 2] bcast_S3x6144_S1x3x6144_1_2 (extractStridedSlice S3x6144 ![16893, 0] u slices_S17408x6144_S3x6144_16893_0))
    (e8 : p8 = broadcastInDim S1x3x6144 ![1, 2] bcast_S3x6144_S1x3x6144_1_2 (extractStridedSlice S3x6144 ![16957, 0] u slices_S17408x6144_S3x6144_16957_0))
    (e9 : p9 = broadcastInDim S1x3x6144 ![1, 2] bcast_S3x6144_S1x3x6144_1_2 (extractStridedSlice S3x6144 ![17021, 0] u slices_S17408x6144_S3x6144_17021_0))
    (e10 : p10 = broadcastInDim S1x3x6144 ![1, 2] bcast_S3x6144_S1x3x6144_1_2 (extractStridedSlice S3x6144 ![17085, 0] u slices_S17408x6144_S3x6144_17085_0))
    (e11 : p11 = broadcastInDim S1x3x6144 ![1, 2] bcast_S3x6144_S1x3x6144_1_2 (extractStridedSlice S3x6144 ![17149, 0] u slices_S17408x6144_S3x6144_17149_0))
    (e12 : p12 = broadcastInDim S1x3x6144 ![1, 2] bcast_S3x6144_S1x3x6144_1_2 (extractStridedSlice S3x6144 ![17213, 0] u slices_S17408x6144_S3x6144_17213_0))
    (e13 : p13 = broadcastInDim S1x3x6144 ![1, 2] bcast_S3x6144_S1x3x6144_1_2 (extractStridedSlice S3x6144 ![17277, 0] u slices_S17408x6144_S3x6144_17277_0))
    (e14 : p14 = broadcastInDim S1x3x6144 ![1, 2] bcast_S3x6144_S1x3x6144_1_2 (extractStridedSlice S3x6144 ![17341, 0] u slices_S17408x6144_S3x6144_17341_0))
    (e15 : p15 = broadcastInDim S1x3x6144 ![1, 2] bcast_S3x6144_S1x3x6144_1_2 (extractStridedSlice S3x6144 ![17405, 0] u slices_S17408x6144_S3x6144_17405_0))
    (hc) (y : S16x3x6144.Idx) :
    concatenate S16x3x6144 0 [⟨S1x3x6144, p0⟩, ⟨S1x3x6144, p1⟩, ⟨S1x3x6144, p2⟩, ⟨S1x3x6144, p3⟩, ⟨S1x3x6144, p4⟩, ⟨S1x3x6144, p5⟩, ⟨S1x3x6144, p6⟩, ⟨S1x3x6144, p7⟩, ⟨S1x3x6144, p8⟩, ⟨S1x3x6144, p9⟩, ⟨S1x3x6144, p10⟩, ⟨S1x3x6144, p11⟩, ⟨S1x3x6144, p12⟩, ⟨S1x3x6144, p13⟩, ⟨S1x3x6144, p14⟩, ⟨S1x3x6144, p15⟩] hc y
      = rd2 u (16445 + 64 * (y 0 : ℕ) + y 1) (y 2) := by
  concat_tiles i h
  · refine (congrFun e0 i).trans ((piece_at 16445 (by decide) u _ i).trans (congrArg₂ (rd2 u) (by omega) (by omega)))
  · refine (congrFun e1 i).trans ((piece_at 16509 (by decide) u _ i).trans (congrArg₂ (rd2 u) (by omega) (by omega)))
  · refine (congrFun e2 i).trans ((piece_at 16573 (by decide) u _ i).trans (congrArg₂ (rd2 u) (by omega) (by omega)))
  · refine (congrFun e3 i).trans ((piece_at 16637 (by decide) u _ i).trans (congrArg₂ (rd2 u) (by omega) (by omega)))
  · refine (congrFun e4 i).trans ((piece_at 16701 (by decide) u _ i).trans (congrArg₂ (rd2 u) (by omega) (by omega)))
  · refine (congrFun e5 i).trans ((piece_at 16765 (by decide) u _ i).trans (congrArg₂ (rd2 u) (by omega) (by omega)))
  · refine (congrFun e6 i).trans ((piece_at 16829 (by decide) u _ i).trans (congrArg₂ (rd2 u) (by omega) (by omega)))
  · refine (congrFun e7 i).trans ((piece_at 16893 (by decide) u _ i).trans (congrArg₂ (rd2 u) (by omega) (by omega)))
  · refine (congrFun e8 i).trans ((piece_at 16957 (by decide) u _ i).trans (congrArg₂ (rd2 u) (by omega) (by omega)))
  · refine (congrFun e9 i).trans ((piece_at 17021 (by decide) u _ i).trans (congrArg₂ (rd2 u) (by omega) (by omega)))
  · refine (congrFun e10 i).trans ((piece_at 17085 (by decide) u _ i).trans (congrArg₂ (rd2 u) (by omega) (by omega)))
  · refine (congrFun e11 i).trans ((piece_at 17149 (by decide) u _ i).trans (congrArg₂ (rd2 u) (by omega) (by omega)))
  · refine (congrFun e12 i).trans ((piece_at 17213 (by decide) u _ i).trans (congrArg₂ (rd2 u) (by omega) (by omega)))
  · refine (congrFun e13 i).trans ((piece_at 17277 (by decide) u _ i).trans (congrArg₂ (rd2 u) (by omega) (by omega)))
  · refine (congrFun e14 i).trans ((piece_at 17341 (by decide) u _ i).trans (congrArg₂ (rd2 u) (by omega) (by omega)))
  · refine (congrFun e15 i).trans ((piece_at 17405 (by decide) u _ i).trans (congrArg₂ (rd2 u) (by omega) (by omega)))

/-- The sample sequences' rows. -/
theorem tail_s : Pipeline.afterTail₀ cfgs (dats m) 0 (V0 m) [hostOps1] c main_v38
    = Cert.XbcRefIdeal.Read.val_main_v8 (F := Ideal) (H m c) (W m c) := by
  unfold Pipeline.afterTail₀
  simp only [List.flatten_cons, List.flatten_nil, List.append_nil]
  have e := exit_v1 m c
  generalize Pipeline.withArrays (cfgs 0).spec c (V0 m c) (fun w => (dats m 0 c).arrAt w (cfgs 0).N) = σ at e ⊢
  have E := pieces σ _ e
  refine (show _ = StableHlo.after ((hostOps1 (F := Ideal)).drop 35) (StableHlo.after ((hostOps1 (F := Ideal)).take 35) σ) (Proc.devRef .tc main_v38) from rfl).trans ?_
  generalize StableHlo.after ((hostOps1 (F := Ideal)).take 35) σ = σ' at E ⊢
  obtain ⟨e0, e1, e2, e3, e4, e5, e6, e7, e8, e9, e10, e11, e12, e13, e14, e15⟩ := E
  simp only [hostOps1, List.drop_succ_cons, List.drop_zero]
  after_results
  funext y
  rw [ref_s]
  exact stack_at _ (σ' (Proc.devRef .tc main_v21)) (σ' (Proc.devRef .tc main_v22)) (σ' (Proc.devRef .tc main_v23)) (σ' (Proc.devRef .tc main_v24)) (σ' (Proc.devRef .tc main_v25)) (σ' (Proc.devRef .tc main_v26)) (σ' (Proc.devRef .tc main_v27)) (σ' (Proc.devRef .tc main_v28)) (σ' (Proc.devRef .tc main_v29)) (σ' (Proc.devRef .tc main_v30)) (σ' (Proc.devRef .tc main_v31)) (σ' (Proc.devRef .tc main_v32)) (σ' (Proc.devRef .tc main_v33)) (σ' (Proc.devRef .tc main_v34)) (σ' (Proc.devRef .tc main_v35)) (σ' (Proc.devRef .tc main_v36)) e0 e1 e2 e3 e4 e5 e6 e7 e8 e9 e10 e11 e12 e13 e14 e15 concatenates_S1x3x6144_S1x3x6144_S1x3x6144_S1x3x6144_S1x3x6144_S1x3x6144_S1x3x6144_S1x3x6144_S1x3x6144_S1x3x6144_S1x3x6144_S1x3x6144_S1x3x6144_S1x3x6144_S1x3x6144_S1x3x6144_S16x3x6144_d0 y

/-- The run: the call's result, the two arrays of last rows, and the arguments as they were. -/
theorem run_tails (ρ : Dev nD → PrngReg) : θ_run defs (onTc (τ := τ) (main (F := Ideal))) ⟨m, fun _ => 0, ρ⟩ fun r => ∀ c : Dev nD,
      r.2.mem ((c : Thread nD τ).loc main_v1) = Cert.XbcRefIdeal.Read.val_main_v3 (F := Ideal) (H m c) (W m c)
      ∧ r.2.mem ((c : Thread nD τ).loc main_v4) = Cert.XbcRefIdeal.Read.val_main_v5 (F := Ideal) (H m c) (W m c)
      ∧ r.2.mem ((c : Thread nD τ).loc main_v38) = Cert.XbcRefIdeal.Read.val_main_v8 (F := Ideal) (H m c) (W m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (out_final m c),
      ((h c).2 main_v4 (Pipeline.mem_restRefs_of main_v4 (by decide) (by decide))).trans (tail_p m c),
      ((h c).2 main_v38 (Pipeline.mem_restRefs_of main_v38 (by decide) (by decide))).trans (tail_s m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.XbcIdeal.Body
-- ==== Proof.ProjZ.lean ====
/-
  The input projection's part that gates branch B: the kernel's result is the reference's, entry by entry.
-/
module

public import proofs.«01_k».proof.Proof.Entry
public import Idealize.ShloMosaic.Lib.Pipeline.ReadBack
public import proofs.«01_k».proof.Proof.Gen.ZIdeal.Value
public import proofs.«01_k».proof.Proof.Gen.ZRefIdeal.Read

@[expose] public section

set_option maxRecDepth 16384

noncomputable section

namespace Cert.ZIdeal.Body

open Cert.ZIdeal Cert.ZIdeal.Gen Idealize.ShloMosaic Idealize.ShloMosaic.TcCoe Idealize.SL.Sem
open Idealize.ShloMosaic.Pipeline (Dat)
open Cert.Ssd

variable (m : (ℓ : Loc nD τ sig) → Buf (Elt Ideal) ℓ) (c : Dev nD)

/-- The windows' blocks at each point. -/
theorem idx : ∀ t : Fin cfg0.N, win0_0.index t = ![t.val % 17, 0] ∧ win0_1.index t = ![4 + t.val / 17, 0]
    ∧ win0_2.index t = ![t.val % 17, t.val / 17] ∧ t.val < 68 :=
  (by decide +kernel : ∀ t : Fin grid0.N, _)

variable (t : Fin cfg0.N)

/-- The rows and the weights in memory. -/
def H : S17408x2048.Idx → EReal := m ((c : Thread nD τ).loc main_arg0)
def W : S2048x18496.Idx → EReal := m ((c : Thread nD τ).loc main_arg1)

theorem h_at (y : S1024x2048.Idx) : iblk m c 0 t y = rd2 (H m c) (1024 * (t.val % 17) + y 0) (y 1) := by
  have ht := (idx t).2.2.2
  have b0 : (y 0 : ℕ) < 1024 := (y 0).isLt
  have b1 : (y 1 : ℕ) < 2048 := (y 1).isLt
  refine Eq.trans ?_ (rd2_of (A := 17408) (B := 2048) _ (by omega) b1).symm
  unfold H
  blk_ext [iblk, V, idx t]

theorem w_at (y : S1024x2048.Idx) : X0_1 m c t y = rd2 (W m c) (y 1) (4096 + 1024 * (t.val / 17) + y 0) := by
  have ht := (idx t).2.2.2
  have b0 : (y 0 : ℕ) < 1024 := (y 0).isLt
  have b1 : (y 1 : ℕ) < 2048 := (y 1).isLt
  refine Eq.trans ?_ (rd2_of (A := 2048) (B := 18496) _ b1 (by omega)).symm
  unfold W X0_1 Pipeline.Window.fill
  refine (dif_pos (moved0_1 t y)).trans ?_
  unfold iblk V
  simp only [List.flatten_cons, List.flatten_nil, List.append_nil, List.cons_append, List.nil_append]
  entry_read
  refine (show _ = transpose S18496x2048 [1, 0] (m (c, Proc.tc.devRef main_arg1)) transposes_S2048x18496_S18496x2048_1_0
    (ix2 ⟨4096 + 1024 * (t.val / 17) + y 0, by omega⟩ ⟨y 1, b1⟩) from ?_).trans ?_
  · blk_ext [idx t]
  · pointwise []

/-- What the carried buffer holds after a point: the weights of the point's columns. -/
theorem buf_at (n : ℕ) : ∀ (hn : n < cfg0.N) (y : S1024x2048.Idx),
    (outsAt0 m c n hn).2 y = rd2 (W m c) (y 1) (4096 + 1024 * (n / 17) + y 0) := by
  induction n with
  | zero =>
    intro hn y
    rw [outsAt0_A m c ⟨0, hn⟩ rfl]
    frame_out
    refine Eq.trans ?_ (w_at m c ⟨0, hn⟩ y)
    pointwise [k0_pay1]
  | succ n ih =>
    intro hn y
    by_cases h0 : (n + 1) % 17 = 0
    · rw [outsAt0_A m c ⟨n + 1, hn⟩ h0]
      frame_out
      refine Eq.trans ?_ (w_at m c ⟨n + 1, hn⟩ y)
      pointwise [k0_pay1]
    · rw [outsAt0_B m c ⟨n + 1, hn⟩ h0]
      have hp : (n + 1) / 17 = n / 17 := by omega
      rw [hp]
      exact ih (Nat.lt_of_succ_lt hn) y

/-- The body's product at an entry. -/
def prod (x : S1024x2048.Idx → EReal) (w : S1024x2048.Idx → EReal) (y : S1024x1024.Idx) : EReal :=
  ∑ k : Fin 2048, x (ix2 (y 0) k) * w (ix2 (y 1) k)

/-- The body's value at an entry. -/
theorem pay_at (x : S1024x2048.Idx → EReal) (w : S1024x2048.Idx → EReal) (y : S1024x1024.Idx) :
    k0_pay2 (F := Ideal) x w y = prod x w y * sigm (prod x w y) := by
  rw [← sigm_of]
  pointwise [k0_pay2, prod]

/-- A block's entry: `silu` of the row times the column. -/
theorem out_at (y : S1024x1024.Idx) : (outsAt0 m c t.val t.isLt).1 y
    = mm (H m c) (W m c) (1024 * (t.val % 17) + y 0) (4096 + 1024 * (t.val / 17) + y 1)
      * sigm (mm (H m c) (W m c) (1024 * (t.val % 17) + y 0) (4096 + 1024 * (t.val / 17) + y 1)) := by
  have e : (outsAt0 m c t.val t.isLt).1 y = k0_pay2 (F := Ideal) (iblk m c 0 t) (outsAt0 m c t.val t.isLt).2 y := by
    by_cases h0 : t.val % 17 = 0
    · rw [outsAt0_A m c t h0]
      frame_out
    · rw [outsAt0_B m c t h0]
      frame_out
      simp only [read_unread_whole]
      rfl
  rw [e, pay_at]
  have s : prod (iblk m c 0 t) (outsAt0 m c t.val t.isLt).2 y
      = mm (H m c) (W m c) (1024 * (t.val % 17) + y 0) (4096 + 1024 * (t.val / 17) + y 1) := by
    refine Finset.sum_congr rfl fun k _ => ?_
    rw [h_at, buf_at]
    rfl
  exact congrArg (fun v => v * sigm v) s

/-- The reference at an entry. -/
theorem ref_at (x : S17408x2048.Idx → EReal) (w : S2048x18496.Idx → EReal) (i : Fin 17408) (j : Fin 4096) :
    Cert.ZRefIdeal.Read.val_main_v4 (F := Ideal) x w (ix2 i j) = mm x w i (4096 + j) * sigm (mm x w i (4096 + j)) := by
  rw [mm_of x w i.isLt (by omega)]
  open Cert.ZRefIdeal.Read in
  pointwise [sigm, val_main_v4, val_main_v3, val_main_call0_v5, val_main_call0_v4, val_main_call0_v3, val_main_call0_v2,
    val_main_call0_v1, val_main_call0_v0, val_main_call0_cst, val_main_call0_cst_0, val_main_v2, val_main_v1, val_main_v0]

/-- The call's result is the reference's. -/
theorem out_final : (dats m 0 c).arrAt 2 cfg0.N = Cert.ZRefIdeal.Read.val_main_v4 (F := Ideal) (H m c) (W m c) := by
  refine (dats m 0 c).arrAt_eq_of_covers 2 (Cert.ZRefIdeal.Read.val_main_v4 (F := Ideal) (H m c) (W m c))
    (by decide +kernel) fun t hf y => ?_
  blk_simp
  rw [after0_2]
  have ht := (idx t).2.2.2
  have hy0 : (y 0 : ℕ) < 1024 := (y 0).isLt
  have hy1 : (y 1 : ℕ) < 1024 := (y 1).isLt
  refine (out_at m c t y).trans ?_
  refine Eq.trans ?_ ((ref_at _ _ ⟨1024 * (t.val % 17) + y 0, by omega⟩ ⟨1024 * (t.val / 17) + y 1, by omega⟩).symm.trans
    (congrArg _ ?_))
  · exact congrArg (fun n => mm (H m c) (W m c) (1024 * (t.val % 17) + y 0) n * sigm (mm (H m c) (W m c) (1024 * (t.val % 17) + y 0) n))
      (Nat.add_assoc _ _ _)
  · blk_ext [idx t]

end Cert.ZIdeal.Body
-- ==== Proof.ProjGates.lean ====
/-
  The input projection's gates: one block's product with its bias under the logistic function, and the call's result as the
  reference's.
-/
module

public import proofs.«01_k».proof.Proof.Entry
public import Idealize.ShloMosaic.Lib.Pipeline.ReadBack
public import proofs.«01_k».proof.Proof.Gen.GatesIdeal.Value
public import proofs.«01_k».proof.Proof.Gen.GatesRefIdeal.Read

@[expose] public section

set_option maxRecDepth 16384

noncomputable section

namespace Cert.GatesIdeal.Body

open Cert.GatesIdeal Cert.GatesIdeal.Gen Idealize.ShloMosaic Idealize.ShloMosaic.TcCoe Idealize.SL.Sem
open Idealize.ShloMosaic.Pipeline (Dat)
open Cert.Ssd

variable (m : (ℓ : Loc nD τ sig) → Buf (Elt Ideal) ℓ) (c : Dev nD)

/-- Where each window's block lies, and how many blocks there are. -/
theorem idx : ∀ t : Fin cfg0.N, win0_0.index t = ![t.val % 17, 0] ∧ win0_1.index t = ![t.val / 17, 0]
    ∧ win0_2.index t = ![0, t.val / 17] ∧ win0_3.index t = ![t.val % 17, t.val / 17] ∧ t.val < 68 :=
  (by decide +kernel : ∀ t : Fin grid0.N, _)

/-- The arguments: the rows, the weight and the bias. -/
def H : S17408x2048.Idx → EReal := m ((c : Thread nD τ).loc main_arg0)
def W : S2048x18496.Idx → EReal := m ((c : Thread nD τ).loc main_arg1)
def G : S4096.Idx → EReal := m ((c : Thread nD τ).loc main_arg2)

variable (t : Fin cfg0.N)

/-- The block of rows. -/
theorem h_at (y : S1024x2048.Idx) : iblk m c 0 t y = rd2 (H m c) (1024 * (t.val % 17) + y 0) (y 1) := by
  have ht := (idx t).2.2.2.2
  have b0 : (y 0 : ℕ) < 1024 := (y 0).isLt
  have b1 : (y 1 : ℕ) < 2048 := (y 1).isLt
  refine Eq.trans ?_ (rd2_of (A := 17408) (B := 2048) _ (by omega) b1).symm
  unfold H
  blk_ext [iblk, V, idx t]

/-- The block of the weight, its rows the weight's columns. -/
theorem w_at (y : S1024x2048.Idx) : iblk m c 1 t y = rd2 (W m c) (y 1) (14400 + 1024 * (t.val / 17) + y 0) := by
  have ht := (idx t).2.2.2.2
  have b0 : (y 0 : ℕ) < 1024 := (y 0).isLt
  have b1 : (y 1 : ℕ) < 2048 := (y 1).isLt
  refine Eq.trans ?_ (rd2_of (A := 2048) (B := 18496) _ b1 (by omega)).symm
  unfold W iblk V
  simp only [List.flatten_cons, List.flatten_nil, List.append_nil, List.cons_append, List.nil_append]
  entry_read
  refine (show _ = extractStridedSlice S4096x2048 ![14400, 0]
    (transpose S18496x2048 [1, 0] (m (c, Proc.tc.devRef main_arg1)) transposes_S2048x18496_S18496x2048_1_0)
    slices_S18496x2048_S4096x2048_14400_0 (ix2 ⟨1024 * (t.val / 17) + y 0, by omega⟩ ⟨y 1, b1⟩) from ?_).trans ?_
  · blk_ext [idx t]
  · pointwise []
    blk_ext []

/-- The bias, one row. -/
theorem b_at (y : S1x1024.Idx) : iblk m c 2 t y = rd1 (G m c) (1024 * (t.val / 17) + y 1) := by
  have ht := (idx t).2.2.2.2
  have b1 : (y 1 : ℕ) < 1024 := (y 1).isLt
  refine Eq.trans ?_ (rd1_of (A := 4096) _ (by omega)).symm
  unfold G iblk V
  simp only [List.flatten_cons, List.flatten_nil, List.append_nil, List.cons_append, List.nil_append]
  entry_read
  have b0 : (y 0 : ℕ) < 1 := (y 0).isLt
  refine (show _ = shapeCast S1x4096 (m (c, Proc.tc.devRef main_arg2)) shapeCasts_S4096_S1x4096
    (ix2 0 ⟨1024 * (t.val / 17) + y 1, by omega⟩) from ?_).trans ?_
  · blk_ext [idx t]
  · exact ValueIdx.shapeCast_a_1a_apply _ _ _ _

/-- The body's product at an entry. -/
def prod (x : S1024x2048.Idx → EReal) (w : S1024x2048.Idx → EReal) (y : S1024x1024.Idx) : EReal :=
  ∑ k : Fin 2048, x (ix2 (y 0) k) * w (ix2 (y 1) k)

/-- The body's value at an entry. -/
theorem pay_at (x : S1024x2048.Idx → EReal) (w : S1024x2048.Idx → EReal) (z : S1x1024.Idx → EReal) (y : S1024x1024.Idx) :
    k0_pay1 (F := Ideal) x w z y = sigm (prod x w y + z (ix2 0 (y 1))) := by
  rw [← sigm_of]
  pointwise [k0_pay1, prod]

/-- A block's entry: the logistic function of the row times the column and the bias. -/
theorem out_at (y : S1024x1024.Idx) : out0_3 (F := Ideal) (iblk m c 0 t) (iblk m c 1 t) (iblk m c 2 t) y
    = sigm (mm (H m c) (W m c) (1024 * (t.val % 17) + y 0) (14400 + 1024 * (t.val / 17) + y 1)
      + rd1 (G m c) (1024 * (t.val / 17) + y 1)) := by
  have e : out0_3 (F := Ideal) (iblk m c 0 t) (iblk m c 1 t) (iblk m c 2 t) y
      = k0_pay1 (F := Ideal) (iblk m c 0 t) (iblk m c 1 t) (iblk m c 2 t) y := by
    frame_out
  rw [e, pay_at]
  have s : prod (iblk m c 0 t) (iblk m c 1 t) y
      = mm (H m c) (W m c) (1024 * (t.val % 17) + y 0) (14400 + 1024 * (t.val / 17) + y 1) := by
    refine Finset.sum_congr rfl fun k _ => ?_
    rw [h_at, w_at]
    rfl
  exact congrArg sigm (congrArg₂ (· + ·) s (b_at m c t _))

/-- The reference at an entry. -/
theorem ref_at (x : S17408x2048.Idx → EReal) (w : S2048x18496.Idx → EReal) (b : S4096.Idx → EReal) (i : Fin 17408) (j : Fin 4096) :
    Cert.GatesRefIdeal.Read.val_main_v12 (F := Ideal) x w b (ix2 i j) = sigm (mm x w i (14400 + j) + rd1 b j) := by
  rw [mm_of x w i.isLt (by omega), rd1_of b j.isLt]
  open Cert.GatesRefIdeal.Read in
  pointwise [sigm, val_main_v12, val_main_v11, val_main_v10, val_main_v9, val_main_v8, val_main_v7, val_main_v6, val_main_v5,
    val_main_v4, val_main_v3, val_main_v2, val_main_v1, val_main_v0, val_main_cst, val_main_cst_0]

/-- The call's result is the reference's. -/
theorem out_final : (dats m 0 c).arrAt 3 cfg0.N = Cert.GatesRefIdeal.Read.val_main_v12 (F := Ideal) (H m c) (W m c) (G m c) := by
  refine (dats m 0 c).arrAt_eq_of_covers 3 (Cert.GatesRefIdeal.Read.val_main_v12 (F := Ideal) (H m c) (W m c) (G m c))
    (by decide +kernel) fun t hf y => ?_
  blk_simp
  rw [after0_3]
  have ht := (idx t).2.2.2.2
  have hy0 : (y 0 : ℕ) < 1024 := (y 0).isLt
  have hy1 : (y 1 : ℕ) < 1024 := (y 1).isLt
  refine (out_at m c t y).trans ?_
  refine Eq.trans ?_ ((ref_at _ _ _ ⟨1024 * (t.val % 17) + y 0, by omega⟩ ⟨1024 * (t.val / 17) + y 1, by omega⟩).symm.trans
    (congrArg _ ?_))
  · exact congrArg (fun n => sigm (mm (H m c) (W m c) (1024 * (t.val % 17) + y 0) n + rd1 (G m c) (1024 * (t.val / 17) + y 1)))
      (Nat.add_assoc _ _ _)
  · blk_ext [idx t]

end Cert.GatesIdeal.Body
-- ==== Proof.ProjBOut.lean ====
/-
  Branch B's output projection, gated and added to branch A's: one block's entry, and the call's result as the reference's.
-/
module

public import proofs.«01_k».proof.Proof.Entry
public import Idealize.ShloMosaic.Lib.Pipeline.ReadBack
public import proofs.«01_k».proof.Proof.Gen.BOutIdeal.Value
public import proofs.«01_k».proof.Proof.Gen.BOutRefIdeal.Read

@[expose] public section

set_option maxRecDepth 16384

noncomputable section

namespace Cert.BOutIdeal.Body

open Cert.BOutIdeal Cert.BOutIdeal.Gen Idealize.ShloMosaic Idealize.ShloMosaic.TcCoe Idealize.SL.Sem
open Idealize.ShloMosaic.Pipeline (Dat)
open Cert.Ssd

variable (m : (ℓ : Loc nD τ sig) → Buf (Elt Ideal) ℓ) (c : Dev nD)

/-- Where each window's block lies, and how many blocks there are. -/
theorem idx : ∀ t : Fin cfg0.N, win0_0.index t = ![min (t.val / 2) 31, 0] ∧ win0_1.index t = ![t.val / 2 - 32, 0]
    ∧ win0_2.index t = ![0, t.val % 2] ∧ win0_3.index t = ![t.val / 2, 2 + t.val % 2]
    ∧ win0_4.index t = ![t.val / 2, t.val % 2] ∧ win0_5.index t = ![t.val / 2, t.val % 2] ∧ t.val < 68 :=
  (by decide +kernel : ∀ t : Fin grid0.N, _)

/-- The arguments: the rows of the prompt and of the sample, the weight, the gates and what branch A gave. -/
def XP : S16384x4096.Idx → EReal := m ((c : Thread nD τ).loc main_arg0)
def XS : S1024x4096.Idx → EReal := m ((c : Thread nD τ).loc main_arg1)
def W : S4096x2048.Idx → EReal := m ((c : Thread nD τ).loc main_arg2)
def G : S17408x4096.Idx → EReal := m ((c : Thread nD τ).loc main_arg3)
def Y : S17408x2048.Idx → EReal := m ((c : Thread nD τ).loc main_arg4)

/-- A row of the prompt's and the sample's rows, one after the other, times a column. -/
def mix (p : S16384x4096.Idx → EReal) (s : S1024x4096.Idx → EReal) (w : S4096x2048.Idx → EReal) (i j : ℕ) : EReal :=
  if i < 16384 then mm p w i j else mm s w (i - 16384) j

variable (t : Fin cfg0.N)

/-- The block of the prompt's rows, at its points. -/
theorem p_at (h : t.val < 64) (y : S512x4096.Idx) : iblk m c 0 t y = rd2 (XP m c) (512 * (t.val / 2) + y 0) (y 1) := by
  have b0 : (y 0 : ℕ) < 512 := (y 0).isLt
  have b1 : (y 1 : ℕ) < 4096 := (y 1).isLt
  have e : min (t.val / 2) 31 = t.val / 2 := by omega
  refine Eq.trans ?_ (rd2_of (A := 16384) (B := 4096) _ (by omega) b1).symm
  unfold XP
  blk_ext [iblk, V, idx t, e]

/-- The block of the sample's rows, at its points. -/
theorem s_at (h : 64 ≤ t.val) (y : S512x4096.Idx) : iblk m c 1 t y = rd2 (XS m c) (512 * (t.val / 2) + y 0 - 16384) (y 1) := by
  have ht := (idx t).2.2.2.2.2.2
  have b0 : (y 0 : ℕ) < 512 := (y 0).isLt
  have b1 : (y 1 : ℕ) < 4096 := (y 1).isLt
  refine Eq.trans ?_ (rd2_of (A := 1024) (B := 4096) _ (by omega) b1).symm
  unfold XS
  blk_ext [iblk, V, idx t]

/-- The block of the weight. -/
theorem w_at (y : S4096x1024.Idx) : iblk m c 2 t y = rd2 (W m c) (y 0) (1024 * (t.val % 2) + y 1) := by
  have b0 : (y 0 : ℕ) < 4096 := (y 0).isLt
  have b1 : (y 1 : ℕ) < 1024 := (y 1).isLt
  refine Eq.trans ?_ (rd2_of (A := 4096) (B := 2048) _ b0 (by omega)).symm
  unfold W iblk V
  simp only [List.flatten_cons, List.flatten_nil, List.append_nil, List.cons_append, List.nil_append]
  entry_read
  blk_ext [idx t]

/-- The block of the gates. -/
theorem g_at (y : S512x1024.Idx) : iblk m c 3 t y = rd2 (G m c) (512 * (t.val / 2) + y 0) (2048 + 1024 * (t.val % 2) + y 1) := by
  have ht := (idx t).2.2.2.2.2.2
  have b0 : (y 0 : ℕ) < 512 := (y 0).isLt
  have b1 : (y 1 : ℕ) < 1024 := (y 1).isLt
  refine Eq.trans ?_ (rd2_of (A := 17408) (B := 4096) _ (by omega) (by omega)).symm
  unfold G
  blk_ext [iblk, V, idx t]

/-- The block of what branch A gave. -/
theorem y_at (y : S512x1024.Idx) : iblk m c 4 t y = rd2 (Y m c) (512 * (t.val / 2) + y 0) (1024 * (t.val % 2) + y 1) := by
  have ht := (idx t).2.2.2.2.2.2
  have b0 : (y 0 : ℕ) < 512 := (y 0).isLt
  have b1 : (y 1 : ℕ) < 1024 := (y 1).isLt
  refine Eq.trans ?_ (rd2_of (A := 17408) (B := 2048) _ (by omega) (by omega)).symm
  unfold Y
  blk_ext [iblk, V, idx t]

/-- The body's product at an entry. -/
def prod (x : S512x4096.Idx → EReal) (w : S4096x1024.Idx → EReal) (y : S512x1024.Idx) : EReal :=
  ∑ k : Fin 4096, x (ix2 (y 0) k) * w (ix2 k (y 1))

/-- The body's value at an entry, for the prompt's rows and for the sample's. -/
theorem pay1_at (x : S512x4096.Idx → EReal) (w : S4096x1024.Idx → EReal) (g : S512x1024.Idx → EReal) (u : S512x1024.Idx → EReal) (y : S512x1024.Idx) :
    k0_pay1 (F := Ideal) x w g u y = prod x w y * g y + u y := by pointwise [k0_pay1, prod]
theorem pay2_at (x : S512x4096.Idx → EReal) (w : S4096x1024.Idx → EReal) (g : S512x1024.Idx → EReal) (u : S512x1024.Idx → EReal) (y : S512x1024.Idx) :
    k0_pay2 (F := Ideal) x w g u y = prod x w y * g y + u y := by pointwise [k0_pay2, prod]

/-- A block's entry. -/
theorem out_at (y : S512x1024.Idx) : outsAt0 m c t.val t.isLt y
    = mix (XP m c) (XS m c) (W m c) (512 * (t.val / 2) + y 0) (1024 * (t.val % 2) + y 1)
      * rd2 (G m c) (512 * (t.val / 2) + y 0) (2048 + 1024 * (t.val % 2) + y 1)
      + rd2 (Y m c) (512 * (t.val / 2) + y 0) (1024 * (t.val % 2) + y 1) := by
  have b0 : (y 0 : ℕ) < 512 := (y 0).isLt
  by_cases h : t.val < 64
  · have e : outsAt0 m c t.val t.isLt y = k0_pay1 (F := Ideal) (iblk m c 0 t) (iblk m c 2 t) (iblk m c 3 t) (iblk m c 4 t) y := by
      rw [outsAt0_A m c t h (by omega)]
      frame_out
    rw [e, pay1_at]
    have s : prod (iblk m c 0 t) (iblk m c 2 t) y
        = mix (XP m c) (XS m c) (W m c) (512 * (t.val / 2) + y 0) (1024 * (t.val % 2) + y 1) := by
      refine Eq.trans ?_ (if_pos (by omega)).symm
      refine Finset.sum_congr rfl fun k _ => ?_
      rw [p_at m c t h, w_at]
      rfl
    exact congrArg₂ (· + ·) (congrArg₂ (· * ·) s (g_at m c t y)) (y_at m c t y)
  · have h' : 64 ≤ t.val := by omega
    have e : outsAt0 m c t.val t.isLt y = k0_pay2 (F := Ideal) (iblk m c 1 t) (iblk m c 2 t) (iblk m c 3 t) (iblk m c 4 t) y := by
      rw [outsAt0_B m c t h h']
      frame_out
    rw [e, pay2_at]
    have s : prod (iblk m c 1 t) (iblk m c 2 t) y
        = mix (XP m c) (XS m c) (W m c) (512 * (t.val / 2) + y 0) (1024 * (t.val % 2) + y 1) := by
      refine Eq.trans ?_ (if_neg (by omega)).symm
      refine Finset.sum_congr rfl fun k _ => ?_
      rw [s_at m c t h', w_at]
      rfl
    exact congrArg₂ (· + ·) (congrArg₂ (· * ·) s (g_at m c t y)) (y_at m c t y)

/-- The reference at an entry. -/
theorem ref_at (p : S16384x4096.Idx → EReal) (s : S1024x4096.Idx → EReal) (w : S4096x2048.Idx → EReal) (g : S17408x4096.Idx → EReal)
     (u : S17408x2048.Idx → EReal) (i : Fin 17408) (j : Fin 2048) :
    Cert.BOutRefIdeal.Read.val_main_v8 (F := Ideal) p s w g u (ix2 i j) = mix p s w i j * rd2 g i (2048 + j) + rd2 u i j := by
  have d : mix p s w i j = ∑ k : Fin 4096, (if h : i.val < 16384 then p (ix2 ⟨i, h⟩ k) else s (ix2 ⟨i - 16384, by omega⟩ k)) * w (ix2 k j) := by
    unfold mix
    by_cases h : i.val < 16384
    · rw [if_pos h, mm_of p w h j.isLt]
      exact Finset.sum_congr rfl fun k _ => by rw [dif_pos h]
    · rw [if_neg h, mm_of s w (show i.val - 16384 < 1024 by omega) j.isLt]
      exact Finset.sum_congr rfl fun k _ => by rw [dif_neg h]
  rw [d, rd2_of g i.isLt (by omega), rd2_of u i.isLt j.isLt, mul_comm, add_comm]
  open Cert.BOutRefIdeal.Read in
  pointwise [val_main_v8, val_main_v7, val_main_v6, val_main_v5, val_main_v4, val_main_v3, val_main_v2, val_main_v1, val_main_v0]

/-- The call's result is the reference's. -/
theorem out_final : (dats m 0 c).arrAt 5 cfg0.N
    = Cert.BOutRefIdeal.Read.val_main_v8 (F := Ideal) (XP m c) (XS m c) (W m c) (G m c) (Y m c) := by
  refine (dats m 0 c).arrAt_eq_of_covers 5
    (Cert.BOutRefIdeal.Read.val_main_v8 (F := Ideal) (XP m c) (XS m c) (W m c) (G m c) (Y m c)) (by decide +kernel) fun t hf y => ?_
  blk_simp
  rw [after0_5]
  have ht := (idx t).2.2.2.2.2.2
  have hy0 : (y 0 : ℕ) < 512 := (y 0).isLt
  have hy1 : (y 1 : ℕ) < 1024 := (y 1).isLt
  refine (out_at m c t y).trans ?_
  refine Eq.trans ?_ ((ref_at _ _ _ _ _ ⟨512 * (t.val / 2) + y 0, by omega⟩ ⟨1024 * (t.val % 2) + y 1, by omega⟩).symm.trans
    (congrArg _ ?_))
  · rw [Nat.add_assoc]
  · blk_ext [idx t]

end Cert.BOutIdeal.Body
-- ==== Proof.ProjAOut.lean ====
/-
  Branch A's output projection, gated: one block's entry, and the call's result as the reference's.
-/
module

public import proofs.«01_k».proof.Proof.Entry
public import Idealize.ShloMosaic.Lib.Pipeline.ReadBack
public import proofs.«01_k».proof.Proof.Gen.AOutIdeal.Value
public import proofs.«01_k».proof.Proof.Gen.AOutRefIdeal.Read

@[expose] public section

set_option maxRecDepth 16384

noncomputable section

namespace Cert.AOutIdeal.Body

open Cert.AOutIdeal Cert.AOutIdeal.Gen Idealize.ShloMosaic Idealize.ShloMosaic.TcCoe Idealize.SL.Sem
open Idealize.ShloMosaic.Pipeline (Dat)
open Cert.Ssd

variable (m : (ℓ : Loc nD τ sig) → Buf (Elt Ideal) ℓ) (c : Dev nD)

/-- Where each window's block lies, and how many blocks there are. -/
theorem idx : ∀ t : Fin cfg0.N, win0_0.index t = ![min (t.val / 2) 15, 0] ∧ win0_1.index t = ![t.val / 2 - 16, 0]
    ∧ win0_2.index t = ![0, t.val % 2] ∧ win0_3.index t = ![t.val / 2, t.val % 2]
    ∧ win0_4.index t = ![t.val / 2, t.val % 2] ∧ t.val < 34 :=
  (by decide +kernel : ∀ t : Fin grid0.N, _)

/-- The arguments: the rows of the prompt and of the sample, the weight and the gates. -/
def XP : S16384x2048.Idx → EReal := m ((c : Thread nD τ).loc main_arg0)
def XS : S1024x2048.Idx → EReal := m ((c : Thread nD τ).loc main_arg1)
def W : S2048x2048.Idx → EReal := m ((c : Thread nD τ).loc main_arg2)
def G : S17408x4096.Idx → EReal := m ((c : Thread nD τ).loc main_arg3)

/-- A row of the prompt's and the sample's rows, one after the other, times a column. -/
def mix (p : S16384x2048.Idx → EReal) (s : S1024x2048.Idx → EReal) (w : S2048x2048.Idx → EReal) (i j : ℕ) : EReal :=
  if i < 16384 then mm p w i j else mm s w (i - 16384) j

variable (t : Fin cfg0.N)

/-- The block of the prompt's rows, at its points. -/
theorem p_at (h : t.val < 32) (y : S1024x2048.Idx) : iblk m c 0 t y = rd2 (XP m c) (1024 * (t.val / 2) + y 0) (y 1) := by
  have b0 : (y 0 : ℕ) < 1024 := (y 0).isLt
  have b1 : (y 1 : ℕ) < 2048 := (y 1).isLt
  have e : min (t.val / 2) 15 = t.val / 2 := by omega
  refine Eq.trans ?_ (rd2_of (A := 16384) (B := 2048) _ (by omega) b1).symm
  unfold XP
  blk_ext [iblk, V, idx t, e]

/-- The block of the sample's rows, at its points. -/
theorem s_at (h : 32 ≤ t.val) (y : S1024x2048.Idx) : iblk m c 1 t y = rd2 (XS m c) (1024 * (t.val / 2) + y 0 - 16384) (y 1) := by
  have ht := (idx t).2.2.2.2.2
  have b0 : (y 0 : ℕ) < 1024 := (y 0).isLt
  have b1 : (y 1 : ℕ) < 2048 := (y 1).isLt
  refine Eq.trans ?_ (rd2_of (A := 1024) (B := 2048) _ (by omega) b1).symm
  unfold XS
  blk_ext [iblk, V, idx t]

/-- The block of the weight. -/
theorem w_at (y : S2048x1024.Idx) : iblk m c 2 t y = rd2 (W m c) (y 0) (1024 * (t.val % 2) + y 1) := by
  have b0 : (y 0 : ℕ) < 2048 := (y 0).isLt
  have b1 : (y 1 : ℕ) < 1024 := (y 1).isLt
  refine Eq.trans ?_ (rd2_of (A := 2048) (B := 2048) _ b0 (by omega)).symm
  unfold W iblk V
  simp only [List.flatten_cons, List.flatten_nil, List.append_nil, List.cons_append, List.nil_append]
  entry_read
  blk_ext [idx t]

/-- The block of the gates. -/
theorem g_at (y : S1024x1024.Idx) : iblk m c 3 t y = rd2 (G m c) (1024 * (t.val / 2) + y 0) (1024 * (t.val % 2) + y 1) := by
  have ht := (idx t).2.2.2.2.2
  have b0 : (y 0 : ℕ) < 1024 := (y 0).isLt
  have b1 : (y 1 : ℕ) < 1024 := (y 1).isLt
  refine Eq.trans ?_ (rd2_of (A := 17408) (B := 4096) _ (by omega) (by omega)).symm
  unfold G
  blk_ext [iblk, V, idx t]

/-- The body's product at an entry. -/
def prod (x : S1024x2048.Idx → EReal) (w : S2048x1024.Idx → EReal) (y : S1024x1024.Idx) : EReal :=
  ∑ k : Fin 2048, x (ix2 (y 0) k) * w (ix2 k (y 1))

/-- The body's value at an entry, for the prompt's rows and for the sample's. -/
theorem pay1_at (x : S1024x2048.Idx → EReal) (w : S2048x1024.Idx → EReal) (g : S1024x1024.Idx → EReal) (y : S1024x1024.Idx) :
    k0_pay1 (F := Ideal) x w g y = prod x w y * g y := by pointwise [k0_pay1, prod]
theorem pay2_at (x : S1024x2048.Idx → EReal) (w : S2048x1024.Idx → EReal) (g : S1024x1024.Idx → EReal) (y : S1024x1024.Idx) :
    k0_pay2 (F := Ideal) x w g y = prod x w y * g y := by pointwise [k0_pay2, prod]

/-- A block's entry. -/
theorem out_at (y : S1024x1024.Idx) : outsAt0 m c t.val t.isLt y
    = mix (XP m c) (XS m c) (W m c) (1024 * (t.val / 2) + y 0) (1024 * (t.val % 2) + y 1)
      * rd2 (G m c) (1024 * (t.val / 2) + y 0) (1024 * (t.val % 2) + y 1) := by
  have b0 : (y 0 : ℕ) < 1024 := (y 0).isLt
  by_cases h : t.val < 32
  · have e : outsAt0 m c t.val t.isLt y = k0_pay1 (F := Ideal) (iblk m c 0 t) (iblk m c 2 t) (iblk m c 3 t) y := by
      rw [outsAt0_A m c t h (by omega)]
      frame_out
    rw [e, pay1_at]
    have s : prod (iblk m c 0 t) (iblk m c 2 t) y
        = mix (XP m c) (XS m c) (W m c) (1024 * (t.val / 2) + y 0) (1024 * (t.val % 2) + y 1) := by
      refine Eq.trans ?_ (if_pos (by omega)).symm
      refine Finset.sum_congr rfl fun k _ => ?_
      rw [p_at m c t h, w_at]
      rfl
    exact congrArg₂ (· * ·) s (g_at m c t y)
  · have h' : 32 ≤ t.val := by omega
    have e : outsAt0 m c t.val t.isLt y = k0_pay2 (F := Ideal) (iblk m c 1 t) (iblk m c 2 t) (iblk m c 3 t) y := by
      rw [outsAt0_B m c t h h']
      frame_out
    rw [e, pay2_at]
    have s : prod (iblk m c 1 t) (iblk m c 2 t) y
        = mix (XP m c) (XS m c) (W m c) (1024 * (t.val / 2) + y 0) (1024 * (t.val % 2) + y 1) := by
      refine Eq.trans ?_ (if_neg (by omega)).symm
      refine Finset.sum_congr rfl fun k _ => ?_
      rw [s_at m c t h', w_at]
      rfl
    exact congrArg₂ (· * ·) s (g_at m c t y)

/-- The reference at an entry. -/
theorem ref_at (p : S16384x2048.Idx → EReal) (s : S1024x2048.Idx → EReal) (w : S2048x2048.Idx → EReal) (g : S17408x4096.Idx → EReal)
    (i : Fin 17408) (j : Fin 2048) :
    Cert.AOutRefIdeal.Read.val_main_v6 (F := Ideal) p s w g (ix2 i j) = mix p s w i j * rd2 g i (j) := by
  have d : mix p s w i j = ∑ k : Fin 2048, (if h : i.val < 16384 then p (ix2 ⟨i, h⟩ k) else s (ix2 ⟨i - 16384, by omega⟩ k)) * w (ix2 k j) := by
    unfold mix
    by_cases h : i.val < 16384
    · rw [if_pos h, mm_of p w h j.isLt]
      exact Finset.sum_congr rfl fun k _ => by rw [dif_pos h]
    · rw [if_neg h, mm_of s w (show i.val - 16384 < 1024 by omega) j.isLt]
      exact Finset.sum_congr rfl fun k _ => by rw [dif_neg h]
  rw [d, rd2_of g i.isLt (by omega), mul_comm]
  open Cert.AOutRefIdeal.Read in
  pointwise [val_main_v6, val_main_v5, val_main_v4, val_main_v3, val_main_v2, val_main_v1, val_main_v0]

/-- The call's result is the reference's. -/
theorem out_final : (dats m 0 c).arrAt 4 cfg0.N
    = Cert.AOutRefIdeal.Read.val_main_v6 (F := Ideal) (XP m c) (XS m c) (W m c) (G m c) := by
  refine (dats m 0 c).arrAt_eq_of_covers 4
    (Cert.AOutRefIdeal.Read.val_main_v6 (F := Ideal) (XP m c) (XS m c) (W m c) (G m c)) (by decide +kernel) fun t hf y => ?_
  blk_simp
  rw [after0_4]
  have ht := (idx t).2.2.2.2.2
  have hy0 : (y 0 : ℕ) < 1024 := (y 0).isLt
  have hy1 : (y 1 : ℕ) < 1024 := (y 1).isLt
  refine (out_at m c t y).trans ?_
  refine Eq.trans ?_ ((ref_at _ _ _ _ ⟨1024 * (t.val / 2) + y 0, by omega⟩ ⟨1024 * (t.val % 2) + y 1, by omega⟩).symm.trans
    (congrArg _ ?_))
  · rfl
  · blk_ext [idx t]

end Cert.AOutIdeal.Body
-- ==== Proof.ProjO.lean ====
/-
  The layer's output projection: its rows normed and added to the residual, then the sum normed for the feed-forward part; one
  block's entries, and the call's two results as the reference's.
-/
module

public import proofs.«01_k».proof.Proof.Entry
public import Idealize.ShloMosaic.Lib.Pipeline.ReadBack
public import proofs.«01_k».proof.Proof.Gen.OIdeal.Value
public import proofs.«01_k».proof.Proof.Gen.ORefIdeal.Read

@[expose] public section

set_option maxRecDepth 16384

noncomputable section

namespace Cert.OIdeal.Body

open Cert.OIdeal Cert.OIdeal.Gen Idealize.ShloMosaic Idealize.ShloMosaic.TcCoe Idealize.SL.Sem
open Idealize.ShloMosaic.Pipeline (Dat)
open Cert.Ssd

variable (m : (ℓ : Loc nD τ sig) → Buf (Elt Ideal) ℓ) (c : Dev nD)

/-- Where each window's block lies, and how many blocks there are. -/
theorem idx : ∀ t : Fin cfg0.N, win0_0.index t = ![t.val, 0] ∧ win0_1.index t = ![0, 0] ∧ win0_2.index t = ![0, 0]
    ∧ win0_3.index t = ![0, 0] ∧ win0_4.index t = ![min t.val 31, 0] ∧ win0_5.index t = ![t.val - 32, 0]
    ∧ win0_6.index t = ![t.val, 0] ∧ win0_7.index t = ![t.val, 0] ∧ t.val < 34 :=
  (by decide +kernel : ∀ t : Fin grid0.N, _)

/-- The arguments: the rows, the weight, the two norms' weights, the residual's rows of the prompt and of the sample. -/
def H : S17408x2048.Idx → EReal := m ((c : Thread nD τ).loc main_arg0)
def W : S2048x2048.Idx → EReal := m ((c : Thread nD τ).loc main_arg1)
def G1 : S2048.Idx → EReal := m ((c : Thread nD τ).loc main_arg2)
def G2 : S2048.Idx → EReal := m ((c : Thread nD τ).loc main_arg3)
def XP : S16384x2048.Idx → EReal := m ((c : Thread nD τ).loc main_arg4)
def XS : S1024x2048.Idx → EReal := m ((c : Thread nD τ).loc main_arg5)

/-- The residual's rows: the prompt's, then the sample's. -/
def res (p : S16384x2048.Idx → EReal) (s : S1024x2048.Idx → EReal) (i j : ℕ) : EReal :=
  if i < 16384 then rd2 p i j else rd2 s (i - 16384) j

/-- The first result: the projected row, normed, added to the residual. -/
def one (h : S17408x2048.Idx → EReal) (w : S2048x2048.Idx → EReal) (g : S2048.Idx → EReal) (p : S16384x2048.Idx → EReal)
    (s : S1024x2048.Idx → EReal) (i j : ℕ) : EReal := res p s i j + mm h w i j * rms (mm h w i) * rd1 g j

/-- The second: the first, normed. -/
def two (h : S17408x2048.Idx → EReal) (w : S2048x2048.Idx → EReal) (g g' : S2048.Idx → EReal) (p : S16384x2048.Idx → EReal)
    (s : S1024x2048.Idx → EReal) (i j : ℕ) : EReal := one h w g p s i j * rms (one h w g p s i) * rd1 g' j

variable (t : Fin cfg0.N)

/-- The block of rows. -/
theorem h_at (y : S512x2048.Idx) : iblk m c 0 t y = rd2 (H m c) (512 * t.val + y 0) (y 1) := by
  have ht := (idx t).2.2.2.2.2.2.2.2
  have b0 : (y 0 : ℕ) < 512 := (y 0).isLt
  have b1 : (y 1 : ℕ) < 2048 := (y 1).isLt
  refine Eq.trans ?_ (rd2_of (A := 17408) (B := 2048) _ (by omega) b1).symm
  unfold H
  blk_ext [iblk, V, idx t]

/-- The weight. -/
theorem w_at (y : S2048x2048.Idx) : iblk m c 1 t y = rd2 (W m c) (y 0) (y 1) := by
  have b0 : (y 0 : ℕ) < 2048 := (y 0).isLt
  have b1 : (y 1 : ℕ) < 2048 := (y 1).isLt
  refine Eq.trans ?_ (rd2_of (A := 2048) (B := 2048) _ b0 b1).symm
  unfold W iblk V
  simp only [List.flatten_cons, List.flatten_nil, List.append_nil, List.cons_append, List.nil_append]
  entry_read
  blk_ext [idx t]

/-- The two norms' weights, one row each. -/
theorem g1_at (y : S1x2048.Idx) : iblk m c 2 t y = rd1 (G1 m c) (y 1) := by
  have b0 : (y 0 : ℕ) < 1 := (y 0).isLt
  have b1 : (y 1 : ℕ) < 2048 := (y 1).isLt
  refine Eq.trans ?_ (rd1_of (A := 2048) _ b1).symm
  unfold G1 iblk V
  simp only [List.flatten_cons, List.flatten_nil, List.append_nil, List.cons_append, List.nil_append]
  entry_read
  refine (show _ = shapeCast S1x2048 (m (c, Proc.tc.devRef main_arg2)) shapeCasts_S2048_S1x2048 (ix2 0 ⟨y 1, b1⟩) from ?_).trans ?_
  · blk_ext [idx t]
  · exact ValueIdx.shapeCast_a_1a_apply _ _ _ _
theorem g2_at (y : S1x2048.Idx) : iblk m c 3 t y = rd1 (G2 m c) (y 1) := by
  have b0 : (y 0 : ℕ) < 1 := (y 0).isLt
  have b1 : (y 1 : ℕ) < 2048 := (y 1).isLt
  refine Eq.trans ?_ (rd1_of (A := 2048) _ b1).symm
  unfold G2 iblk V
  simp only [List.flatten_cons, List.flatten_nil, List.append_nil, List.cons_append, List.nil_append]
  entry_read
  refine (show _ = shapeCast S1x2048 (m (c, Proc.tc.devRef main_arg3)) shapeCasts_S2048_S1x2048 (ix2 0 ⟨y 1, b1⟩) from ?_).trans ?_
  · blk_ext [idx t]
  · exact ValueIdx.shapeCast_a_1a_apply _ _ _ _

/-- The residual's block of the prompt's rows, at its points, and of the sample's. -/
theorem p_at (h : t.val < 32) (y : S512x2048.Idx) : iblk m c 4 t y = res (XP m c) (XS m c) (512 * t.val + y 0) (y 1) := by
  have b0 : (y 0 : ℕ) < 512 := (y 0).isLt
  have b1 : (y 1 : ℕ) < 2048 := (y 1).isLt
  have e : min t.val 31 = t.val := by omega
  refine Eq.trans ?_ (if_pos (by omega)).symm
  refine Eq.trans ?_ (rd2_of (A := 16384) (B := 2048) _ (by omega) b1).symm
  unfold XP
  blk_ext [iblk, V, idx t, e]
theorem s_at (h : 32 ≤ t.val) (y : S512x2048.Idx) : iblk m c 5 t y = res (XP m c) (XS m c) (512 * t.val + y 0) (y 1) := by
  have ht := (idx t).2.2.2.2.2.2.2.2
  have b0 : (y 0 : ℕ) < 512 := (y 0).isLt
  have b1 : (y 1 : ℕ) < 2048 := (y 1).isLt
  refine Eq.trans ?_ (if_neg (by omega)).symm
  refine Eq.trans ?_ (rd2_of (A := 1024) (B := 2048) _ (by omega) b1).symm
  unfold XS
  blk_ext [iblk, V, idx t]

/-- The body's product at an entry, its columns by number. -/
def prod (x : S512x2048.Idx → EReal) (w : S2048x2048.Idx → EReal) (i : Fin 512) (j : ℕ) : EReal :=
  ∑ k : Fin 2048, x (ix2 i k) * rd2 w k j

/-- The body's first value at an entry, its columns by number. -/
def fst (x : S512x2048.Idx → EReal) (w : S2048x2048.Idx → EReal) (u : S512x2048.Idx → EReal) (g : S1x2048.Idx → EReal)
    (i : Fin 512) (j : ℕ) : EReal := rd2 u i j + prod x w i j * rms (prod x w i) * rd2 g 0 j

theorem prod_of (x : S512x2048.Idx → EReal) (w : S2048x2048.Idx → EReal) (i : Fin 512) (j : Fin 2048) :
    prod x w i j = ∑ k : Fin 2048, x (ix2 i k) * w (ix2 k j) :=
  Finset.sum_congr rfl fun k _ => congrArg _ (rd2_of w k.isLt j.isLt)

theorem fst_of (x : S512x2048.Idx → EReal) (w : S2048x2048.Idx → EReal) (u : S512x2048.Idx → EReal) (g : S1x2048.Idx → EReal)
    (i : Fin 512) (j : Fin 2048) :
    fst x w u g i j = u (ix2 i j) + (∑ k : Fin 2048, x (ix2 i k) * w (ix2 k j))
      * Ideal.rsqrt (Ideal.div (∑ j' : Fin 2048, (∑ k : Fin 2048, x (ix2 i k) * w (ix2 k j')) * ∑ k : Fin 2048, x (ix2 i k) * w (ix2 k j'))
          (Ideal.ofBits .f32 1157627904#32) + Ideal.ofBits .f32 897988541#32) * g (ix2 0 j) := by
  unfold fst rms
  simp only [prod_of]
  rw [rd2_of u i.isLt j.isLt, rd2_of g (show 0 < 1 by decide) j.isLt]
  rfl

/-- The body's values at an entry, for the prompt's rows and for the sample's. -/
theorem pay1_at (x : S512x2048.Idx → EReal) (w : S2048x2048.Idx → EReal) (u : S512x2048.Idx → EReal) (g : S1x2048.Idx → EReal)
    (y : S512x2048.Idx) : k0_pay1 (F := Ideal) x w u g y = fst x w u g (y 0) (y 1 : ℕ) := by
  rw [fst_of x w u g (y 0) (y 1)]
  pointwise [k0_pay1]
theorem pay3_at (x : S512x2048.Idx → EReal) (w : S2048x2048.Idx → EReal) (u : S512x2048.Idx → EReal) (g : S1x2048.Idx → EReal)
    (y : S512x2048.Idx) : k0_pay3 (F := Ideal) x w u g y = fst x w u g (y 0) (y 1 : ℕ) := by
  rw [fst_of x w u g (y 0) (y 1)]
  pointwise [k0_pay3]
theorem pay2_at (x : S512x2048.Idx → EReal) (w : S2048x2048.Idx → EReal) (u : S512x2048.Idx → EReal) (g g' : S1x2048.Idx → EReal)
    (y : S512x2048.Idx) :
    k0_pay2 (F := Ideal) x w u g g' y = fst x w u g (y 0) (y 1 : ℕ) * rms (fst x w u g (y 0)) * g' (ix2 0 (y 1)) := by
  unfold rms
  pointwise [k0_pay2]
  simp only [pay1_at]
  rfl
theorem pay4_at (x : S512x2048.Idx → EReal) (w : S2048x2048.Idx → EReal) (u : S512x2048.Idx → EReal) (g g' : S1x2048.Idx → EReal)
    (y : S512x2048.Idx) :
    k0_pay4 (F := Ideal) x w u g g' y = fst x w u g (y 0) (y 1 : ℕ) * rms (fst x w u g (y 0)) * g' (ix2 0 (y 1)) := by
  unfold rms
  pointwise [k0_pay4]
  simp only [pay3_at]
  rfl

/-- The body's first value over blocks that read the arguments. -/
theorem fst_one (u : S512x2048.Idx → EReal) (hu : ∀ y : S512x2048.Idx, u y = res (XP m c) (XS m c) (512 * t.val + y 0) (y 1))
    (i : Fin 512) (j : Fin 2048) : fst (iblk m c 0 t) (iblk m c 1 t) u (iblk m c 2 t) i j
      = one (H m c) (W m c) (G1 m c) (XP m c) (XS m c) (512 * t.val + i) j := by
  have s : ∀ j : Fin 2048, prod (iblk m c 0 t) (iblk m c 1 t) i j = mm (H m c) (W m c) (512 * t.val + i) j := by
    intro j
    rw [prod_of]
    refine Finset.sum_congr rfl fun k _ => ?_
    rw [h_at, w_at]
    rfl
  unfold fst one rms
  simp only [s]
  rw [rd2_of u i.isLt j.isLt, hu, rd2_of _ (show 0 < 1 by decide) j.isLt, g1_at]
  rfl

/-- A block's entries. -/
theorem out6_at (y : S512x2048.Idx) : (outsAt0 m c t.val t.isLt).1 y
    = one (H m c) (W m c) (G1 m c) (XP m c) (XS m c) (512 * t.val + y 0) (y 1) := by
  by_cases h : t.val < 32
  · have e : (outsAt0 m c t.val t.isLt).1 y = k0_pay1 (F := Ideal) (iblk m c 0 t) (iblk m c 1 t) (iblk m c 4 t) (iblk m c 2 t) y := by
      rw [outsAt0_A m c t h (by omega)]
      frame_out
    rw [e, pay1_at]
    exact fst_one m c t _ (p_at m c t h) (y 0) (y 1)
  · have h' : 32 ≤ t.val := by omega
    have e : (outsAt0 m c t.val t.isLt).1 y = k0_pay3 (F := Ideal) (iblk m c 0 t) (iblk m c 1 t) (iblk m c 5 t) (iblk m c 2 t) y := by
      rw [outsAt0_B m c t h h']
      frame_out
    rw [e, pay3_at]
    exact fst_one m c t _ (s_at m c t h') (y 0) (y 1)

theorem two_of (u : S512x2048.Idx → EReal) (hu : ∀ y : S512x2048.Idx, u y = res (XP m c) (XS m c) (512 * t.val + y 0) (y 1))
    (i : Fin 512) (j : Fin 2048) : fst (iblk m c 0 t) (iblk m c 1 t) u (iblk m c 2 t) i j
      * rms (fst (iblk m c 0 t) (iblk m c 1 t) u (iblk m c 2 t) i) * rd1 (G2 m c) j
      = two (H m c) (W m c) (G1 m c) (G2 m c) (XP m c) (XS m c) (512 * t.val + i) j := by
  unfold two rms
  simp only [fst_one m c t u hu]

theorem out7_at (y : S512x2048.Idx) : (outsAt0 m c t.val t.isLt).2 y
    = two (H m c) (W m c) (G1 m c) (G2 m c) (XP m c) (XS m c) (512 * t.val + y 0) (y 1) := by
  by_cases h : t.val < 32
  · have e : (outsAt0 m c t.val t.isLt).2 y
        = k0_pay2 (F := Ideal) (iblk m c 0 t) (iblk m c 1 t) (iblk m c 4 t) (iblk m c 2 t) (iblk m c 3 t) y := by
      rw [outsAt0_A m c t h (by omega)]
      frame_out
    rw [e, pay2_at, g2_at]
    exact two_of m c t _ (p_at m c t h) (y 0) (y 1)
  · have h' : 32 ≤ t.val := by omega
    have e : (outsAt0 m c t.val t.isLt).2 y
        = k0_pay4 (F := Ideal) (iblk m c 0 t) (iblk m c 1 t) (iblk m c 5 t) (iblk m c 2 t) (iblk m c 3 t) y := by
      rw [outsAt0_B m c t h h']
      frame_out
    rw [e, pay4_at, g2_at]
    exact two_of m c t _ (s_at m c t h') (y 0) (y 1)

/-- The residual's rows are the reference's two arrays, one after the other. -/
theorem res_of (p : S16384x2048.Idx → EReal) (s : S1024x2048.Idx → EReal) (i : Fin 17408) (j : Fin 2048) :
    res p s i j = if h : i.val < 16384 then p (ix2 ⟨i, h⟩ j) else s (ix2 ⟨i - 16384, by omega⟩ j) := by
  unfold res
  by_cases h : i.val < 16384
  · rw [if_pos h, dif_pos h, rd2_of p h j.isLt]
  · rw [if_neg h, dif_neg h, rd2_of s (show i.val - 16384 < 1024 by omega) j.isLt]

/-- The reference's results at an entry. -/
theorem ref16_at (h : S17408x2048.Idx → EReal) (w : S2048x2048.Idx → EReal) (g : S2048.Idx → EReal) (p : S16384x2048.Idx → EReal)
    (s : S1024x2048.Idx → EReal) (i : Fin 17408) (j : Fin 2048) :
    Cert.ORefIdeal.Read.val_main_v16 (F := Ideal) h w g p s (ix2 i j) = one h w g p s i j := by
  have d : ∀ j : Fin 2048, mm h w i j = ∑ k : Fin 2048, h (ix2 i k) * w (ix2 k j) := fun j => mm_of h w i.isLt j.isLt
  unfold one rms
  simp only [d]
  rw [res_of, rd1_of g j.isLt]
  open Cert.ORefIdeal.Read in
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem ref30_at (h : S17408x2048.Idx → EReal) (w : S2048x2048.Idx → EReal) (g g' : S2048.Idx → EReal) (p : S16384x2048.Idx → EReal)
    (s : S1024x2048.Idx → EReal) (i : Fin 17408) (j : Fin 2048) :
    Cert.ORefIdeal.Read.val_main_v30 (F := Ideal) h w g g' p s (ix2 i j) = two h w g g' p s i j := by
  unfold two rms
  simp only [← ref16_at]
  rw [rd1_of g' j.isLt]
  open Cert.ORefIdeal.Read in
  pointwise [val_main_v30, val_main_v29, val_main_v28, val_main_v27, val_main_v26, val_main_v25, val_main_v24, val_main_v23, val_main_v22, val_main_v21, val_main_v20, val_main_v19, val_main_v18, val_main_v17, val_main_cst_2, val_main_cst_3, val_main_cst_4]

/-- The call's results are the reference's. -/
theorem out6_final : (dats m 0 c).arrAt 6 cfg0.N
    = Cert.ORefIdeal.Read.val_main_v16 (F := Ideal) (H m c) (W m c) (G1 m c) (XP m c) (XS m c) := by
  refine (dats m 0 c).arrAt_eq_of_covers 6
    (Cert.ORefIdeal.Read.val_main_v16 (F := Ideal) (H m c) (W m c) (G1 m c) (XP m c) (XS m c)) (by decide +kernel) fun t hf y => ?_
  blk_simp
  rw [after0_6]
  have ht := (idx t).2.2.2.2.2.2.2.2
  have hy0 : (y 0 : ℕ) < 512 := (y 0).isLt
  refine (out6_at m c t y).trans ?_
  refine (ref16_at _ _ _ _ _ ⟨512 * t.val + y 0, by omega⟩ (y 1)).symm.trans (congrArg _ ?_)
  blk_ext [idx t]

theorem out7_final : (dats m 0 c).arrAt 7 cfg0.N
    = Cert.ORefIdeal.Read.val_main_v30 (F := Ideal) (H m c) (W m c) (G1 m c) (G2 m c) (XP m c) (XS m c) := by
  refine (dats m 0 c).arrAt_eq_of_covers 7
    (Cert.ORefIdeal.Read.val_main_v30 (F := Ideal) (H m c) (W m c) (G1 m c) (G2 m c) (XP m c) (XS m c)) (by decide +kernel)
    fun t hf y => ?_
  blk_simp
  rw [after0_7]
  have ht := (idx t).2.2.2.2.2.2.2.2
  have hy0 : (y 0 : ℕ) < 512 := (y 0).isLt
  refine (out7_at m c t y).trans ?_
  refine (ref30_at _ _ _ _ _ _ ⟨512 * t.val + y 0, by omega⟩ (y 1)).symm.trans (congrArg _ ?_)
  blk_ext [idx t]

end Cert.OIdeal.Body
-- ==== Proof.Pairs.lean ====
/-
  The matrix products' calls, each against its own reference: equal results, and the references' own frames.
-/
module

public import proofs.«01_k».proof.Defs
public import Idealize.ShloMosaic.Adequacy
public import Idealize.ShloMosaic.Init
public import Idealize.ShloMosaic.Lib.Claim
public import proofs.«01_k».proof.Proof.Gen.GluRefIdeal.Run
public import proofs.«01_k».proof.Proof.TailGlu
public import proofs.«01_k».proof.Proof.Gen.XbcRefIdeal.Run
public import proofs.«01_k».proof.Proof.TailXbc
public import proofs.«01_k».proof.Proof.Gen.ZRefIdeal.Run
public import proofs.«01_k».proof.Proof.ProjZ
public import proofs.«01_k».proof.Proof.Gen.GatesRefIdeal.Run
public import proofs.«01_k».proof.Proof.ProjGates
public import proofs.«01_k».proof.Proof.Gen.BOutRefIdeal.Run
public import proofs.«01_k».proof.Proof.ProjBOut
public import proofs.«01_k».proof.Proof.Gen.AOutRefIdeal.Run
public import proofs.«01_k».proof.Proof.ProjAOut
public import proofs.«01_k».proof.Proof.Gen.ORefIdeal.Run
public import proofs.«01_k».proof.Proof.ProjO

@[expose] public section

noncomputable section

namespace Cert.Proof

open Idealize.ShloMosaic Idealize.SL.Sem

set_option maxHeartbeats 1600000 in
/-- Glu: the kernel and the reference end with equal results. -/
theorem algebraic_Glu : Cert.algebraic_GluIdeal_GluRefIdeal := by
  pair_intro
  · run_from Cert.GluIdeal.Body.run_tails m g
  · have hsame := hagree
    clear hagree
    run_from Cert.GluRefIdeal.Value.run m' g'
    · obtain ⟨a0, a1⟩ := hsame c
      refine (Cert.GluRefIdeal.Read.val_main_v12_eq _ _).trans ?_
      rw [a0, a1]
      rfl
    · obtain ⟨a0, a1⟩ := hsame c
      refine (Cert.GluRefIdeal.Read.val_main_v14_eq _ _).trans ?_
      rw [a0, a1]
      rfl
    · obtain ⟨a0, a1⟩ := hsame c
      refine (Cert.GluRefIdeal.Read.val_main_v17_eq _ _).trans ?_
      rw [a0, a1]
      rfl

/-- Glu: the reference keeps its arguments and ends with every counter at zero. -/
theorem frame_Glu : Cert.quiescent_GluRefIdeal := by
  intro m g _
  refine (θ_run Cert.GluRefIdeal.defs _ _).mono (fun r h => ⟨fun c => (h c).2.2.2, ?_⟩) (Cert.GluRefIdeal.Value.run m g)
  exact sem_eq_zero_of_no_sems rfl _

set_option maxHeartbeats 1600000 in
/-- Xbc: the kernel and the reference end with equal results. -/
theorem algebraic_Xbc : Cert.algebraic_XbcIdeal_XbcRefIdeal := by
  pair_intro
  · run_from Cert.XbcIdeal.Body.run_tails m g
  · have hsame := hagree
    clear hagree
    run_from Cert.XbcRefIdeal.Value.run m' g'
    · obtain ⟨a0, a1⟩ := hsame c
      refine (Cert.XbcRefIdeal.Read.val_main_v3_eq _ _).trans ?_
      rw [a0, a1]
      rfl
    · obtain ⟨a0, a1⟩ := hsame c
      refine (Cert.XbcRefIdeal.Read.val_main_v5_eq _ _).trans ?_
      rw [a0, a1]
      rfl
    · obtain ⟨a0, a1⟩ := hsame c
      refine (Cert.XbcRefIdeal.Read.val_main_v8_eq _ _).trans ?_
      rw [a0, a1]
      rfl

/-- Xbc: the reference keeps its arguments and ends with every counter at zero. -/
theorem frame_Xbc : Cert.quiescent_XbcRefIdeal := by
  intro m g _
  refine (θ_run Cert.XbcRefIdeal.defs _ _).mono (fun r h => ⟨fun c => (h c).2.2.2, ?_⟩) (Cert.XbcRefIdeal.Value.run m g)
  exact sem_eq_zero_of_no_sems rfl _

set_option maxHeartbeats 1600000 in
/-- Z: the kernel and the reference end with equal results. -/
theorem algebraic_Z : Cert.algebraic_ZIdeal_ZRefIdeal := by
  pair_intro
  · run_from Cert.ZIdeal.Value.run_blocks m g
  · have hsame := hagree
    clear hagree
    run_from Cert.ZRefIdeal.Value.run m' g'
    · obtain ⟨a0, a1⟩ := hsame c
      refine (Cert.ZRefIdeal.Read.val_main_v4_eq _ _).trans ?_
      rw [a0, a1]
      exact (Cert.ZIdeal.Body.out_final m c).symm

/-- Z: the reference keeps its arguments and ends with every counter at zero. -/
theorem frame_Z : Cert.quiescent_ZRefIdeal := by
  intro m g _
  refine (θ_run Cert.ZRefIdeal.defs _ _).mono (fun r h => ⟨fun c => (h c).2, ?_⟩) (Cert.ZRefIdeal.Value.run m g)
  exact sem_eq_zero_of_no_sems rfl _

set_option maxHeartbeats 1600000 in
/-- Gates: the kernel and the reference end with equal results. -/
theorem algebraic_Gates : Cert.algebraic_GatesIdeal_GatesRefIdeal := by
  pair_intro
  · run_from Cert.GatesIdeal.Value.run_blocks m g
  · have hsame := hagree
    clear hagree
    run_from Cert.GatesRefIdeal.Value.run m' g'
    · obtain ⟨a0, a1, a2⟩ := hsame c
      refine (Cert.GatesRefIdeal.Read.val_main_v12_eq _ _ _).trans ?_
      rw [a0, a1, a2]
      exact (Cert.GatesIdeal.Body.out_final m c).symm

/-- Gates: the reference keeps its arguments and ends with every counter at zero. -/
theorem frame_Gates : Cert.quiescent_GatesRefIdeal := by
  intro m g _
  refine (θ_run Cert.GatesRefIdeal.defs _ _).mono (fun r h => ⟨fun c => (h c).2, ?_⟩) (Cert.GatesRefIdeal.Value.run m g)
  exact sem_eq_zero_of_no_sems rfl _

set_option maxHeartbeats 1600000 in
/-- BOut: the kernel and the reference end with equal results. -/
theorem algebraic_BOut : Cert.algebraic_BOutIdeal_BOutRefIdeal := by
  pair_intro
  · run_from Cert.BOutIdeal.Value.run_blocks m g
  · have hsame := hagree
    clear hagree
    run_from Cert.BOutRefIdeal.Value.run m' g'
    · obtain ⟨a0, a1, a2, a3, a4⟩ := hsame c
      refine (Cert.BOutRefIdeal.Read.val_main_v8_eq _ _ _ _ _).trans ?_
      rw [a0, a1, a2, a3, a4]
      exact (Cert.BOutIdeal.Body.out_final m c).symm

/-- BOut: the reference keeps its arguments and ends with every counter at zero. -/
theorem frame_BOut : Cert.quiescent_BOutRefIdeal := by
  intro m g _
  refine (θ_run Cert.BOutRefIdeal.defs _ _).mono (fun r h => ⟨fun c => (h c).2, ?_⟩) (Cert.BOutRefIdeal.Value.run m g)
  exact sem_eq_zero_of_no_sems rfl _

set_option maxHeartbeats 1600000 in
/-- AOut: the kernel and the reference end with equal results. -/
theorem algebraic_AOut : Cert.algebraic_AOutIdeal_AOutRefIdeal := by
  pair_intro
  · run_from Cert.AOutIdeal.Value.run_blocks m g
  · have hsame := hagree
    clear hagree
    run_from Cert.AOutRefIdeal.Value.run m' g'
    · obtain ⟨a0, a1, a2, a3⟩ := hsame c
      refine (Cert.AOutRefIdeal.Read.val_main_v6_eq _ _ _ _).trans ?_
      rw [a0, a1, a2, a3]
      exact (Cert.AOutIdeal.Body.out_final m c).symm

/-- AOut: the reference keeps its arguments and ends with every counter at zero. -/
theorem frame_AOut : Cert.quiescent_AOutRefIdeal := by
  intro m g _
  refine (θ_run Cert.AOutRefIdeal.defs _ _).mono (fun r h => ⟨fun c => (h c).2, ?_⟩) (Cert.AOutRefIdeal.Value.run m g)
  exact sem_eq_zero_of_no_sems rfl _

set_option maxHeartbeats 1600000 in
/-- O: the kernel and the reference end with equal results. -/
theorem algebraic_O : Cert.algebraic_OIdeal_ORefIdeal := by
  pair_intro
  · run_from Cert.OIdeal.Value.run_blocks m g
  · have hsame := hagree
    clear hagree
    run_from Cert.ORefIdeal.Value.run m' g'
    · obtain ⟨a0, a1, a2, a3, a4, a5⟩ := hsame c
      refine (Cert.ORefIdeal.Read.val_main_v16_eq _ _ _ _ _).trans ?_
      rw [a0, a1, a2, a4, a5]
      exact (Cert.OIdeal.Body.out6_final m c).symm
    · obtain ⟨a0, a1, a2, a3, a4, a5⟩ := hsame c
      refine (Cert.ORefIdeal.Read.val_main_v30_eq m' c).trans ?_
      rw [a0, a1, a2, a3, a4, a5]
      exact (Cert.OIdeal.Body.out7_final m c).symm

/-- O: the reference keeps its arguments and ends with every counter at zero. -/
theorem frame_O : Cert.quiescent_ORefIdeal := by
  intro m g _
  refine (θ_run Cert.ORefIdeal.defs _ _).mono (fun r h => ⟨fun c => (h c).2.2, ?_⟩) (Cert.ORefIdeal.Value.run m g)
  exact sem_eq_zero_of_no_sems rfl _

end Cert.Proof
-- ==== Proof.lean ====
/-
  The proof of `Cert.Claim`: the state-space call's claims, and those of the seven matrix products (Proof/Pairs.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_dt_nonneg
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Glu.Frame
public import proofs.«01_k».proof.Proof.Gen.GluIdeal.Frame
public import proofs.«01_k».proof.Proof.Gen.GluRefIdeal.Run
public import proofs.«01_k».proof.Proof.Gen.GluRefIdeal.Read
public import proofs.«01_k».proof.Proof.Gen.Xbc.Frame
public import proofs.«01_k».proof.Proof.Gen.XbcIdeal.Frame
public import proofs.«01_k».proof.Proof.Gen.XbcRefIdeal.Run
public import proofs.«01_k».proof.Proof.Gen.XbcRefIdeal.Read
public import proofs.«01_k».proof.Proof.Gen.Z.Frame
public import proofs.«01_k».proof.Proof.Gen.ZIdeal.Value
public import proofs.«01_k».proof.Proof.Gen.ZRefIdeal.Run
public import proofs.«01_k».proof.Proof.Gen.ZRefIdeal.Read
public import proofs.«01_k».proof.Proof.Gen.Gates.Frame
public import proofs.«01_k».proof.Proof.Gen.GatesIdeal.Value
public import proofs.«01_k».proof.Proof.Gen.GatesRefIdeal.Run
public import proofs.«01_k».proof.Proof.Gen.GatesRefIdeal.Read
public import proofs.«01_k».proof.Proof.Gen.BOut.Frame
public import proofs.«01_k».proof.Proof.Gen.BOutIdeal.Value
public import proofs.«01_k».proof.Proof.Gen.BOutRefIdeal.Run
public import proofs.«01_k».proof.Proof.Gen.BOutRefIdeal.Read
public import proofs.«01_k».proof.Proof.Gen.AOut.Frame
public import proofs.«01_k».proof.Proof.Gen.AOutIdeal.Value
public import proofs.«01_k».proof.Proof.Gen.AOutRefIdeal.Run
public import proofs.«01_k».proof.Proof.Gen.AOutRefIdeal.Read
public import proofs.«01_k».proof.Proof.Gen.O.Frame
public import proofs.«01_k».proof.Proof.Gen.OIdeal.Value
public import proofs.«01_k».proof.Proof.Gen.ORefIdeal.Run
public import proofs.«01_k».proof.Proof.Gen.ORefIdeal.Read
public import proofs.«01_k».proof.Proof.Equal
public import proofs.«01_k».proof.Proof.Pairs
public import Idealize.ShloMosaic.Lib.Claim

@[expose] public section

noncomputable section

namespace Cert.Proof

open Idealize.ShloMosaic Idealize.SL.Sem Cert.Kernel

set_option maxHeartbeats 1600000 in
/-- The idealized kernel and the reference end with equal results where no step length is negative. -/
theorem algebraic : Cert.algebraic_KernelIdeal_ReferenceIdeal_pre_dt_nonneg := by
  pair_intro
  · run_from Cert.KernelIdeal.Value.run_blocks m g
  · have hsame := hagree
    clear hagree
    run_from Cert.ReferenceIdeal.Value.run m' g'
    · obtain ⟨a0, a1, a2, a3, a4, a5, a6, a7, a8, a9⟩ := hsame c
      refine (Cert.ReferenceIdeal.Read.val_main_v121_eq (StableHlo.launchContents m' c)).trans ?_
      have e := StableHlo.launchContents_devRef m' c
      simp only [e, a0, a1, a2, a3, a4, a5, a6, a7, a8, a9]
      exact (Cert.Ssd.outs_eq (Cert.Ssd.nonNeg hpre c)).trans (Cert.KernelIdeal.Body.out_final m c).symm
    · obtain ⟨a0, a1, a2, a3, a4, a5, a6, a7, a8, a9⟩ := hsame c
      refine (Cert.ReferenceIdeal.Read.val_main_v123_eq (StableHlo.launchContents m' c)).trans ?_
      have e := StableHlo.launchContents_devRef m' c
      simp only [e, a0, a2, a3, a4, a5, a6, a7]
      exact (Cert.Ssd.states_eq (Cert.Ssd.nonNeg hpre c)).trans (Cert.KernelIdeal.Body.st_final m c).symm

set_option maxHeartbeats 1600000 in
/-- The reference keeps its arguments and ends with every counter at zero. -/
theorem reference_frame : Cert.quiescent_ReferenceIdeal := by
  intro m g _
  refine (θ_run Cert.ReferenceIdeal.defs _ _).mono (fun r h => ⟨fun c => (h c).2.2, ?_⟩) (Cert.ReferenceIdeal.Value.run m g)
  exact sem_eq_zero_of_no_sems rfl _

/-- Every claim of the certificate. -/
theorem claim : Cert.Claim :=
  ⟨Cert.Kernel.Gen.facts, Cert.KernelIdeal.Gen.facts, Cert.ReferenceIdeal.Gen.facts,
    Cert.Glu.Gen.facts, Cert.GluIdeal.Gen.facts, Cert.GluRefIdeal.Gen.facts,
    Cert.Xbc.Gen.facts, Cert.XbcIdeal.Gen.facts, Cert.XbcRefIdeal.Gen.facts,
    Cert.Z.Gen.facts, Cert.ZIdeal.Gen.facts, Cert.ZRefIdeal.Gen.facts,
    Cert.Gates.Gen.facts, Cert.GatesIdeal.Gen.facts, Cert.GatesRefIdeal.Gen.facts,
    Cert.BOut.Gen.facts, Cert.BOutIdeal.Gen.facts, Cert.BOutRefIdeal.Gen.facts,
    Cert.AOut.Gen.facts, Cert.AOutIdeal.Gen.facts, Cert.AOutRefIdeal.Gen.facts,
    Cert.O.Gen.facts, Cert.OIdeal.Gen.facts, Cert.ORefIdeal.Gen.facts,
    Cert.Pre_dt_nonneg.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    fun m g _ => Cert.Glu.Gen.frame m g, fun m g _ => Cert.GluIdeal.Gen.frame m g, frame_Glu,
    fun m g _ => Cert.Xbc.Gen.frame m g, fun m g _ => Cert.XbcIdeal.Gen.frame m g, frame_Xbc,
    fun m g _ => Cert.Z.Gen.frame m g, fun m g _ => Cert.ZIdeal.Gen.frame m g, frame_Z,
    fun m g _ => Cert.Gates.Gen.frame m g, fun m g _ => Cert.GatesIdeal.Gen.frame m g, frame_Gates,
    fun m g _ => Cert.BOut.Gen.frame m g, fun m g _ => Cert.BOutIdeal.Gen.frame m g, frame_BOut,
    fun m g _ => Cert.AOut.Gen.frame m g, fun m g _ => Cert.AOutIdeal.Gen.frame m g, frame_AOut,
    fun m g _ => Cert.O.Gen.frame m g, fun m g _ => Cert.OIdeal.Gen.frame m g, frame_O,
    ⟨IdealRules.named_const.statement Cert.KernelIdeal.κ "log2e" .f32 0x3FB8AA3B#32 (((Real.log 2)⁻¹ : ℝ) : EReal) rfl,
      IdealRules.named_const.statement Cert.KernelIdeal.κ "mask" .f32 0xF149F2CA#32 ⊥ rfl⟩,
    algebraic,
    trivial, algebraic_Glu,
    trivial, algebraic_Xbc,
    trivial, algebraic_Z,
    trivial, algebraic_Gates,
    trivial, algebraic_BOut,
    trivial, algebraic_AOut,
    trivial, algebraic_O⟩

end Cert.Proof

end
